-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v203)) (v1 : (c : Dev Cert.KernelIdeal.nD) → Buf (Elt Ideal) ((c.tc : Thread Cert.KernelIdeal.nD Cert.KernelIdeal.τ).loc Cert.KernelIdeal.main_v189)) (v2 : (c : Dev Cert.KernelIdeal.nD) → Buf (Elt Ideal) ((c.tc : Thread Cert.KernelIdeal.nD Cert.KernelIdeal.τ).loc Cert.KernelIdeal.main_v191)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v203) = v0 c
          ∧ r.2.mem ((c.tc : Thread Cert.KernelIdeal.nD Cert.KernelIdeal.τ).loc Cert.KernelIdeal.main_v189) = v1 c
          ∧ r.2.mem ((c.tc : Thread Cert.KernelIdeal.nD Cert.KernelIdeal.τ).loc Cert.KernelIdeal.main_v191) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v188) = v0 c
          ∧ r.2.mem ((c.tc : Thread Cert.ReferenceIdeal.nD Cert.ReferenceIdeal.τ).loc Cert.ReferenceIdeal.main_v189) = v1 c
          ∧ r.2.mem ((c.tc : Thread Cert.ReferenceIdeal.nD Cert.ReferenceIdeal.τ).loc Cert.ReferenceIdeal.main_v102) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x3x224x224 : Shape := ⟨4, ![4, 3, 224, 224]⟩
abbrev S64x3x3x3 : Shape := ⟨4, ![64, 3, 3, 3]⟩
abbrev S64 : Shape := ⟨1, ![64]⟩
abbrev S1024x64 : Shape := ⟨2, ![1024, 64]⟩
abbrev S3x64x3x3 : Shape := ⟨4, ![3, 64, 3, 3]⟩
abbrev S3 : Shape := ⟨1, ![3]⟩
abbrev S_ : Shape := ⟨0, ![]⟩

class Facts : Prop where
  bcast_S_S4x3x224x224 : S_.BroadcastsInDim S4x3x224x224 (![] : Fin 0 → Fin S4x3x224x224.rank)
  bcast_S_S64x3x3x3 : S_.BroadcastsInDim S64x3x3x3 (![] : Fin 0 → Fin S64x3x3x3.rank)
  bcast_S_S64 : S_.BroadcastsInDim S64 (![] : Fin 0 → Fin S64.rank)
  bcast_S_S1024x64 : S_.BroadcastsInDim S1024x64 (![] : Fin 0 → Fin S1024x64.rank)
  bcast_S_S3x64x3x3 : S_.BroadcastsInDim S3x64x3x3 (![] : Fin 0 → Fin S3x64x3x3.rank)
  bcast_S_S3 : S_.BroadcastsInDim S3 (![] : Fin 0 → Fin S3.rank)

variable [Facts]

def fn_part1 {F : FTy → Type} [FloatOps F] (main_arg6 : FVec F S3x64x3x3 .f32) (main_arg7 : FVec F S3 .f32) (main_arg8 : FVec F S3 .f32) (main_arg9 : FVec F S3 .f32) (main_v2 : IVec S4x3x224x224 1) (main_v5 : IVec S64x3x3x3 1) (main_v8 : IVec S64 1) (main_v11 : IVec S64 1) (main_v14 : IVec S64 1) (main_v17 : IVec S1024x64 1) : IVec S4x3x224x224 1 × IVec S64x3x3x3 1 × IVec S64 1 × IVec S64 1 × IVec S64 1 × IVec S1024x64 1 × IVec S3x64x3x3 1 × IVec S3 1 × IVec S3 1 × IVec S3 1 :=
  let main_v18 : FVec F S3x64x3x3 .f32 := Host.absf main_arg6
  let main_cst_5 : FVec F S_ .f32 := constant S_ .f32 0x7F800000#32
  let main_v19 : FVec F S3x64x3x3 .f32 := broadcastInDim S3x64x3x3 ![] bcast_S_S3x64x3x3 main_cst_5
  let main_v20 : IVec S3x64x3x3 1 := cmpf .olt main_v18 main_v19
  let main_v21 : FVec F S3 .f32 := Host.absf main_arg7
  let main_cst_6 : FVec F S_ .f32 := constant S_ .f32 0x7F800000#32
  let main_v22 : FVec F S3 .f32 := broadcastInDim S3 ![] bcast_S_S3 main_cst_6
  let main_v23 : IVec S3 1 := cmpf .olt main_v21 main_v22
  let main_v24 : FVec F S3 .f32 := Host.absf main_arg8
  let main_cst_7 : FVec F S_ .f32 := constant S_ .f32 0x7F800000#32
  let main_v25 : FVec F S3 .f32 := broadcastInDim S3 ![] bcast_S_S3 main_cst_7
  let main_v26 : IVec S3 1 := cmpf .olt main_v24 main_v25
  let main_v27 : FVec F S3 .f32 := Host.absf main_arg9
  let main_cst_8 : FVec F S_ .f32 := constant S_ .f32 0x7F800000#32
  let main_v28 : FVec F S3 .f32 := broadcastInDim S3 ![] bcast_S_S3 main_cst_8
  let main_v29 : IVec S3 1 := cmpf .olt main_v27 main_v28
  (main_v2, main_v5, main_v8, main_v11, main_v14, main_v17, main_v20, main_v23, main_v26, main_v29)

def fn {F : FTy → Type} [FloatOps F] (main_arg0 : FVec F S4x3x224x224 .f32) (main_arg1 : FVec F S64x3x3x3 .f32) (main_arg2 : FVec F S64 .f32) (main_arg3 : FVec F S64 .f32) (main_arg4 : FVec F S64 .f32) (main_arg5 : FVec F S1024x64 .f32) (main_arg6 : FVec F S3x64x3x3 .f32) (main_arg7 : FVec F S3 .f32) (main_arg8 : FVec F S3 .f32) (main_arg9 : FVec F S3 .f32) : IVec S4x3x224x224 1 × IVec S64x3x3x3 1 × IVec S64 1 × IVec S64 1 × IVec S64 1 × IVec S1024x64 1 × IVec S3x64x3x3 1 × IVec S3 1 × IVec S3 1 × IVec S3 1 :=
  let main_v0 : FVec F S4x3x224x224 .f32 := Host.absf main_arg0
  let main_cst : FVec F S_ .f32 := constant S_ .f32 0x7F800000#32
  let main_v1 : FVec F S4x3x224x224 .f32 := broadcastInDim S4x3x224x224 ![] bcast_S_S4x3x224x224 main_cst
  let main_v2 : IVec S4x3x224x224 1 := cmpf .olt main_v0 main_v1
  let main_v3 : FVec F S64x3x3x3 .f32 := Host.absf main_arg1
  let main_cst_0 : FVec F S_ .f32 := constant S_ .f32 0x7F800000#32
  let main_v4 : FVec F S64x3x3x3 .f32 := broadcastInDim S64x3x3x3 ![] bcast_S_S64x3x3x3 main_cst_0
  let main_v5 : IVec S64x3x3x3 1 := cmpf .olt main_v3 main_v4
  let main_v6 : FVec F S64 .f32 := Host.absf main_arg2
  let main_cst_1 : FVec F S_ .f32 := constant S_ .f32 0x7F800000#32
  let main_v7 : FVec F S64 .f32 := broadcastInDim S64 ![] bcast_S_S64 main_cst_1
  let main_v8 : IVec S64 1 := cmpf .olt main_v6 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_v12 : FVec F S64 .f32 := Host.absf main_arg4
  let main_cst_3 : FVec F S_ .f32 := constant S_ .f32 0x7F800000#32
  let main_v13 : FVec F S64 .f32 := broadcastInDim S64 ![] bcast_S_S64 main_cst_3
  let main_v14 : IVec S64 1 := cmpf .olt main_v12 main_v13
  let main_v15 : FVec F S1024x64 .f32 := Host.absf main_arg5
  let main_cst_4 : FVec F S_ .f32 := constant S_ .f32 0x7F800000#32
  let main_v16 : FVec F S1024x64 .f32 := broadcastInDim S1024x64 ![] bcast_S_S1024x64 main_cst_4
  let main_v17 : IVec S1024x64 1 := cmpf .olt main_v15 main_v16
  fn_part1 (F := F) main_arg6 main_arg7 main_arg8 main_arg9 main_v2 main_v5 main_v8 main_v11 main_v14 main_v17
-- ==== Kernel.lean ====
abbrev S4x3x224x224 : Shape := ⟨4, ![4, 3, 224, 224]⟩
abbrev S64x3x3x3 : Shape := ⟨4, ![64, 3, 3, 3]⟩
abbrev S64 : Shape := ⟨1, ![64]⟩
abbrev S1024x64 : Shape := ⟨2, ![1024, 64]⟩
abbrev S3x64x3x3 : Shape := ⟨4, ![3, 64, 3, 3]⟩
abbrev S3 : Shape := ⟨1, ![3]⟩
abbrev S4x224x224x3 : Shape := ⟨4, ![4, 224, 224, 3]⟩
abbrev S_ : Shape := ⟨0, ![]⟩
abbrev S4x224x226x3 : Shape := ⟨4, ![4, 224, 226, 3]⟩
abbrev S4x224x224x9 : Shape := ⟨4, ![4, 224, 224, 9]⟩
abbrev S4x240x224x9 : Shape := ⟨4, ![4, 240, 224, 9]⟩
abbrev S3x3x3x64 : Shape := ⟨4, ![3, 3, 3, 64]⟩
abbrev S27x64 : Shape := ⟨2, ![27, 64]⟩
abbrev S64x3x3x4 : Shape := ⟨4, ![64, 3, 3, 4]⟩
abbrev S64x1x1x4 : Shape := ⟨4, ![64, 1, 1, 4]⟩
abbrev S64x4 : Shape := ⟨2, ![64, 4]⟩
abbrev S1x64x4 : Shape := ⟨3, ![1, 64, 4]⟩
abbrev S2x64x4 : Shape := ⟨3, ![2, 64, 4]⟩
abbrev S1x2x64x4 : Shape := ⟨4, ![1, 2, 64, 4]⟩
abbrev S2x2x64x4 : Shape := ⟨4, ![2, 2, 64, 4]⟩
abbrev S1x2x2x64x4 : Shape := ⟨5, ![1, 2, 2, 64, 4]⟩
abbrev S2x2x2x64x4 : Shape := ⟨5, ![2, 2, 2, 64, 4]⟩
abbrev S1x2x2x2x64x4 : Shape := ⟨6, ![1, 2, 2, 2, 64, 4]⟩
abbrev S2x2x2x2x64x4 : Shape := ⟨6, ![2, 2, 2, 2, 64, 4]⟩
abbrev S64x1024 : Shape := ⟨2, ![64, 1024]⟩
abbrev S1x64 : Shape := ⟨2, ![1, 64]⟩
abbrev S4 : Shape := ⟨1, ![4]⟩
abbrev S1x4 : Shape := ⟨2, ![1, 4]⟩
abbrev S1x16x224x9 : Shape := ⟨4, ![1, 16, 224, 9]⟩
abbrev S16x224x9 : Shape := ⟨3, ![16, 224, 9]⟩
abbrev S1x2x224x9 : Shape := ⟨4, ![1, 2, 224, 9]⟩
abbrev S2x224x9 : Shape := ⟨3, ![2, 224, 9]⟩
abbrev S18x224x9 : Shape := ⟨3, ![18, 224, 9]⟩
abbrev S16x224x27 : Shape := ⟨3, ![16, 224, 27]⟩
abbrev S3584x27 : Shape := ⟨2, ![3584, 27]⟩
abbrev S3584x64 : Shape := ⟨2, ![3584, 64]⟩
abbrev S56x1x896 : Shape := ⟨3, ![56, 1, 896]⟩
abbrev S56x896x64 : Shape := ⟨3, ![56, 896, 64]⟩
abbrev S1x1 : Shape := ⟨2, ![1, 1]⟩
abbrev S1x1x896 : Shape := ⟨3, ![1, 1, 896]⟩
abbrev S1x896x64 : Shape := ⟨3, ![1, 896, 64]⟩
abbrev S16x224x64 : Shape := ⟨3, ![16, 224, 64]⟩
abbrev S16x112x2x64 : Shape := ⟨4, ![16, 112, 2, 64]⟩
abbrev S16x112x64 : Shape := ⟨3, ![16, 112, 64]⟩
abbrev S8x2x112x64 : Shape := ⟨4, ![8, 2, 112, 64]⟩
abbrev S8x112x64 : Shape := ⟨3, ![8, 112, 64]⟩
abbrev S896x64 : Shape := ⟨2, ![896, 64]⟩
abbrev S896 : Shape := ⟨1, ![896]⟩
abbrev S896x1 : Shape := ⟨2, ![896, 1]⟩
abbrev S1024 : Shape := ⟨1, ![1024]⟩
abbrev S1x1024 : Shape := ⟨2, ![1, 1024]⟩
abbrev S896x1024 : Shape := ⟨2, ![896, 1024]⟩
abbrev S1x896x1 : Shape := ⟨3, ![1, 896, 1]⟩
abbrev S1 : Shape := ⟨1, ![1]⟩
abbrev S1x1x1 : Shape := ⟨3, ![1, 1, 1]⟩
abbrev S4x112x112 : Shape := ⟨3, ![4, 112, 112]⟩
abbrev S56x8x112x64 : Shape := ⟨4, ![56, 8, 112, 64]⟩
abbrev S4x112x112x4 : Shape := ⟨4, ![4, 112, 112, 4]⟩
abbrev S1x8x112x64 : Shape := ⟨4, ![1, 8, 112, 64]⟩
abbrev S1x8x112x4 : Shape := ⟨4, ![1, 8, 112, 4]⟩
abbrev S1x1x112x64 : Shape := ⟨4, ![1, 1, 112, 64]⟩
abbrev S112x64 : Shape := ⟨2, ![112, 64]⟩
abbrev S1x112x64 : Shape := ⟨3, ![1, 112, 64]⟩
abbrev S10x112x64 : Shape := ⟨3, ![10, 112, 64]⟩
abbrev S10x1x64 : Shape := ⟨3, ![10, 1, 64]⟩
abbrev S10x114x64 : Shape := ⟨3, ![10, 114, 64]⟩
abbrev S896x4 : Shape := ⟨2, ![896, 4]⟩
abbrev S1x1x1x1x64x4 : Shape := ⟨6, ![1, 1, 1, 1, 64, 4]⟩
abbrev S1x1x1x4 : Shape := ⟨4, ![1, 1, 1, 4]⟩
abbrev S1x4x112x112x4 : Shape := ⟨5, ![1, 4, 112, 112, 4]⟩
abbrev S4x4x112x112x4 : Shape := ⟨5, ![4, 4, 112, 112, 4]⟩
abbrev S2x2x4x112x112x4 : Shape := ⟨6, ![2, 2, 4, 112, 112, 4]⟩
abbrev S2x2x4x112x112x3 : Shape := ⟨6, ![2, 2, 4, 112, 112, 3]⟩
abbrev S4x3x112x2x112x2 : Shape := ⟨6, ![4, 3, 112, 2, 112, 2]⟩

abbrev nBuf : Space → Nat
  | .hbm => 252
  | .vmem => 60
  | .smem => 0
  | _ => 0

abbrev hbmTy0_0 (i : Nat) : BufTy := match i % 128 with
  | 0 => ⟨S4x3x224x224, .f32⟩
  | 1 => ⟨S64x3x3x3, .f32⟩
  | 2 => ⟨S64, .f32⟩
  | 3 => ⟨S64, .f32⟩
  | 4 => ⟨S64, .f32⟩
  | 5 => ⟨S1024x64, .f32⟩
  | 6 => ⟨S3x64x3x3, .f32⟩
  | 7 => ⟨S3, .f32⟩
  | 8 => ⟨S3, .f32⟩
  | 9 => ⟨S3, .f32⟩
  | 10 => ⟨S4x224x224x3, .f32⟩
  | 11 => ⟨S_, .i32⟩
  | 12 => ⟨S_, .f32⟩
  | 13 => ⟨S4x224x226x3, .f32⟩
  | 14 => ⟨S4x224x224x3, .f32⟩
  | 15 => ⟨S4x224x224x3, .f32⟩
  | 16 => ⟨S4x224x224x3, .f32⟩
  | 17 => ⟨S4x224x224x9, .f32⟩
  | 18 => ⟨S_, .i32⟩
  | 19 => ⟨S_, .f32⟩
  | 20 => ⟨S4x240x224x9, .f32⟩
  | 21 => ⟨S3x3x3x64, .f32⟩
  | 22 => ⟨S27x64, .f32⟩
  | 23 => ⟨S64x3x3x3, .f32⟩
  | 24 => ⟨S_, .i32⟩
  | 25 => ⟨S_, .f32⟩
  | 26 => ⟨S64x3x3x4, .f32⟩
  | 27 => ⟨S64x1x1x4, .f32⟩
  | 28 => ⟨S64x4, .f32⟩
  | 29 => ⟨S_, .f32⟩
  | 30 => ⟨S64x4, .f32⟩
  | 31 => ⟨S64x4, .f32⟩
  | 32 => ⟨S64x1x1x4, .f32⟩
  | 33 => ⟨S64x4, .f32⟩
  | 34 => ⟨S_, .f32⟩
  | 35 => ⟨S64x4, .f32⟩
  | 36 => ⟨S64x4, .f32⟩
  | 37 => ⟨S64x1x1x4, .f32⟩
  | 38 => ⟨S64x4, .f32⟩
  | 39 => ⟨S64x4, .f32⟩
  | 40 => ⟨S1x64x4, .f32⟩
  | 41 => ⟨S1x64x4, .f32⟩
  | 42 => ⟨S2x64x4, .f32⟩
  | 43 => ⟨S64x1x1x4, .f32⟩
  | 44 => ⟨S64x4, .f32⟩
  | 45 => ⟨S_, .f32⟩
  | 46 => ⟨S64x4, .f32⟩
  | 47 => ⟨S64x4, .f32⟩
  | 48 => ⟨S64x1x1x4, .f32⟩
  | 49 => ⟨S64x4, .f32⟩
  | 50 => ⟨S64x4, .f32⟩
  | 51 => ⟨S64x1x1x4, .f32⟩
  | 52 => ⟨S64x4, .f32⟩
  | 53 => ⟨S_, .f32⟩
  | 54 => ⟨S64x4, .f32⟩
  | 55 => ⟨S64x4, .f32⟩
  | 56 => ⟨S64x1x1x4, .f32⟩
  | 57 => ⟨S64x4, .f32⟩
  | 58 => ⟨S64x4, .f32⟩
  | 59 => ⟨S64x1x1x4, .f32⟩
  | 60 => ⟨S64x4, .f32⟩
  | 61 => ⟨S64x4, .f32⟩
  | 62 => ⟨S64x1x1x4, .f32⟩
  | 63 => ⟨S64x4, .f32⟩
  | 64 => ⟨S64x4, .f32⟩
  | 65 => ⟨S1x64x4, .f32⟩
  | 66 => ⟨S1x64x4, .f32⟩
  | 67 => ⟨S2x64x4, .f32⟩
  | 68 => ⟨S1x2x64x4, .f32⟩
  | 69 => ⟨S1x2x64x4, .f32⟩
  | 70 => ⟨S2x2x64x4, .f32⟩
  | 71 => ⟨S64x1x1x4, .f32⟩
  | 72 => ⟨S64x4, .f32⟩
  | 73 => ⟨S_, .f32⟩
  | 74 => ⟨S64x4, .f32⟩
  | 75 => ⟨S64x4, .f32⟩
  | 76 => ⟨S64x1x1x4, .f32⟩
  | 77 => ⟨S64x4, .f32⟩
  | 78 => ⟨S64x4, .f32⟩
  | 79 => ⟨S64x1x1x4, .f32⟩
  | 80 => ⟨S64x4, .f32⟩
  | 81 => ⟨S_, .f32⟩
  | 82 => ⟨S64x4, .f32⟩
  | 83 => ⟨S64x4, .f32⟩
  | 84 => ⟨S1x64x4, .f32⟩
  | 85 => ⟨S1x64x4, .f32⟩
  | 86 => ⟨S2x64x4, .f32⟩
  | 87 => ⟨S64x1x1x4, .f32⟩
  | 88 => ⟨S64x4, .f32⟩
  | 89 => ⟨S_, .f32⟩
  | 90 => ⟨S64x4, .f32⟩
  | 91 => ⟨S64x4, .f32⟩
  | 92 => ⟨S64x1x1x4, .f32⟩
  | 93 => ⟨S64x4, .f32⟩
  | 94 => ⟨S64x4, .f32⟩
  | 95 => ⟨S64x1x1x4, .f32⟩
  | 96 => ⟨S64x4, .f32⟩
  | 97 => ⟨S64x4, .f32⟩
  | 98 => ⟨S64x1x1x4, .f32⟩
  | 99 => ⟨S64x4, .f32⟩
  | 100 => ⟨S64x4, .f32⟩
  | 101 => ⟨S64x1x1x4, .f32⟩
  | 102 => ⟨S64x4, .f32⟩
  | 103 => ⟨S_, .f32⟩
  | 104 => ⟨S64x4, .f32⟩
  | 105 => ⟨S64x4, .f32⟩
  | 106 => ⟨S64x1x1x4, .f32⟩
  | 107 => ⟨S64x4, .f32⟩
  | 108 => ⟨S64x4, .f32⟩
  | 109 => ⟨S1x64x4, .f32⟩
  | 110 => ⟨S1x64x4, .f32⟩
  | 111 => ⟨S2x64x4, .f32⟩
  | 112 => ⟨S1x2x64x4, .f32⟩
  | 113 => ⟨S1x2x64x4, .f32⟩
  | 114 => ⟨S2x2x64x4, .f32⟩
  | 115 => ⟨S1x2x2x64x4, .f32⟩
  | 116 => ⟨S1x2x2x64x4, .f32⟩
  | 117 => ⟨S2x2x2x64x4, .f32⟩
  | 118 => ⟨S64x1x1x4, .f32⟩
  | 119 => ⟨S64x4, .f32⟩
  | 120 => ⟨S_, .f32⟩
  | 121 => ⟨S64x4, .f32⟩
  | 122 => ⟨S64x4, .f32⟩
  | 123 => ⟨S64x1x1x4, .f32⟩
  | 124 => ⟨S64x4, .f32⟩
  | 125 => ⟨S64x4, .f32⟩
  | 126 => ⟨S64x1x1x4, .f32⟩
  | 127 => ⟨S64x4, .f32⟩
  | _ => ⟨S4x3x224x224, .f32⟩

abbrev hbmTy0_1 (i : Nat) : BufTy := match i % 128 with
  | 0 => ⟨S_, .f32⟩
  | 1 => ⟨S64x4, .f32⟩
  | 2 => ⟨S64x4, .f32⟩
  | 3 => ⟨S64x1x1x4, .f32⟩
  | 4 => ⟨S64x4, .f32⟩
  | 5 => ⟨S64x4, .f32⟩
  | 6 => ⟨S64x1x1x4, .f32⟩
  | 7 => ⟨S64x4, .f32⟩
  | 8 => ⟨S64x4, .f32⟩
  | 9 => ⟨S64x1x1x4, .f32⟩
  | 10 => ⟨S64x4, .f32⟩
  | 11 => ⟨S64x4, .f32⟩
  | 12 => ⟨S1x64x4, .f32⟩
  | 13 => ⟨S1x64x4, .f32⟩
  | 14 => ⟨S2x64x4, .f32⟩
  | 15 => ⟨S64x1x1x4, .f32⟩
  | 16 => ⟨S64x4, .f32⟩
  | 17 => ⟨S_, .f32⟩
  | 18 => ⟨S64x4, .f32⟩
  | 19 => ⟨S64x4, .f32⟩
  | 20 => ⟨S64x1x1x4, .f32⟩
  | 21 => ⟨S64x4, .f32⟩
  | 22 => ⟨S_, .f32⟩
  | 23 => ⟨S64x4, .f32⟩
  | 24 => ⟨S64x4, .f32⟩
  | 25 => ⟨S64x1x1x4, .f32⟩
  | 26 => ⟨S64x4, .f32⟩
  | 27 => ⟨S64x4, .f32⟩
  | 28 => ⟨S1x64x4, .f32⟩
  | 29 => ⟨S1x64x4, .f32⟩
  | 30 => ⟨S2x64x4, .f32⟩
  | 31 => ⟨S1x2x64x4, .f32⟩
  | 32 => ⟨S1x2x64x4, .f32⟩
  | 33 => ⟨S2x2x64x4, .f32⟩
  | 34 => ⟨S64x1x1x4, .f32⟩
  | 35 => ⟨S64x4, .f32⟩
  | 36 => ⟨S_, .f32⟩
  | 37 => ⟨S64x4, .f32⟩
  | 38 => ⟨S64x4, .f32⟩
  | 39 => ⟨S64x1x1x4, .f32⟩
  | 40 => ⟨S64x4, .f32⟩
  | 41 => ⟨S64x4, .f32⟩
  | 42 => ⟨S64x1x1x4, .f32⟩
  | 43 => ⟨S64x4, .f32⟩
  | 44 => ⟨S64x4, .f32⟩
  | 45 => ⟨S64x1x1x4, .f32⟩
  | 46 => ⟨S64x4, .f32⟩
  | 47 => ⟨S64x4, .f32⟩
  | 48 => ⟨S64x1x1x4, .f32⟩
  | 49 => ⟨S64x4, .f32⟩
  | 50 => ⟨S_, .f32⟩
  | 51 => ⟨S64x4, .f32⟩
  | 52 => ⟨S64x4, .f32⟩
  | 53 => ⟨S64x1x1x4, .f32⟩
  | 54 => ⟨S64x4, .f32⟩
  | 55 => ⟨S64x4, .f32⟩
  | 56 => ⟨S1x64x4, .f32⟩
  | 57 => ⟨S1x64x4, .f32⟩
  | 58 => ⟨S2x64x4, .f32⟩
  | 59 => ⟨S64x1x1x4, .f32⟩
  | 60 => ⟨S64x4, .f32⟩
  | 61 => ⟨S_, .f32⟩
  | 62 => ⟨S64x4, .f32⟩
  | 63 => ⟨S64x4, .f32⟩
  | 64 => ⟨S64x1x1x4, .f32⟩
  | 65 => ⟨S64x4, .f32⟩
  | 66 => ⟨S64x4, .f32⟩
  | 67 => ⟨S64x1x1x4, .f32⟩
  | 68 => ⟨S64x4, .f32⟩
  | 69 => ⟨S_, .f32⟩
  | 70 => ⟨S64x4, .f32⟩
  | 71 => ⟨S64x4, .f32⟩
  | 72 => ⟨S1x64x4, .f32⟩
  | 73 => ⟨S1x64x4, .f32⟩
  | 74 => ⟨S2x64x4, .f32⟩
  | 75 => ⟨S1x2x64x4, .f32⟩
  | 76 => ⟨S1x2x64x4, .f32⟩
  | 77 => ⟨S2x2x64x4, .f32⟩
  | 78 => ⟨S1x2x2x64x4, .f32⟩
  | 79 => ⟨S1x2x2x64x4, .f32⟩
  | 80 => ⟨S2x2x2x64x4, .f32⟩
  | 81 => ⟨S1x2x2x2x64x4, .f32⟩
  | 82 => ⟨S1x2x2x2x64x4, .f32⟩
  | 83 => ⟨S2x2x2x2x64x4, .f32⟩
  | 84 => ⟨S64x1024, .f32⟩
  | 85 => ⟨S1x64, .f32⟩
  | 86 => ⟨S1x64, .f32⟩
  | 87 => ⟨S_, .i32⟩
  | 88 => ⟨S_, .f32⟩
  | 89 => ⟨S4, .f32⟩
  | 90 => ⟨S1x4, .f32⟩
  | 91 => ⟨S_, .i32⟩
  | 92 => ⟨S_, .f32⟩
  | 93 => ⟨S4, .f32⟩
  | 94 => ⟨S1x4, .f32⟩
  | 95 => ⟨S1x64, .f32⟩
  | 96 => ⟨S1x64, .f32⟩
  | 97 => ⟨S56x1x896, .i32⟩
  | 98 => ⟨S56x896x64, .f32⟩
  | 99 => ⟨S1x1, .f32⟩
  | 100 => ⟨S4x112x112, .i32⟩
  | 101 => ⟨S_, .f32⟩
  | 102 => ⟨S_, .f32⟩
  | 103 => ⟨S_, .f32⟩
  | 104 => ⟨S56x8x112x64, .f32⟩
  | 105 => ⟨S4x112x112x4, .f32⟩
  | 106 => ⟨S4x112x112x4, .f32⟩
  | 107 => ⟨S4x112x112x4, .f32⟩
  | 108 => ⟨S4x112x112x4, .f32⟩
  | 109 => ⟨S1x4, .f32⟩
  | 110 => ⟨S1x4, .f32⟩
  | 111 => ⟨S4x112x112x4, .f32⟩
  | 112 => ⟨S4x112x112x4, .f32⟩
  | 113 => ⟨S4x112x112x4, .f32⟩
  | 114 => ⟨S4x112x112x4, .f32⟩
  | 115 => ⟨S1x4x112x112x4, .f32⟩
  | 116 => ⟨S1x4x112x112x4, .f32⟩
  | 117 => ⟨S1x4x112x112x4, .f32⟩
  | 118 => ⟨S1x4x112x112x4, .f32⟩
  | 119 => ⟨S4x4x112x112x4, .f32⟩
  | 120 => ⟨S2x2x4x112x112x4, .f32⟩
  | 121 => ⟨S2x2x4x112x112x3, .f32⟩
  | 122 => ⟨S4x3x112x2x112x2, .f32⟩
  | 123 => ⟨S4x3x224x224, .f32⟩
  | _ => ⟨S4x3x224x224, .f32⟩

abbrev hbmTy (i : Nat) : BufTy := match i / 128 with
  | 0 => hbmTy0_0 i
  | 1 => hbmTy0_1 i
  | _ => ⟨S4x3x224x224, .f32⟩

abbrev bufTy : (tb : Table) → Fin (tcTables nBuf tb) → BufTy
  | .hbm, ⟨i, _⟩ => hbmTy i
  | .local _ .vmem, ⟨0, _⟩ => ⟨S1x16x224x9, .f32⟩
  | .local _ .vmem, ⟨1, _⟩ => ⟨S1x16x224x9, .f32⟩
  | .local _ .vmem, ⟨2, _⟩ => ⟨S1x16x224x9, .f32⟩
  | .local _ .vmem, ⟨3, _⟩ => ⟨S1x16x224x9, .f32⟩
  | .local _ .vmem, ⟨4, _⟩ => ⟨S27x64, .f32⟩
  | .local _ .vmem, ⟨5, _⟩ => ⟨S1x64, .f32⟩
  | .local _ .vmem, ⟨6, _⟩ => ⟨S1x64, .f32⟩
  | .local _ .vmem, ⟨7, _⟩ => ⟨S1x16x224x9, .f32⟩
  | .local _ .vmem, ⟨8, _⟩ => ⟨S1x16x224x9, .f32⟩
  | .local _ .vmem, ⟨9, _⟩ => ⟨S1x16x224x9, .f32⟩
  | .local _ .vmem, ⟨10, _⟩ => ⟨S1x16x224x9, .f32⟩
  | .local _ .vmem, ⟨11, _⟩ => ⟨S27x64, .f32⟩
  | .local _ .vmem, ⟨12, _⟩ => ⟨S1x64, .f32⟩
  | .local _ .vmem, ⟨13, _⟩ => ⟨S1x64, .f32⟩
  | .local _ .vmem, ⟨14, _⟩ => ⟨S1x64, .f32⟩
  | .local _ .vmem, ⟨15, _⟩ => ⟨S1x64, .f32⟩
  | .local _ .vmem, ⟨16, _⟩ => ⟨S64x1024, .f32⟩
  | .local _ .vmem, ⟨17, _⟩ => ⟨S1024x64, .f32⟩
  | .local _ .vmem, ⟨18, _⟩ => ⟨S1x1x896, .i32⟩
  | .local _ .vmem, ⟨19, _⟩ => ⟨S1x1x896, .i32⟩
  | .local _ .vmem, ⟨20, _⟩ => ⟨S1x896x64, .f32⟩
  | .local _ .vmem, ⟨21, _⟩ => ⟨S1x896x64, .f32⟩
  | .local _ .vmem, ⟨22, _⟩ => ⟨S1x1, .f32⟩
  | .local _ .vmem, ⟨23, _⟩ => ⟨S1x8x112x64, .f32⟩
  | .local _ .vmem, ⟨24, _⟩ => ⟨S1x8x112x64, .f32⟩
  | .local _ .vmem, ⟨25, _⟩ => ⟨S1x8x112x64, .f32⟩
  | .local _ .vmem, ⟨26, _⟩ => ⟨S1x8x112x64, .f32⟩
  | .local _ .vmem, ⟨27, _⟩ => ⟨S1x8x112x64, .f32⟩
  | .local _ .vmem, ⟨28, _⟩ => ⟨S1x8x112x64, .f32⟩
  | .local _ .vmem, ⟨29, _⟩ => ⟨S2x2x2x2x64x4, .f32⟩
  | .local _ .vmem, ⟨30, _⟩ => ⟨S1x8x112x4, .f32⟩
  | .local _ .vmem, ⟨31, _⟩ => ⟨S1x8x112x4, .f32⟩
  | .local _ .vmem, ⟨32, _⟩ => ⟨S1x8x112x4, .f32⟩
  | .local _ .vmem, ⟨33, _⟩ => ⟨S1x8x112x4, .f32⟩
  | .local _ .vmem, ⟨34, _⟩ => ⟨S1x8x112x4, .f32⟩
  | .local _ .vmem, ⟨35, _⟩ => ⟨S1x8x112x4, .f32⟩
  | .local _ .vmem, ⟨36, _⟩ => ⟨S1x8x112x4, .f32⟩
  | .local _ .vmem, ⟨37, _⟩ => ⟨S1x8x112x4, .f32⟩
  | .local _ .vmem, ⟨38, _⟩ => ⟨S1x4, .f32⟩
  | .local _ .vmem, ⟨39, _⟩ => ⟨S1x4, .f32⟩
  | .local _ .vmem, ⟨40, _⟩ => ⟨S1x8x112x4, .f32⟩
  | .local _ .vmem, ⟨41, _⟩ => ⟨S1x8x112x4, .f32⟩
  | .local _ .vmem, ⟨42, _⟩ => ⟨S1x8x112x4, .f32⟩
  | .local _ .vmem, ⟨43, _⟩ => ⟨S1x8x112x4, .f32⟩
  | .local _ .vmem, ⟨44, _⟩ => ⟨S1x8x112x4, .f32⟩
  | .local _ .vmem, ⟨45, _⟩ => ⟨S1x8x112x4, .f32⟩
  | .local _ .vmem, ⟨46, _⟩ => ⟨S1x8x112x4, .f32⟩
  | .local _ .vmem, ⟨47, _⟩ => ⟨S1x8x112x4, .f32⟩
  | .local _ .vmem, ⟨48, _⟩ => ⟨S1x4, .f32⟩
  | .local _ .vmem, ⟨49, _⟩ => ⟨S1x4, .f32⟩
  | .local _ .vmem, ⟨50, _⟩ => ⟨S1x4, .f32⟩
  | .local _ .vmem, ⟨51, _⟩ => ⟨S1x4, .f32⟩
  | .local _ .vmem, ⟨52, _⟩ => ⟨S1x8x112x4, .f32⟩
  | .local _ .vmem, ⟨53, _⟩ => ⟨S1x8x112x4, .f32⟩
  | .local _ .vmem, ⟨54, _⟩ => ⟨S1x8x112x4, .f32⟩
  | .local _ .vmem, ⟨55, _⟩ => ⟨S1x8x112x4, .f32⟩
  | .local _ .vmem, ⟨56, _⟩ => ⟨S1x8x112x4, .f32⟩
  | .local _ .vmem, ⟨57, _⟩ => ⟨S1x8x112x4, .f32⟩
  | .local _ .vmem, ⟨58, _⟩ => ⟨S1x8x112x4, .f32⟩
  | .local _ .vmem, ⟨59, _⟩ => ⟨S1x8x112x4, .f32⟩
  | _, _ => ⟨S4x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_call1_v0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_c_1 : Ref sig .tc := ⟨.hbm, 24, rfl⟩
abbrev main_call2_v0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_2 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_3 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_4 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_5 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_6 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_7 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_cst_8 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_cst_9 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_cst_10 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_cst_11 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_cst_12 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_cst_13 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_v145 : Ref sig .tc := ⟨.hbm, 174, rfl⟩
abbrev main_v146 : Ref sig .tc := ⟨.hbm, 175, rfl⟩
abbrev main_v147 : Ref sig .tc := ⟨.hbm, 176, rfl⟩
abbrev main_v148 : Ref sig .tc := ⟨.hbm, 177, rfl⟩
abbrev main_cst_14 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩
abbrev main_v154 : Ref sig .tc := ⟨.hbm, 184, rfl⟩
abbrev main_v155 : Ref sig .tc := ⟨.hbm, 185, rfl⟩
abbrev main_v156 : Ref sig .tc := ⟨.hbm, 186, rfl⟩
abbrev main_v157 : Ref sig .tc := ⟨.hbm, 187, rfl⟩
abbrev main_v158 : Ref sig .tc := ⟨.hbm, 188, rfl⟩
abbrev main_cst_15 : Ref sig .tc := ⟨.hbm, 189, rfl⟩
abbrev main_v159 : Ref sig .tc := ⟨.hbm, 190, rfl⟩
abbrev main_v160 : Ref sig .tc := ⟨.hbm, 191, rfl⟩
abbrev main_v161 : Ref sig .tc := ⟨.hbm, 192, rfl⟩
abbrev main_v162 : Ref sig .tc := ⟨.hbm, 193, rfl⟩
abbrev main_v163 : Ref sig .tc := ⟨.hbm, 194, rfl⟩
abbrev main_v164 : Ref sig .tc := ⟨.hbm, 195, rfl⟩
abbrev main_v165 : Ref sig .tc := ⟨.hbm, 196, rfl⟩
abbrev main_cst_16 : Ref sig .tc := ⟨.hbm, 197, rfl⟩
abbrev main_v166 : Ref sig .tc := ⟨.hbm, 198, rfl⟩
abbrev main_v167 : Ref sig .tc := ⟨.hbm, 199, rfl⟩
abbrev main_v168 : Ref sig .tc := ⟨.hbm, 200, rfl⟩
abbrev main_v169 : Ref sig .tc := ⟨.hbm, 201, rfl⟩
abbrev main_v170 : Ref sig .tc := ⟨.hbm, 202, rfl⟩
abbrev main_v171 : Ref sig .tc := ⟨.hbm, 203, rfl⟩
abbrev main_v172 : Ref sig .tc := ⟨.hbm, 204, rfl⟩
abbrev main_v173 : Ref sig .tc := ⟨.hbm, 205, rfl⟩
abbrev main_v174 : Ref sig .tc := ⟨.hbm, 206, rfl⟩
abbrev main_v175 : Ref sig .tc := ⟨.hbm, 207, rfl⟩
abbrev main_v176 : Ref sig .tc := ⟨.hbm, 208, rfl⟩
abbrev main_v177 : Ref sig .tc := ⟨.hbm, 209, rfl⟩
abbrev main_v178 : Ref sig .tc := ⟨.hbm, 210, rfl⟩
abbrev main_v179 : Ref sig .tc := ⟨.hbm, 211, rfl⟩
abbrev main_v180 : Ref sig .tc := ⟨.hbm, 212, rfl⟩
abbrev main_v181 : Ref sig .tc := ⟨.hbm, 213, rfl⟩
abbrev main_v182 : Ref sig .tc := ⟨.hbm, 214, rfl⟩
abbrev main_c_17 : Ref sig .tc := ⟨.hbm, 215, rfl⟩
abbrev main_call3_v0 : Ref sig .tc := ⟨.hbm, 216, rfl⟩
abbrev main_v183 : Ref sig .tc := ⟨.hbm, 217, rfl⟩
abbrev main_v184 : Ref sig .tc := ⟨.hbm, 218, rfl⟩
abbrev main_c_18 : Ref sig .tc := ⟨.hbm, 219, rfl⟩
abbrev main_call4_v0 : Ref sig .tc := ⟨.hbm, 220, rfl⟩
abbrev main_v185 : Ref sig .tc := ⟨.hbm, 221, rfl⟩
abbrev main_v186 : Ref sig .tc := ⟨.hbm, 222, rfl⟩
abbrev main_v187_0 : Ref sig .tc := ⟨.hbm, 223, rfl⟩
abbrev main_v187_1 : Ref sig .tc := ⟨.hbm, 224, rfl⟩
abbrev main_v188_0 : Ref sig .tc := ⟨.hbm, 225, rfl⟩
abbrev main_v188_1 : Ref sig .tc := ⟨.hbm, 226, rfl⟩
abbrev main_v188_2 : Ref sig .tc := ⟨.hbm, 227, rfl⟩
abbrev main_v189 : Ref sig .tc := ⟨.hbm, 228, rfl⟩
abbrev main_v190 : Ref sig .tc := ⟨.hbm, 229, rfl⟩
abbrev main_cst_19 : Ref sig .tc := ⟨.hbm, 230, rfl⟩
abbrev main_v191 : Ref sig .tc := ⟨.hbm, 231, rfl⟩
abbrev main_v192 : Ref sig .tc := ⟨.hbm, 232, rfl⟩
abbrev main_v193_0 : Ref sig .tc := ⟨.hbm, 233, rfl⟩
abbrev main_v193_1 : Ref sig .tc := ⟨.hbm, 234, rfl⟩
abbrev main_v193_2 : Ref sig .tc := ⟨.hbm, 235, rfl⟩
abbrev main_v193_3 : Ref sig .tc := ⟨.hbm, 236, rfl⟩
abbrev main_v193_4 : Ref sig .tc := ⟨.hbm, 237, rfl⟩
abbrev main_v193_5 : Ref sig .tc := ⟨.hbm, 238, rfl⟩
abbrev main_v194_0 : Ref sig .tc := ⟨.hbm, 239, rfl⟩
abbrev main_v194_1 : Ref sig .tc := ⟨.hbm, 240, rfl⟩
abbrev main_v194_2 : Ref sig .tc := ⟨.hbm, 241, rfl⟩
abbrev main_v194_3 : Ref sig .tc := ⟨.hbm, 242, rfl⟩
abbrev main_v195 : Ref sig .tc := ⟨.hbm, 243, rfl⟩
abbrev main_v196 : Ref sig .tc := ⟨.hbm, 244, rfl⟩
abbrev main_v197 : Ref sig .tc := ⟨.hbm, 245, rfl⟩
abbrev main_v198 : Ref sig .tc := ⟨.hbm, 246, rfl⟩
abbrev main_v199 : Ref sig .tc := ⟨.hbm, 247, rfl⟩
abbrev main_v200 : Ref sig .tc := ⟨.hbm, 248, rfl⟩
abbrev main_v201 : Ref sig .tc := ⟨.hbm, 249, rfl⟩
abbrev main_v202 : Ref sig .tc := ⟨.hbm, 250, rfl⟩
abbrev main_v203 : Ref sig .tc := ⟨.hbm, 251, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg9_0 : Ref sig .tc := ⟨.vmem, 18, rfl⟩
abbrev cc1_stg9_1 : Ref sig .tc := ⟨.vmem, 19, rfl⟩
abbrev cc1_stg10_0 : Ref sig .tc := ⟨.vmem, 20, rfl⟩
abbrev cc1_stg10_1 : Ref sig .tc := ⟨.vmem, 21, rfl⟩
abbrev cc1_stg11_0 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg2_1 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg4_1 : Ref sig .tc := ⟨.vmem, 31, rfl⟩
abbrev cc2_stg5_0 : Ref sig .tc := ⟨.vmem, 32, rfl⟩
abbrev cc2_stg5_1 : Ref sig .tc := ⟨.vmem, 33, rfl⟩
abbrev cc2_stg6_0 : Ref sig .tc := ⟨.vmem, 34, rfl⟩
abbrev cc2_stg6_1 : Ref sig .tc := ⟨.vmem, 35, rfl⟩
abbrev cc2_stg7_0 : Ref sig .tc := ⟨.vmem, 36, rfl⟩
abbrev cc2_stg7_1 : Ref sig .tc := ⟨.vmem, 37, rfl⟩
abbrev cc2_stg8_0 : Ref sig .tc := ⟨.vmem, 38, rfl⟩
abbrev cc2_stg9_0 : Ref sig .tc := ⟨.vmem, 39, rfl⟩
abbrev cc3_stg0_0 : Ref sig .tc := ⟨.vmem, 40, rfl⟩
abbrev cc3_stg0_1 : Ref sig .tc := ⟨.vmem, 41, rfl⟩
abbrev cc3_stg1_0 : Ref sig .tc := ⟨.vmem, 42, rfl⟩
abbrev cc3_stg1_1 : Ref sig .tc := ⟨.vmem, 43, rfl⟩
abbrev cc3_stg2_0 : Ref sig .tc := ⟨.vmem, 44, rfl⟩
abbrev cc3_stg2_1 : Ref sig .tc := ⟨.vmem, 45, rfl⟩
abbrev cc3_stg3_0 : Ref sig .tc := ⟨.vmem, 46, rfl⟩
abbrev cc3_stg3_1 : Ref sig .tc := ⟨.vmem, 47, rfl⟩
abbrev cc3_stg4_0 : Ref sig .tc := ⟨.vmem, 48, rfl⟩
abbrev cc3_stg5_0 : Ref sig .tc := ⟨.vmem, 49, rfl⟩
abbrev cc3_stg6_0 : Ref sig .tc := ⟨.vmem, 50, rfl⟩
abbrev cc3_stg7_0 : Ref sig .tc := ⟨.vmem, 51, rfl⟩
abbrev cc3_stg8_0 : Ref sig .tc := ⟨.vmem, 52, rfl⟩
abbrev cc3_stg8_1 : Ref sig .tc := ⟨.vmem, 53, rfl⟩
abbrev cc3_stg9_0 : Ref sig .tc := ⟨.vmem, 54, rfl⟩
abbrev cc3_stg9_1 : Ref sig .tc := ⟨.vmem, 55, rfl⟩
abbrev cc3_stg10_0 : Ref sig .tc := ⟨.vmem, 56, rfl⟩
abbrev cc3_stg10_1 : Ref sig .tc := ⟨.vmem, 57, rfl⟩
abbrev cc3_stg11_0 : Ref sig .tc := ⟨.vmem, 58, rfl⟩
abbrev cc3_stg11_1 : Ref sig .tc := ⟨.vmem, 59, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem9_0 : DmaSem sig := 18
abbrev cc1_sem9_1 : DmaSem sig := 19
abbrev cc1_sem10_0 : DmaSem sig := 20
abbrev cc1_sem10_1 : DmaSem sig := 21
abbrev cc1_sem11_0 : DmaSem sig := 22
abbrev cc2_sem0_0 : DmaSem sig := 23
abbrev cc2_sem0_1 : DmaSem sig := 24
abbrev cc2_sem1_0 : DmaSem sig := 25
abbrev cc2_sem1_1 : DmaSem sig := 26
abbrev cc2_sem2_0 : DmaSem sig := 27
abbrev cc2_sem2_1 : DmaSem sig := 28
abbrev cc2_sem3_0 : DmaSem sig := 29
abbrev cc2_sem4_0 : DmaSem sig := 30
abbrev cc2_sem4_1 : DmaSem sig := 31
abbrev cc2_sem5_0 : DmaSem sig := 32
abbrev cc2_sem5_1 : DmaSem sig := 33
abbrev cc2_sem6_0 : DmaSem sig := 34
abbrev cc2_sem6_1 : DmaSem sig := 35
abbrev cc2_sem7_0 : DmaSem sig := 36
abbrev cc2_sem7_1 : DmaSem sig := 37
abbrev cc2_sem8_0 : DmaSem sig := 38
abbrev cc2_sem9_0 : DmaSem sig := 39
abbrev cc3_sem0_0 : DmaSem sig := 40
abbrev cc3_sem0_1 : DmaSem sig := 41
abbrev cc3_sem1_0 : DmaSem sig := 42
abbrev cc3_sem1_1 : DmaSem sig := 43
abbrev cc3_sem2_0 : DmaSem sig := 44
abbrev cc3_sem2_1 : DmaSem sig := 45
abbrev cc3_sem3_0 : DmaSem sig := 46
abbrev cc3_sem3_1 : DmaSem sig := 47
abbrev cc3_sem4_0 : DmaSem sig := 48
abbrev cc3_sem5_0 : DmaSem sig := 49
abbrev cc3_sem6_0 : DmaSem sig := 50
abbrev cc3_sem7_0 : DmaSem sig := 51
abbrev cc3_sem8_0 : DmaSem sig := 52
abbrev cc3_sem8_1 : DmaSem sig := 53
abbrev cc3_sem9_0 : DmaSem sig := 54
abbrev cc3_sem9_1 : DmaSem sig := 55
abbrev cc3_sem10_0 : DmaSem sig := 56
abbrev cc3_sem10_1 : DmaSem sig := 57
abbrev cc3_sem11_0 : DmaSem sig := 58
abbrev cc3_sem11_1 : DmaSem sig := 59

abbrev nD : Nat := 1
abbrev τ : Topo := Topo.v7x

variable {F : FTy → Type} [FloatOps F]

abbrev grid0 : Pipeline.Grid := ⟨1, ![56], ![false]⟩

def cc0_transform_0 (i : grid0.Coords) : Fin 4 → Nat :=
  let arg0 : BitVec 32 := BitVec.ofNat 32 (i 0).val
  let c14_i32 : BitVec 32 := 14#32
  let v0 : BitVec 32 := Scalar.divsi arg0 c14_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c14_i32 c0_i32_1
  let v7 : BitVec 32 := Scalar.extui v6
  let c0_i32_2 : BitVec 32 := 0#32
  let v8 : BitVec 1 := Scalar.cmpi .slt c14_i32 c0_i32_2
  let v9 : BitVec 32 := Scalar.extui v8
  let v10 : BitVec 32 := Scalar.subi v7 v9
  let v11 : BitVec 1 := Scalar.cmpi .ne v5 v10
  let v12 : BitVec 32 := Scalar.remsi arg0 c14_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c14_i32_4 : BitVec 32 := 14#32
  let c0_i32_5 : BitVec 32 := 0#32
  let v17 : BitVec 1 := Scalar.cmpi .eq c14_i32_4 c0_i32_5
  let c1_i32_6 : BitVec 32 := 1#32
  let v18 : BitVec 32 := Scalar.select v17 c1_i32_6 c14_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_1 (i : grid0.Coords) : Fin 4 → Nat :=
  let arg0 : BitVec 32 := BitVec.ofNat 32 (i 0).val
  let c14_i32 : BitVec 32 := 14#32
  let v0 : BitVec 32 := Scalar.divsi arg0 c14_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c14_i32 c0_i32_1
  let v7 : BitVec 32 := Scalar.extui v6
  let c0_i32_2 : BitVec 32 := 0#32
  let v8 : BitVec 1 := Scalar.cmpi .slt c14_i32 c0_i32_2
  let v9 : BitVec 32 := Scalar.extui v8
  let v10 : BitVec 32 := Scalar.subi v7 v9
  let v11 : BitVec 1 := Scalar.cmpi .ne v5 v10
  let v12 : BitVec 32 := Scalar.remsi arg0 c14_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c14_i32_4 : BitVec 32 := 14#32
  let c0_i32_5 : BitVec 32 := 0#32
  let v17 : BitVec 1 := Scalar.cmpi .eq c14_i32_4 c0_i32_5
  let c1_i32_6 : BitVec 32 := 1#32
  let v18 : BitVec 32 := Scalar.select v17 c1_i32_6 c14_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let v27 : BitVec 32 := Scalar.addi v26 c1_i32_10
  let c0_i32_11 : BitVec 32 := 0#32
  let c0_i32_12 : BitVec 32 := 0#32
  let c0_i32_13 : BitVec 32 := 0#32
  ![v16.toNat, v27.toNat, c0_i32_11.toNat, c0_i32_12.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x16x224x9 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16x224x9 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S27x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![56], ![false]⟩

def cc1_transform_0 (i : grid1.Coords) : Fin 4 → Nat :=
  let arg0 : BitVec 32 := BitVec.ofNat 32 (i 0).val
  let c14_i32 : BitVec 32 := 14#32
  let v0 : BitVec 32 := Scalar.divsi arg0 c14_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c14_i32 c0_i32_1
  let v7 : BitVec 32 := Scalar.extui v6
  let c0_i32_2 : BitVec 32 := 0#32
  let v8 : BitVec 1 := Scalar.cmpi .slt c14_i32 c0_i32_2
  let v9 : BitVec 32 := Scalar.extui v8
  let v10 : BitVec 32 := Scalar.subi v7 v9
  let v11 : BitVec 1 := Scalar.cmpi .ne v5 v10
  let v12 : BitVec 32 := Scalar.remsi arg0 c14_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c14_i32_4 : BitVec 32 := 14#32
  let c0_i32_5 : BitVec 32 := 0#32
  let v17 : BitVec 1 := Scalar.cmpi .eq c14_i32_4 c0_i32_5
  let c1_i32_6 : BitVec 32 := 1#32
  let v18 : BitVec 32 := Scalar.select v17 c1_i32_6 c14_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc1_transform_1 (i : grid1.Coords) : Fin 4 → Nat :=
  let arg0 : BitVec 32 := BitVec.ofNat 32 (i 0).val
  let c14_i32 : BitVec 32 := 14#32
  let v0 : BitVec 32 := Scalar.divsi arg0 c14_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c14_i32 c0_i32_1
  let v7 : BitVec 32 := Scalar.extui v6
  let c0_i32_2 : BitVec 32 := 0#32
  let v8 : BitVec 1 := Scalar.cmpi .slt c14_i32 c0_i32_2
  let v9 : BitVec 32 := Scalar.extui v8
  let v10 : BitVec 32 := Scalar.subi v7 v9
  let v11 : BitVec 1 := Scalar.cmpi .ne v5 v10
  let v12 : BitVec 32 := Scalar.remsi arg0 c14_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c14_i32_4 : BitVec 32 := 14#32
  let c0_i32_5 : BitVec 32 := 0#32
  let v17 : BitVec 1 := Scalar.cmpi .eq c14_i32_4 c0_i32_5
  let c1_i32_6 : BitVec 32 := 1#32
  let v18 : BitVec 32 := Scalar.select v17 c1_i32_6 c14_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let v27 : BitVec 32 := Scalar.addi v26 c1_i32_10
  let c0_i32_11 : BitVec 32 := 0#32
  let c0_i32_12 : BitVec 32 := 0#32
  let c0_i32_13 : BitVec 32 := 0#32
  ![v16.toNat, v27.toNat, c0_i32_11.toNat, c0_i32_12.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x16x224x9 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x16x224x9 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S27x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1024x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S1x1x896 .i32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S1x896x64 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 1 → Memref sig .tc .vmem S1x1 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev grid2 : Pipeline.Grid := ⟨1, ![56], ![false]⟩

def cc2_transform_0 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_1 (i : grid2.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  let c0_i32_3 : BitVec 32 := 0#32
  ![v1.toNat, c0_i32_0.toNat, c0_i32_1.toNat, c0_i32_2.toNat]

def cc2_transform_2 (i : grid2.Coords) : Fin 4 → Nat :=
  let arg0 : BitVec 32 := BitVec.ofNat 32 (i 0).val
  let c1_i32 : BitVec 32 := 1#32
  let v0 : BitVec 32 := Scalar.addi arg0 c1_i32
  let c55_i32 : BitVec 32 := 55#32
  let v1 : BitVec 32 := Scalar.minsi v0 c55_i32
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc2_transform_3 (i : grid2.Coords) : Fin 6 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  let c0_i32_5 : BitVec 32 := 0#32
  ![c0_i32.toNat, c0_i32_0.toNat, c0_i32_1.toNat, c0_i32_2.toNat, c0_i32_3.toNat, c0_i32_4.toNat]

def cc2_transform_4 (i : grid2.Coords) : Fin 4 → Nat :=
  let arg0 : BitVec 32 := BitVec.ofNat 32 (i 0).val
  let c14_i32 : BitVec 32 := 14#32
  let v0 : BitVec 32 := Scalar.divsi arg0 c14_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c14_i32 c0_i32_1
  let v7 : BitVec 32 := Scalar.extui v6
  let c0_i32_2 : BitVec 32 := 0#32
  let v8 : BitVec 1 := Scalar.cmpi .slt c14_i32 c0_i32_2
  let v9 : BitVec 32 := Scalar.extui v8
  let v10 : BitVec 32 := Scalar.subi v7 v9
  let v11 : BitVec 1 := Scalar.cmpi .ne v5 v10
  let v12 : BitVec 32 := Scalar.remsi arg0 c14_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c14_i32_4 : BitVec 32 := 14#32
  let c0_i32_5 : BitVec 32 := 0#32
  let v17 : BitVec 1 := Scalar.cmpi .eq c14_i32_4 c0_i32_5
  let c1_i32_6 : BitVec 32 := 1#32
  let v18 : BitVec 32 := Scalar.select v17 c1_i32_6 c14_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc2_transform_5 (i : grid2.Coords) : Fin 4 → Nat :=
  let arg0 : BitVec 32 := BitVec.ofNat 32 (i 0).val
  let c14_i32 : BitVec 32 := 14#32
  let v0 : BitVec 32 := Scalar.divsi arg0 c14_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c14_i32 c0_i32_1
  let v7 : BitVec 32 := Scalar.extui v6
  let c0_i32_2 : BitVec 32 := 0#32
  let v8 : BitVec 1 := Scalar.cmpi .slt c14_i32 c0_i32_2
  let v9 : BitVec 32 := Scalar.extui v8
  let v10 : BitVec 32 := Scalar.subi v7 v9
  let v11 : BitVec 1 := Scalar.cmpi .ne v5 v10
  let v12 : BitVec 32 := Scalar.remsi arg0 c14_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c14_i32_4 : BitVec 32 := 14#32
  let c0_i32_5 : BitVec 32 := 0#32
  let v17 : BitVec 1 := Scalar.cmpi .eq c14_i32_4 c0_i32_5
  let c1_i32_6 : BitVec 32 := 1#32
  let v18 : BitVec 32 := Scalar.select v17 c1_i32_6 c14_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc2_transform_6 (i : grid2.Coords) : Fin 4 → Nat :=
  let arg0 : BitVec 32 := BitVec.ofNat 32 (i 0).val
  let c14_i32 : BitVec 32 := 14#32
  let v0 : BitVec 32 := Scalar.divsi arg0 c14_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c14_i32 c0_i32_1
  let v7 : BitVec 32 := Scalar.extui v6
  let c0_i32_2 : BitVec 32 := 0#32
  let v8 : BitVec 1 := Scalar.cmpi .slt c14_i32 c0_i32_2
  let v9 : BitVec 32 := Scalar.extui v8
  let v10 : BitVec 32 := Scalar.subi v7 v9
  let v11 : BitVec 1 := Scalar.cmpi .ne v5 v10
  let v12 : BitVec 32 := Scalar.remsi arg0 c14_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c14_i32_4 : BitVec 32 := 14#32
  let c0_i32_5 : BitVec 32 := 0#32
  let v17 : BitVec 1 := Scalar.cmpi .eq c14_i32_4 c0_i32_5
  let c1_i32_6 : BitVec 32 := 1#32
  let v18 : BitVec 32 := Scalar.select v17 c1_i32_6 c14_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc2_transform_7 (i : grid2.Coords) : Fin 4 → Nat :=
  let arg0 : BitVec 32 := BitVec.ofNat 32 (i 0).val
  let c14_i32 : BitVec 32 := 14#32
  let v0 : BitVec 32 := Scalar.divsi arg0 c14_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c14_i32 c0_i32_1
  let v7 : BitVec 32 := Scalar.extui v6
  let c0_i32_2 : BitVec 32 := 0#32
  let v8 : BitVec 1 := Scalar.cmpi .slt c14_i32 c0_i32_2
  let v9 : BitVec 32 := Scalar.extui v8
  let v10 : BitVec 32 := Scalar.subi v7 v9
  let v11 : BitVec 1 := Scalar.cmpi .ne v5 v10
  let v12 : BitVec 32 := Scalar.remsi arg0 c14_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c14_i32_4 : BitVec 32 := 14#32
  let c0_i32_5 : BitVec 32 := 0#32
  let v17 : BitVec 1 := Scalar.cmpi .eq c14_i32_4 c0_i32_5
  let c1_i32_6 : BitVec 32 := 1#32
  let v18 : BitVec 32 := Scalar.select v17 c1_i32_6 c14_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1x8x112x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x8x112x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x8x112x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S2x2x2x2x64x4 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1x8x112x4 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x8x112x4 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x8x112x4 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1x8x112x4 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 1 → Memref sig .tc .vmem S1x4 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x4 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev grid3 : Pipeline.Grid := ⟨1, ![56], ![false]⟩

def cc3_transform_0 (i : grid3.Coords) : Fin 4 → Nat :=
  let arg0 : BitVec 32 := BitVec.ofNat 32 (i 0).val
  let c14_i32 : BitVec 32 := 14#32
  let v0 : BitVec 32 := Scalar.divsi arg0 c14_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c14_i32 c0_i32_1
  let v7 : BitVec 32 := Scalar.extui v6
  let c0_i32_2 : BitVec 32 := 0#32
  let v8 : BitVec 1 := Scalar.cmpi .slt c14_i32 c0_i32_2
  let v9 : BitVec 32 := Scalar.extui v8
  let v10 : BitVec 32 := Scalar.subi v7 v9
  let v11 : BitVec 1 := Scalar.cmpi .ne v5 v10
  let v12 : BitVec 32 := Scalar.remsi arg0 c14_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c14_i32_4 : BitVec 32 := 14#32
  let c0_i32_5 : BitVec 32 := 0#32
  let v17 : BitVec 1 := Scalar.cmpi .eq c14_i32_4 c0_i32_5
  let c1_i32_6 : BitVec 32 := 1#32
  let v18 : BitVec 32 := Scalar.select v17 c1_i32_6 c14_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc3_transform_1 (i : grid3.Coords) : Fin 4 → Nat :=
  let arg0 : BitVec 32 := BitVec.ofNat 32 (i 0).val
  let c14_i32 : BitVec 32 := 14#32
  let v0 : BitVec 32 := Scalar.divsi arg0 c14_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c14_i32 c0_i32_1
  let v7 : BitVec 32 := Scalar.extui v6
  let c0_i32_2 : BitVec 32 := 0#32
  let v8 : BitVec 1 := Scalar.cmpi .slt c14_i32 c0_i32_2
  let v9 : BitVec 32 := Scalar.extui v8
  let v10 : BitVec 32 := Scalar.subi v7 v9
  let v11 : BitVec 1 := Scalar.cmpi .ne v5 v10
  let v12 : BitVec 32 := Scalar.remsi arg0 c14_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c14_i32_4 : BitVec 32 := 14#32
  let c0_i32_5 : BitVec 32 := 0#32
  let v17 : BitVec 1 := Scalar.cmpi .eq c14_i32_4 c0_i32_5
  let c1_i32_6 : BitVec 32 := 1#32
  let v18 : BitVec 32 := Scalar.select v17 c1_i32_6 c14_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc3_transform_2 (i : grid3.Coords) : Fin 4 → Nat :=
  let arg0 : BitVec 32 := BitVec.ofNat 32 (i 0).val
  let c14_i32 : BitVec 32 := 14#32
  let v0 : BitVec 32 := Scalar.divsi arg0 c14_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c14_i32 c0_i32_1
  let v7 : BitVec 32 := Scalar.extui v6
  let c0_i32_2 : BitVec 32 := 0#32
  let v8 : BitVec 1 := Scalar.cmpi .slt c14_i32 c0_i32_2
  let v9 : BitVec 32 := Scalar.extui v8
  let v10 : BitVec 32 := Scalar.subi v7 v9
  let v11 : BitVec 1 := Scalar.cmpi .ne v5 v10
  let v12 : BitVec 32 := Scalar.remsi arg0 c14_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c14_i32_4 : BitVec 32 := 14#32
  let c0_i32_5 : BitVec 32 := 0#32
  let v17 : BitVec 1 := Scalar.cmpi .eq c14_i32_4 c0_i32_5
  let c1_i32_6 : BitVec 32 := 1#32
  let v18 : BitVec 32 := Scalar.select v17 c1_i32_6 c14_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc3_transform_3 (i : grid3.Coords) : Fin 4 → Nat :=
  let arg0 : BitVec 32 := BitVec.ofNat 32 (i 0).val
  let c14_i32 : BitVec 32 := 14#32
  let v0 : BitVec 32 := Scalar.divsi arg0 c14_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c14_i32 c0_i32_1
  let v7 : BitVec 32 := Scalar.extui v6
  let c0_i32_2 : BitVec 32 := 0#32
  let v8 : BitVec 1 := Scalar.cmpi .slt c14_i32 c0_i32_2
  let v9 : BitVec 32 := Scalar.extui v8
  let v10 : BitVec 32 := Scalar.subi v7 v9
  let v11 : BitVec 1 := Scalar.cmpi .ne v5 v10
  let v12 : BitVec 32 := Scalar.remsi arg0 c14_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c14_i32_4 : BitVec 32 := 14#32
  let c0_i32_5 : BitVec 32 := 0#32
  let v17 : BitVec 1 := Scalar.cmpi .eq c14_i32_4 c0_i32_5
  let c1_i32_6 : BitVec 32 := 1#32
  let v18 : BitVec 32 := Scalar.select v17 c1_i32_6 c14_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 4 → Nat :=
  let arg0 : BitVec 32 := BitVec.ofNat 32 (i 0).val
  let c14_i32 : BitVec 32 := 14#32
  let v0 : BitVec 32 := Scalar.divsi arg0 c14_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c14_i32 c0_i32_1
  let v7 : BitVec 32 := Scalar.extui v6
  let c0_i32_2 : BitVec 32 := 0#32
  let v8 : BitVec 1 := Scalar.cmpi .slt c14_i32 c0_i32_2
  let v9 : BitVec 32 := Scalar.extui v8
  let v10 : BitVec 32 := Scalar.subi v7 v9
  let v11 : BitVec 1 := Scalar.cmpi .ne v5 v10
  let v12 : BitVec 32 := Scalar.remsi arg0 c14_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c14_i32_4 : BitVec 32 := 14#32
  let c0_i32_5 : BitVec 32 := 0#32
  let v17 : BitVec 1 := Scalar.cmpi .eq c14_i32_4 c0_i32_5
  let c1_i32_6 : BitVec 32 := 1#32
  let v18 : BitVec 32 := Scalar.select v17 c1_i32_6 c14_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc3_transform_9 (i : grid3.Coords) : Fin 4 → Nat :=
  let arg0 : BitVec 32 := BitVec.ofNat 32 (i 0).val
  let c14_i32 : BitVec 32 := 14#32
  let v0 : BitVec 32 := Scalar.divsi arg0 c14_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c14_i32 c0_i32_1
  let v7 : BitVec 32 := Scalar.extui v6
  let c0_i32_2 : BitVec 32 := 0#32
  let v8 : BitVec 1 := Scalar.cmpi .slt c14_i32 c0_i32_2
  let v9 : BitVec 32 := Scalar.extui v8
  let v10 : BitVec 32 := Scalar.subi v7 v9
  let v11 : BitVec 1 := Scalar.cmpi .ne v5 v10
  let v12 : BitVec 32 := Scalar.remsi arg0 c14_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c14_i32_4 : BitVec 32 := 14#32
  let c0_i32_5 : BitVec 32 := 0#32
  let v17 : BitVec 1 := Scalar.cmpi .eq c14_i32_4 c0_i32_5
  let c1_i32_6 : BitVec 32 := 1#32
  let v18 : BitVec 32 := Scalar.select v17 c1_i32_6 c14_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc3_transform_10 (i : grid3.Coords) : Fin 4 → Nat :=
  let arg0 : BitVec 32 := BitVec.ofNat 32 (i 0).val
  let c14_i32 : BitVec 32 := 14#32
  let v0 : BitVec 32 := Scalar.divsi arg0 c14_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c14_i32 c0_i32_1
  let v7 : BitVec 32 := Scalar.extui v6
  let c0_i32_2 : BitVec 32 := 0#32
  let v8 : BitVec 1 := Scalar.cmpi .slt c14_i32 c0_i32_2
  let v9 : BitVec 32 := Scalar.extui v8
  let v10 : BitVec 32 := Scalar.subi v7 v9
  let v11 : BitVec 1 := Scalar.cmpi .ne v5 v10
  let v12 : BitVec 32 := Scalar.remsi arg0 c14_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c14_i32_4 : BitVec 32 := 14#32
  let c0_i32_5 : BitVec 32 := 0#32
  let v17 : BitVec 1 := Scalar.cmpi .eq c14_i32_4 c0_i32_5
  let c1_i32_6 : BitVec 32 := 1#32
  let v18 : BitVec 32 := Scalar.select v17 c1_i32_6 c14_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc3_transform_11 (i : grid3.Coords) : Fin 4 → Nat :=
  let arg0 : BitVec 32 := BitVec.ofNat 32 (i 0).val
  let c14_i32 : BitVec 32 := 14#32
  let v0 : BitVec 32 := Scalar.divsi arg0 c14_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c14_i32 c0_i32_1
  let v7 : BitVec 32 := Scalar.extui v6
  let c0_i32_2 : BitVec 32 := 0#32
  let v8 : BitVec 1 := Scalar.cmpi .slt c14_i32 c0_i32_2
  let v9 : BitVec 32 := Scalar.extui v8
  let v10 : BitVec 32 := Scalar.subi v7 v9
  let v11 : BitVec 1 := Scalar.cmpi .ne v5 v10
  let v12 : BitVec 32 := Scalar.remsi arg0 c14_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c14_i32_4 : BitVec 32 := 14#32
  let c0_i32_5 : BitVec 32 := 0#32
  let v17 : BitVec 1 := Scalar.cmpi .eq c14_i32_4 c0_i32_5
  let c1_i32_6 : BitVec 32 := 1#32
  let v18 : BitVec 32 := Scalar.select v17 c1_i32_6 c14_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

abbrev stage3_0 : Fin 2 → Memref sig .tc .vmem S1x8x112x4 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x8x112x4 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x8x112x4 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x8x112x4 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S1x4 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x4 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x4 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x4 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S1x8x112x4 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev stage3_9 : Fin 2 → Memref sig .tc .vmem S1x8x112x4 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev stage3_10 : Fin 2 → Memref sig .tc .vmem S1x8x112x4 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

abbrev stage3_11 : Fin 2 → Memref sig .tc .vmem S1x8x112x4 .f32 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true]
-- ==== ReferenceIdeal.lean ====
abbrev S4x3x224x224 : Shape := ⟨4, ![4, 3, 224, 224]⟩
abbrev S64x3x3x3 : Shape := ⟨4, ![64, 3, 3, 3]⟩
abbrev S64 : Shape := ⟨1, ![64]⟩
abbrev S1024x64 : Shape := ⟨2, ![1024, 64]⟩
abbrev S3x64x3x3 : Shape := ⟨4, ![3, 64, 3, 3]⟩
abbrev S3 : Shape := ⟨1, ![3]⟩
abbrev S_ : Shape := ⟨0, ![]⟩
abbrev S4x3x226x226 : Shape := ⟨4, ![4, 3, 226, 226]⟩
abbrev S64x3x1x1 : Shape := ⟨4, ![64, 3, 1, 1]⟩
abbrev S64x3 : Shape := ⟨2, ![64, 3]⟩
abbrev S64x4x224x224 : Shape := ⟨4, ![64, 4, 224, 224]⟩
abbrev S4x64x224x224 : Shape := ⟨4, ![4, 64, 224, 224]⟩
abbrev S1x64x1x1 : Shape := ⟨4, ![1, 64, 1, 1]⟩
abbrev S4x64x112x112 : Shape := ⟨4, ![4, 64, 112, 112]⟩
abbrev S4x112x112x64 : Shape := ⟨4, ![4, 112, 112, 64]⟩
abbrev S50176x64 : Shape := ⟨2, ![50176, 64]⟩
abbrev S50176 : Shape := ⟨1, ![50176]⟩
abbrev S50176x1 : Shape := ⟨2, ![50176, 1]⟩
abbrev S64x1024 : Shape := ⟨2, ![64, 1024]⟩
abbrev S50176x1024 : Shape := ⟨2, ![50176, 1024]⟩
abbrev S1024 : Shape := ⟨1, ![1024]⟩
abbrev S1x1024 : Shape := ⟨2, ![1, 1024]⟩
abbrev S1 : Shape := ⟨1, ![1]⟩
abbrev S1x1 : Shape := ⟨2, ![1, 1]⟩
abbrev S4x64x112x2x112 : Shape := ⟨5, ![4, 64, 112, 2, 112]⟩
abbrev S4x64x224x112 : Shape := ⟨4, ![4, 64, 224, 112]⟩
abbrev S4x64x224x112x2 : Shape := ⟨5, ![4, 64, 224, 112, 2]⟩
abbrev S4x64x226x226 : Shape := ⟨4, ![4, 64, 226, 226]⟩
abbrev S3x64x1x1 : Shape := ⟨4, ![3, 64, 1, 1]⟩
abbrev S3x64 : Shape := ⟨2, ![3, 64]⟩
abbrev S3x4x224x224 : Shape := ⟨4, ![3, 4, 224, 224]⟩
abbrev S1x3x1x1 : Shape := ⟨4, ![1, 3, 1, 1]⟩
abbrev S4x112x112 : Shape := ⟨3, ![4, 112, 112]⟩

abbrev nBuf : Space → Nat
  | .hbm => 293
  | .vmem => 0
  | .smem => 0
  | _ => 0

abbrev hbmTy0_0 (i : Nat) : BufTy := match i % 128 with
  | 0 => ⟨S4x3x224x224, .f32⟩
  | 1 => ⟨S64x3x3x3, .f32⟩
  | 2 => ⟨S64, .f32⟩
  | 3 => ⟨S64, .f32⟩
  | 4 => ⟨S64, .f32⟩
  | 5 => ⟨S1024x64, .f32⟩
  | 6 => ⟨S3x64x3x3, .f32⟩
  | 7 => ⟨S3, .f32⟩
  | 8 => ⟨S3, .f32⟩
  | 9 => ⟨S3, .f32⟩
  | 10 => ⟨S_, .i32⟩
  | 11 => ⟨S_, .f32⟩
  | 12 => ⟨S4x3x226x226, .f32⟩
  | 13 => ⟨S4x3x224x224, .f32⟩
  | 14 => ⟨S64x3x1x1, .f32⟩
  | 15 => ⟨S64x3, .f32⟩
  | 16 => ⟨S64x4x224x224, .f32⟩
  | 17 => ⟨S4x64x224x224, .f32⟩
  | 18 => ⟨S_, .f32⟩
  | 19 => ⟨S4x64x224x224, .f32⟩
  | 20 => ⟨S4x64x224x224, .f32⟩
  | 21 => ⟨S4x3x224x224, .f32⟩
  | 22 => ⟨S64x3x1x1, .f32⟩
  | 23 => ⟨S64x3, .f32⟩
  | 24 => ⟨S64x4x224x224, .f32⟩
  | 25 => ⟨S4x64x224x224, .f32⟩
  | 26 => ⟨S4x64x224x224, .f32⟩
  | 27 => ⟨S4x3x224x224, .f32⟩
  | 28 => ⟨S64x3x1x1, .f32⟩
  | 29 => ⟨S64x3, .f32⟩
  | 30 => ⟨S64x4x224x224, .f32⟩
  | 31 => ⟨S4x64x224x224, .f32⟩
  | 32 => ⟨S4x64x224x224, .f32⟩
  | 33 => ⟨S4x3x224x224, .f32⟩
  | 34 => ⟨S64x3x1x1, .f32⟩
  | 35 => ⟨S64x3, .f32⟩
  | 36 => ⟨S64x4x224x224, .f32⟩
  | 37 => ⟨S4x64x224x224, .f32⟩
  | 38 => ⟨S4x64x224x224, .f32⟩
  | 39 => ⟨S4x3x224x224, .f32⟩
  | 40 => ⟨S64x3x1x1, .f32⟩
  | 41 => ⟨S64x3, .f32⟩
  | 42 => ⟨S64x4x224x224, .f32⟩
  | 43 => ⟨S4x64x224x224, .f32⟩
  | 44 => ⟨S4x64x224x224, .f32⟩
  | 45 => ⟨S4x3x224x224, .f32⟩
  | 46 => ⟨S64x3x1x1, .f32⟩
  | 47 => ⟨S64x3, .f32⟩
  | 48 => ⟨S64x4x224x224, .f32⟩
  | 49 => ⟨S4x64x224x224, .f32⟩
  | 50 => ⟨S4x64x224x224, .f32⟩
  | 51 => ⟨S4x3x224x224, .f32⟩
  | 52 => ⟨S64x3x1x1, .f32⟩
  | 53 => ⟨S64x3, .f32⟩
  | 54 => ⟨S64x4x224x224, .f32⟩
  | 55 => ⟨S4x64x224x224, .f32⟩
  | 56 => ⟨S4x64x224x224, .f32⟩
  | 57 => ⟨S4x3x224x224, .f32⟩
  | 58 => ⟨S64x3x1x1, .f32⟩
  | 59 => ⟨S64x3, .f32⟩
  | 60 => ⟨S64x4x224x224, .f32⟩
  | 61 => ⟨S4x64x224x224, .f32⟩
  | 62 => ⟨S4x64x224x224, .f32⟩
  | 63 => ⟨S4x3x224x224, .f32⟩
  | 64 => ⟨S64x3x1x1, .f32⟩
  | 65 => ⟨S64x3, .f32⟩
  | 66 => ⟨S64x4x224x224, .f32⟩
  | 67 => ⟨S4x64x224x224, .f32⟩
  | 68 => ⟨S4x64x224x224, .f32⟩
  | 69 => ⟨S1x64x1x1, .f32⟩
  | 70 => ⟨S4x64x224x224, .f32⟩
  | 71 => ⟨S4x64x224x224, .f32⟩
  | 72 => ⟨S_, .f32⟩
  | 73 => ⟨S64, .f32⟩
  | 74 => ⟨S1x64x1x1, .f32⟩
  | 75 => ⟨S_, .f32⟩
  | 76 => ⟨S1x64x1x1, .f32⟩
  | 77 => ⟨S1x64x1x1, .f32⟩
  | 78 => ⟨S_, .i32⟩
  | 79 => ⟨S_, .f32⟩
  | 80 => ⟨S64, .f32⟩
  | 81 => ⟨S1x64x1x1, .f32⟩
  | 82 => ⟨S_, .f32⟩
  | 83 => ⟨S1x64x1x1, .f32⟩
  | 84 => ⟨S1x64x1x1, .f32⟩
  | 85 => ⟨S4x64x224x224, .f32⟩
  | 86 => ⟨S4x64x224x224, .f32⟩
  | 87 => ⟨S4x64x224x224, .f32⟩
  | 88 => ⟨S_, .f32⟩
  | 89 => ⟨S_, .f32⟩
  | 90 => ⟨S_, .f32⟩
  | 91 => ⟨S_, .f32⟩
  | 92 => ⟨S64, .f32⟩
  | 93 => ⟨S1x64x1x1, .f32⟩
  | 94 => ⟨S1x64x1x1, .f32⟩
  | 95 => ⟨S1x64x1x1, .f32⟩
  | 96 => ⟨S_, .f32⟩
  | 97 => ⟨S_, .i1⟩
  | 98 => ⟨S_, .f32⟩
  | 99 => ⟨S_, .f32⟩
  | 100 => ⟨S1x64x1x1, .f32⟩
  | 101 => ⟨S1x64x1x1, .f32⟩
  | 102 => ⟨S4x64x224x224, .f32⟩
  | 103 => ⟨S4x64x224x224, .f32⟩
  | 104 => ⟨S_, .f32⟩
  | 105 => ⟨S1x64x1x1, .f32⟩
  | 106 => ⟨S1x64x1x1, .f32⟩
  | 107 => ⟨S1x64x1x1, .f32⟩
  | 108 => ⟨S4x64x224x224, .f32⟩
  | 109 => ⟨S4x64x224x224, .f32⟩
  | 110 => ⟨S1x64x1x1, .f32⟩
  | 111 => ⟨S4x64x224x224, .f32⟩
  | 112 => ⟨S4x64x224x224, .f32⟩
  | 113 => ⟨S1x64x1x1, .f32⟩
  | 114 => ⟨S4x64x224x224, .f32⟩
  | 115 => ⟨S4x64x224x224, .f32⟩
  | 116 => ⟨S_, .f32⟩
  | 117 => ⟨S4x64x224x224, .f32⟩
  | 118 => ⟨S4x64x224x224, .f32⟩
  | 119 => ⟨S_, .f32⟩
  | 120 => ⟨S_, .f32⟩
  | 121 => ⟨S4x64x112x112, .f32⟩
  | 122 => ⟨S4x112x112x64, .f32⟩
  | 123 => ⟨S50176x64, .f32⟩
  | 124 => ⟨S50176x64, .f32⟩
  | 125 => ⟨S_, .f32⟩
  | 126 => ⟨S50176, .f32⟩
  | 127 => ⟨S50176x1, .f32⟩
  | _ => ⟨S4x3x224x224, .f32⟩

abbrev hbmTy0_1 (i : Nat) : BufTy := match i % 128 with
  | 0 => ⟨S64x1024, .f32⟩
  | 1 => ⟨S50176x1024, .f32⟩
  | 2 => ⟨S_, .f32⟩
  | 3 => ⟨S50176x1024, .f32⟩
  | 4 => ⟨S50176x1024, .f32⟩
  | 5 => ⟨S50176x1024, .f32⟩
  | 6 => ⟨S50176x1024, .f32⟩
  | 7 => ⟨S1024x64, .f32⟩
  | 8 => ⟨S_, .f32⟩
  | 9 => ⟨S1024, .f32⟩
  | 10 => ⟨S1x1024, .f32⟩
  | 11 => ⟨S50176x1024, .f32⟩
  | 12 => ⟨S50176x1024, .f32⟩
  | 13 => ⟨S50176x1024, .i32⟩
  | 14 => ⟨S_, .f32⟩
  | 15 => ⟨S_, .i32⟩
  | 16 => ⟨S50176, .f32⟩
  | 17 => ⟨S50176, .i32⟩
  | 18 => ⟨S_, .i32⟩
  | 19 => ⟨S50176, .i32⟩
  | 20 => ⟨S50176, .i1⟩
  | 21 => ⟨S_, .i32⟩
  | 22 => ⟨S50176, .i32⟩
  | 23 => ⟨S50176, .i32⟩
  | 24 => ⟨S50176, .i32⟩
  | 25 => ⟨S50176x1, .i32⟩
  | 26 => ⟨S1, .i32⟩
  | 27 => ⟨S_, .i32⟩
  | 28 => ⟨S50176x1, .i32⟩
  | 29 => ⟨S50176x1, .i1⟩
  | 30 => ⟨S1x1, .i32⟩
  | 31 => ⟨S50176x1, .i32⟩
  | 32 => ⟨S50176x1, .i1⟩
  | 33 => ⟨S50176x1, .i1⟩
  | 34 => ⟨S_, .i1⟩
  | 35 => ⟨S50176, .i1⟩
  | 36 => ⟨S50176x64, .f32⟩
  | 37 => ⟨S50176x64, .i1⟩
  | 38 => ⟨S_, .f32⟩
  | 39 => ⟨S50176x64, .f32⟩
  | 40 => ⟨S50176x64, .f32⟩
  | 41 => ⟨S50176x64, .f32⟩
  | 42 => ⟨S50176x64, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S50176x64, .f32⟩
  | 50 => ⟨S50176x64, .f32⟩
  | 51 => ⟨S4x112x112x64, .f32⟩
  | 52 => ⟨S4x64x112x112, .f32⟩
  | 53 => ⟨S4x64x112x2x112, .f32⟩
  | 54 => ⟨S4x64x224x112, .f32⟩
  | 55 => ⟨S4x64x224x112x2, .f32⟩
  | 56 => ⟨S4x64x224x224, .f32⟩
  | 57 => ⟨S_, .i32⟩
  | 58 => ⟨S_, .f32⟩
  | 59 => ⟨S4x64x226x226, .f32⟩
  | 60 => ⟨S4x64x224x224, .f32⟩
  | 61 => ⟨S3x64x1x1, .f32⟩
  | 62 => ⟨S3x64, .f32⟩
  | 63 => ⟨S3x4x224x224, .f32⟩
  | 64 => ⟨S4x3x224x224, .f32⟩
  | 65 => ⟨S_, .f32⟩
  | 66 => ⟨S4x3x224x224, .f32⟩
  | 67 => ⟨S4x3x224x224, .f32⟩
  | 68 => ⟨S4x64x224x224, .f32⟩
  | 69 => ⟨S3x64x1x1, .f32⟩
  | 70 => ⟨S3x64, .f32⟩
  | 71 => ⟨S3x4x224x224, .f32⟩
  | 72 => ⟨S4x3x224x224, .f32⟩
  | 73 => ⟨S4x3x224x224, .f32⟩
  | 74 => ⟨S4x64x224x224, .f32⟩
  | 75 => ⟨S3x64x1x1, .f32⟩
  | 76 => ⟨S3x64, .f32⟩
  | 77 => ⟨S3x4x224x224, .f32⟩
  | 78 => ⟨S4x3x224x224, .f32⟩
  | 79 => ⟨S4x3x224x224, .f32⟩
  | 80 => ⟨S4x64x224x224, .f32⟩
  | 81 => ⟨S3x64x1x1, .f32⟩
  | 82 => ⟨S3x64, .f32⟩
  | 83 => ⟨S3x4x224x224, .f32⟩
  | 84 => ⟨S4x3x224x224, .f32⟩
  | 85 => ⟨S4x3x224x224, .f32⟩
  | 86 => ⟨S4x64x224x224, .f32⟩
  | 87 => ⟨S3x64x1x1, .f32⟩
  | 88 => ⟨S3x64, .f32⟩
  | 89 => ⟨S3x4x224x224, .f32⟩
  | 90 => ⟨S4x3x224x224, .f32⟩
  | 91 => ⟨S4x3x224x224, .f32⟩
  | 92 => ⟨S4x64x224x224, .f32⟩
  | 93 => ⟨S3x64x1x1, .f32⟩
  | 94 => ⟨S3x64, .f32⟩
  | 95 => ⟨S3x4x224x224, .f32⟩
  | 96 => ⟨S4x3x224x224, .f32⟩
  | 97 => ⟨S4x3x224x224, .f32⟩
  | 98 => ⟨S4x64x224x224, .f32⟩
  | 99 => ⟨S3x64x1x1, .f32⟩
  | 100 => ⟨S3x64, .f32⟩
  | 101 => ⟨S3x4x224x224, .f32⟩
  | 102 => ⟨S4x3x224x224, .f32⟩
  | 103 => ⟨S4x3x224x224, .f32⟩
  | 104 => ⟨S4x64x224x224, .f32⟩
  | 105 => ⟨S3x64x1x1, .f32⟩
  | 106 => ⟨S3x64, .f32⟩
  | 107 => ⟨S3x4x224x224, .f32⟩
  | 108 => ⟨S4x3x224x224, .f32⟩
  | 109 => ⟨S4x3x224x224, .f32⟩
  | 110 => ⟨S4x64x224x224, .f32⟩
  | 111 => ⟨S3x64x1x1, .f32⟩
  | 112 => ⟨S3x64, .f32⟩
  | 113 => ⟨S3x4x224x224, .f32⟩
  | 114 => ⟨S4x3x224x224, .f32⟩
  | 115 => ⟨S4x3x224x224, .f32⟩
  | 116 => ⟨S1x3x1x1, .f32⟩
  | 117 => ⟨S4x3x224x224, .f32⟩
  | 118 => ⟨S4x3x224x224, .f32⟩
  | 119 => ⟨S_, .f32⟩
  | 120 => ⟨S3, .f32⟩
  | 121 => ⟨S1x3x1x1, .f32⟩
  | 122 => ⟨S_, .f32⟩
  | 123 => ⟨S1x3x1x1, .f32⟩
  | 124 => ⟨S1x3x1x1, .f32⟩
  | 125 => ⟨S_, .i32⟩
  | 126 => ⟨S_, .f32⟩
  | 127 => ⟨S3, .f32⟩
  | _ => ⟨S4x3x224x224, .f32⟩

abbrev hbmTy0_2 (i : Nat) : BufTy := match i % 128 with
  | 0 => ⟨S1x3x1x1, .f32⟩
  | 1 => ⟨S_, .f32⟩
  | 2 => ⟨S1x3x1x1, .f32⟩
  | 3 => ⟨S1x3x1x1, .f32⟩
  | 4 => ⟨S4x3x224x224, .f32⟩
  | 5 => ⟨S4x3x224x224, .f32⟩
  | 6 => ⟨S4x3x224x224, .f32⟩
  | 7 => ⟨S_, .f32⟩
  | 8 => ⟨S_, .f32⟩
  | 9 => ⟨S_, .f32⟩
  | 10 => ⟨S_, .f32⟩
  | 11 => ⟨S3, .f32⟩
  | 12 => ⟨S1x3x1x1, .f32⟩
  | 13 => ⟨S1x3x1x1, .f32⟩
  | 14 => ⟨S1x3x1x1, .f32⟩
  | 15 => ⟨S_, .f32⟩
  | 16 => ⟨S_, .i1⟩
  | 17 => ⟨S_, .f32⟩
  | 18 => ⟨S_, .f32⟩
  | 19 => ⟨S1x3x1x1, .f32⟩
  | 20 => ⟨S1x3x1x1, .f32⟩
  | 21 => ⟨S4x3x224x224, .f32⟩
  | 22 => ⟨S4x3x224x224, .f32⟩
  | 23 => ⟨S_, .f32⟩
  | 24 => ⟨S1x3x1x1, .f32⟩
  | 25 => ⟨S1x3x1x1, .f32⟩
  | 26 => ⟨S1x3x1x1, .f32⟩
  | 27 => ⟨S4x3x224x224, .f32⟩
  | 28 => ⟨S4x3x224x224, .f32⟩
  | 29 => ⟨S1x3x1x1, .f32⟩
  | 30 => ⟨S4x3x224x224, .f32⟩
  | 31 => ⟨S4x3x224x224, .f32⟩
  | 32 => ⟨S1x3x1x1, .f32⟩
  | 33 => ⟨S4x3x224x224, .f32⟩
  | 34 => ⟨S4x3x224x224, .f32⟩
  | 35 => ⟨S4x3x224x224, .f32⟩
  | 36 => ⟨S4x112x112, .i32⟩
  | _ => ⟨S4x3x224x224, .f32⟩

abbrev hbmTy (i : Nat) : BufTy := match i / 128 with
  | 0 => hbmTy0_0 i
  | 1 => hbmTy0_1 i
  | 2 => hbmTy0_2 i
  | _ => ⟨S4x3x224x224, .f32⟩

abbrev bufTy : (tb : Table) → Fin (tcTables nBuf tb) → BufTy
  | .hbm, ⟨i, _⟩ => hbmTy i
  | _, _ => ⟨S4x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_cst_0 : Ref sig .tc := ⟨.hbm, 72, rfl⟩
abbrev main_v59 : Ref sig .tc := ⟨.hbm, 73, rfl⟩
abbrev main_v60 : Ref sig .tc := ⟨.hbm, 74, rfl⟩
abbrev main_cst_1 : Ref sig .tc := ⟨.hbm, 75, rfl⟩
abbrev main_v61 : Ref sig .tc := ⟨.hbm, 76, rfl⟩
abbrev main_v62 : Ref sig .tc := ⟨.hbm, 77, rfl⟩
abbrev main_c_2 : Ref sig .tc := ⟨.hbm, 78, rfl⟩
abbrev main_call1_cst : Ref sig .tc := ⟨.hbm, 79, rfl⟩
abbrev main_call1_v0 : Ref sig .tc := ⟨.hbm, 80, rfl⟩
abbrev main_call1_v1 : Ref sig .tc := ⟨.hbm, 81, rfl⟩
abbrev main_call1_cst_0 : Ref sig .tc := ⟨.hbm, 82, rfl⟩
abbrev main_call1_v2 : Ref sig .tc := ⟨.hbm, 83, rfl⟩
abbrev main_call1_v3 : Ref sig .tc := ⟨.hbm, 84, rfl⟩
abbrev main_call1_v4 : Ref sig .tc := ⟨.hbm, 85, rfl⟩
abbrev main_call1_v5 : Ref sig .tc := ⟨.hbm, 86, rfl⟩
abbrev main_call1_v6 : Ref sig .tc := ⟨.hbm, 87, rfl⟩
abbrev main_call1_v7 : Ref sig .tc := ⟨.hbm, 88, rfl⟩
abbrev main_call1_cst_1 : Ref sig .tc := ⟨.hbm, 89, rfl⟩
abbrev main_call1_v8 : Ref sig .tc := ⟨.hbm, 90, rfl⟩
abbrev main_call1_cst_2 : Ref sig .tc := ⟨.hbm, 91, rfl⟩
abbrev main_call1_v9 : Ref sig .tc := ⟨.hbm, 92, rfl⟩
abbrev main_call1_v10 : Ref sig .tc := ⟨.hbm, 93, rfl⟩
abbrev main_call1_v11 : Ref sig .tc := ⟨.hbm, 94, rfl⟩
abbrev main_call1_v12 : Ref sig .tc := ⟨.hbm, 95, rfl⟩
abbrev main_call1_cst_3 : Ref sig .tc := ⟨.hbm, 96, rfl⟩
abbrev main_call1_v13 : Ref sig .tc := ⟨.hbm, 97, rfl⟩
abbrev main_call1_cst_4 : Ref sig .tc := ⟨.hbm, 98, rfl⟩
abbrev main_call1_call0_v0 : Ref sig .tc := ⟨.hbm, 99, rfl⟩
abbrev main_call1_call0_v1 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_cst_3 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_call2_cst : Ref sig .tc := ⟨.hbm, 116, rfl⟩
abbrev main_call2_v0 : Ref sig .tc := ⟨.hbm, 117, rfl⟩
abbrev main_v77 : Ref sig .tc := ⟨.hbm, 118, rfl⟩
abbrev main_cst_4 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_cst_5 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_cst_6 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_cst_7 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_call3_v0 : Ref sig .tc := ⟨.hbm, 141, rfl⟩
abbrev main_call3_cst : Ref sig .tc := ⟨.hbm, 142, rfl⟩
abbrev main_call3_c : Ref sig .tc := ⟨.hbm, 143, rfl⟩
abbrev main_call3_v1_0 : Ref sig .tc := ⟨.hbm, 144, rfl⟩
abbrev main_v96 : Ref sig .tc := ⟨.hbm, 145, rfl⟩
abbrev main_call4_c : Ref sig .tc := ⟨.hbm, 146, rfl⟩
abbrev main_call4_v0 : Ref sig .tc := ⟨.hbm, 147, rfl⟩
abbrev main_call4_v1 : Ref sig .tc := ⟨.hbm, 148, rfl⟩
abbrev main_call4_c_0 : Ref sig .tc := ⟨.hbm, 149, rfl⟩
abbrev main_call4_v2 : Ref sig .tc := ⟨.hbm, 150, rfl⟩
abbrev main_call4_v3 : Ref sig .tc := ⟨.hbm, 151, rfl⟩
abbrev main_call4_v4 : Ref sig .tc := ⟨.hbm, 152, rfl⟩
abbrev main_call4_v5 : Ref sig .tc := ⟨.hbm, 153, rfl⟩
abbrev main_call4_c_1 : Ref sig .tc := ⟨.hbm, 154, rfl⟩
abbrev main_call4_c_2 : Ref sig .tc := ⟨.hbm, 155, rfl⟩
abbrev main_call4_v6 : Ref sig .tc := ⟨.hbm, 156, rfl⟩
abbrev main_call4_v7 : Ref sig .tc := ⟨.hbm, 157, rfl⟩
abbrev main_call4_v8 : Ref sig .tc := ⟨.hbm, 158, rfl⟩
abbrev main_call4_v9 : Ref sig .tc := ⟨.hbm, 159, rfl⟩
abbrev main_call4_v10 : Ref sig .tc := ⟨.hbm, 160, rfl⟩
abbrev main_call4_v11 : Ref sig .tc := ⟨.hbm, 161, rfl⟩
abbrev main_call4_c_3 : Ref sig .tc := ⟨.hbm, 162, rfl⟩
abbrev main_call4_v12 : Ref sig .tc := ⟨.hbm, 163, rfl⟩
abbrev main_call4_v13 : Ref sig .tc := ⟨.hbm, 164, rfl⟩
abbrev main_call4_v14 : Ref sig .tc := ⟨.hbm, 165, rfl⟩
abbrev main_call4_cst : Ref sig .tc := ⟨.hbm, 166, rfl⟩
abbrev main_call4_v15 : Ref sig .tc := ⟨.hbm, 167, rfl⟩
abbrev main_v97 : Ref sig .tc := ⟨.hbm, 168, rfl⟩
abbrev main_v98 : Ref sig .tc := ⟨.hbm, 169, rfl⟩
abbrev main_v99 : Ref sig .tc := ⟨.hbm, 170, rfl⟩
abbrev main_cst_8 : Ref sig .tc := ⟨.hbm, 171, rfl⟩
abbrev main_v100 : Ref sig .tc := ⟨.hbm, 172, rfl⟩
abbrev main_cst_9 : Ref sig .tc := ⟨.hbm, 173, rfl⟩
abbrev main_v101 : Ref sig .tc := ⟨.hbm, 174, rfl⟩
abbrev main_cst_10 : Ref sig .tc := ⟨.hbm, 175, rfl⟩
abbrev main_v102 : Ref sig .tc := ⟨.hbm, 176, rfl⟩
abbrev main_v103 : Ref sig .tc := ⟨.hbm, 177, rfl⟩
abbrev main_v104 : Ref sig .tc := ⟨.hbm, 178, rfl⟩
abbrev main_v105 : Ref sig .tc := ⟨.hbm, 179, rfl⟩
abbrev main_v106 : Ref sig .tc := ⟨.hbm, 180, rfl⟩
abbrev main_v107 : Ref sig .tc := ⟨.hbm, 181, rfl⟩
abbrev main_v108 : Ref sig .tc := ⟨.hbm, 182, rfl⟩
abbrev main_v109 : Ref sig .tc := ⟨.hbm, 183, rfl⟩
abbrev main_v110 : Ref sig .tc := ⟨.hbm, 184, rfl⟩
abbrev main_c_11 : Ref sig .tc := ⟨.hbm, 185, rfl⟩
abbrev main_call5_v0 : Ref sig .tc := ⟨.hbm, 186, rfl⟩
abbrev main_v111 : Ref sig .tc := ⟨.hbm, 187, rfl⟩
abbrev main_v112 : Ref sig .tc := ⟨.hbm, 188, rfl⟩
abbrev main_v113 : Ref sig .tc := ⟨.hbm, 189, rfl⟩
abbrev main_v114 : Ref sig .tc := ⟨.hbm, 190, rfl⟩
abbrev main_v115 : Ref sig .tc := ⟨.hbm, 191, rfl⟩
abbrev main_v116 : Ref sig .tc := ⟨.hbm, 192, rfl⟩
abbrev main_cst_12 : Ref sig .tc := ⟨.hbm, 193, rfl⟩
abbrev main_v117 : Ref sig .tc := ⟨.hbm, 194, rfl⟩
abbrev main_v118 : Ref sig .tc := ⟨.hbm, 195, rfl⟩
abbrev main_v119 : Ref sig .tc := ⟨.hbm, 196, rfl⟩
abbrev main_v120 : Ref sig .tc := ⟨.hbm, 197, rfl⟩
abbrev main_v121 : Ref sig .tc := ⟨.hbm, 198, rfl⟩
abbrev main_v122 : Ref sig .tc := ⟨.hbm, 199, rfl⟩
abbrev main_v123 : Ref sig .tc := ⟨.hbm, 200, rfl⟩
abbrev main_v124 : Ref sig .tc := ⟨.hbm, 201, rfl⟩
abbrev main_v125 : Ref sig .tc := ⟨.hbm, 202, rfl⟩
abbrev main_v126 : Ref sig .tc := ⟨.hbm, 203, rfl⟩
abbrev main_v127 : Ref sig .tc := ⟨.hbm, 204, rfl⟩
abbrev main_v128 : Ref sig .tc := ⟨.hbm, 205, rfl⟩
abbrev main_v129 : Ref sig .tc := ⟨.hbm, 206, rfl⟩
abbrev main_v130 : Ref sig .tc := ⟨.hbm, 207, rfl⟩
abbrev main_v131 : Ref sig .tc := ⟨.hbm, 208, rfl⟩
abbrev main_v132 : Ref sig .tc := ⟨.hbm, 209, rfl⟩
abbrev main_v133 : Ref sig .tc := ⟨.hbm, 210, rfl⟩
abbrev main_v134 : Ref sig .tc := ⟨.hbm, 211, rfl⟩
abbrev main_v135 : Ref sig .tc := ⟨.hbm, 212, rfl⟩
abbrev main_v136 : Ref sig .tc := ⟨.hbm, 213, rfl⟩
abbrev main_v137 : Ref sig .tc := ⟨.hbm, 214, rfl⟩
abbrev main_v138 : Ref sig .tc := ⟨.hbm, 215, rfl⟩
abbrev main_v139 : Ref sig .tc := ⟨.hbm, 216, rfl⟩
abbrev main_v140 : Ref sig .tc := ⟨.hbm, 217, rfl⟩
abbrev main_v141 : Ref sig .tc := ⟨.hbm, 218, rfl⟩
abbrev main_v142 : Ref sig .tc := ⟨.hbm, 219, rfl⟩
abbrev main_v143 : Ref sig .tc := ⟨.hbm, 220, rfl⟩
abbrev main_v144 : Ref sig .tc := ⟨.hbm, 221, rfl⟩
abbrev main_v145 : Ref sig .tc := ⟨.hbm, 222, rfl⟩
abbrev main_v146 : Ref sig .tc := ⟨.hbm, 223, rfl⟩
abbrev main_v147 : Ref sig .tc := ⟨.hbm, 224, rfl⟩
abbrev main_v148 : Ref sig .tc := ⟨.hbm, 225, rfl⟩
abbrev main_v149 : Ref sig .tc := ⟨.hbm, 226, rfl⟩
abbrev main_v150 : Ref sig .tc := ⟨.hbm, 227, rfl⟩
abbrev main_v151 : Ref sig .tc := ⟨.hbm, 228, rfl⟩
abbrev main_v152 : Ref sig .tc := ⟨.hbm, 229, rfl⟩
abbrev main_v153 : Ref sig .tc := ⟨.hbm, 230, rfl⟩
abbrev main_v154 : Ref sig .tc := ⟨.hbm, 231, rfl⟩
abbrev main_v155 : Ref sig .tc := ⟨.hbm, 232, rfl⟩
abbrev main_v156 : Ref sig .tc := ⟨.hbm, 233, rfl⟩
abbrev main_v157 : Ref sig .tc := ⟨.hbm, 234, rfl⟩
abbrev main_v158 : Ref sig .tc := ⟨.hbm, 235, rfl⟩
abbrev main_v159 : Ref sig .tc := ⟨.hbm, 236, rfl⟩
abbrev main_v160 : Ref sig .tc := ⟨.hbm, 237, rfl⟩
abbrev main_v161 : Ref sig .tc := ⟨.hbm, 238, rfl⟩
abbrev main_v162 : Ref sig .tc := ⟨.hbm, 239, rfl⟩
abbrev main_v163 : Ref sig .tc := ⟨.hbm, 240, rfl⟩
abbrev main_v164 : Ref sig .tc := ⟨.hbm, 241, rfl⟩
abbrev main_v165 : Ref sig .tc := ⟨.hbm, 242, rfl⟩
abbrev main_v166 : Ref sig .tc := ⟨.hbm, 243, rfl⟩
abbrev main_v167 : Ref sig .tc := ⟨.hbm, 244, rfl⟩
abbrev main_v168 : Ref sig .tc := ⟨.hbm, 245, rfl⟩
abbrev main_v169 : Ref sig .tc := ⟨.hbm, 246, rfl⟩
abbrev main_cst_13 : Ref sig .tc := ⟨.hbm, 247, rfl⟩
abbrev main_v170 : Ref sig .tc := ⟨.hbm, 248, rfl⟩
abbrev main_v171 : Ref sig .tc := ⟨.hbm, 249, rfl⟩
abbrev main_cst_14 : Ref sig .tc := ⟨.hbm, 250, rfl⟩
abbrev main_v172 : Ref sig .tc := ⟨.hbm, 251, rfl⟩
abbrev main_v173 : Ref sig .tc := ⟨.hbm, 252, rfl⟩
abbrev main_c_15 : Ref sig .tc := ⟨.hbm, 253, rfl⟩
abbrev main_call6_cst : Ref sig .tc := ⟨.hbm, 254, rfl⟩
abbrev main_call6_v0 : Ref sig .tc := ⟨.hbm, 255, rfl⟩
abbrev main_call6_v1 : Ref sig .tc := ⟨.hbm, 256, rfl⟩
abbrev main_call6_cst_0 : Ref sig .tc := ⟨.hbm, 257, rfl⟩
abbrev main_call6_v2 : Ref sig .tc := ⟨.hbm, 258, rfl⟩
abbrev main_call6_v3 : Ref sig .tc := ⟨.hbm, 259, rfl⟩
abbrev main_call6_v4 : Ref sig .tc := ⟨.hbm, 260, rfl⟩
abbrev main_call6_v5 : Ref sig .tc := ⟨.hbm, 261, rfl⟩
abbrev main_call6_v6 : Ref sig .tc := ⟨.hbm, 262, rfl⟩
abbrev main_call6_v7 : Ref sig .tc := ⟨.hbm, 263, rfl⟩
abbrev main_call6_cst_1 : Ref sig .tc := ⟨.hbm, 264, rfl⟩
abbrev main_call6_v8 : Ref sig .tc := ⟨.hbm, 265, rfl⟩
abbrev main_call6_cst_2 : Ref sig .tc := ⟨.hbm, 266, rfl⟩
abbrev main_call6_v9 : Ref sig .tc := ⟨.hbm, 267, rfl⟩
abbrev main_call6_v10 : Ref sig .tc := ⟨.hbm, 268, rfl⟩
abbrev main_call6_v11 : Ref sig .tc := ⟨.hbm, 269, rfl⟩
abbrev main_call6_v12 : Ref sig .tc := ⟨.hbm, 270, rfl⟩
abbrev main_call6_cst_3 : Ref sig .tc := ⟨.hbm, 271, rfl⟩
abbrev main_call6_v13 : Ref sig .tc := ⟨.hbm, 272, rfl⟩
abbrev main_call6_cst_4 : Ref sig .tc := ⟨.hbm, 273, rfl⟩
abbrev main_call6_call0_v0 : Ref sig .tc := ⟨.hbm, 274, rfl⟩
abbrev main_call6_call0_v1 : Ref sig .tc := ⟨.hbm, 275, rfl⟩
abbrev main_v174 : Ref sig .tc := ⟨.hbm, 276, rfl⟩
abbrev main_v175 : Ref sig .tc := ⟨.hbm, 277, rfl⟩
abbrev main_v176 : Ref sig .tc := ⟨.hbm, 278, rfl⟩
abbrev main_cst_16 : Ref sig .tc := ⟨.hbm, 279, rfl⟩
abbrev main_v177 : Ref sig .tc := ⟨.hbm, 280, rfl⟩
abbrev main_v178 : Ref sig .tc := ⟨.hbm, 281, rfl⟩
abbrev main_v179 : Ref sig .tc := ⟨.hbm, 282, rfl⟩
abbrev main_v180 : Ref sig .tc := ⟨.hbm, 283, rfl⟩
abbrev main_v181 : Ref sig .tc := ⟨.hbm, 284, rfl⟩
abbrev main_v182 : Ref sig .tc := ⟨.hbm, 285, rfl⟩
abbrev main_v183 : Ref sig .tc := ⟨.hbm, 286, rfl⟩
abbrev main_v184 : Ref sig .tc := ⟨.hbm, 287, rfl⟩
abbrev main_v185 : Ref sig .tc := ⟨.hbm, 288, rfl⟩
abbrev main_v186 : Ref sig .tc := ⟨.hbm, 289, rfl⟩
abbrev main_v187 : Ref sig .tc := ⟨.hbm, 290, rfl⟩
abbrev main_v188 : Ref sig .tc := ⟨.hbm, 291, rfl⟩
abbrev main_v189 : Ref sig .tc := ⟨.hbm, 292, rfl⟩

abbrev nD : Nat := 1
abbrev τ : Topo := Topo.v7x

variable {F : FTy → Type} [FloatOps F]
-- ==== Proof.Spec.lean ====
/- The mathematics both programs compute, over the reals and over plain natural-number indices, and the facts about it
   that the two readings meet in: the normalisation in its two forms, and the nearest codeword. -/
module

public import Idealize.ShloMosaic.Lib.Pipeline.Value
public import Idealize.ShloMosaic.PureOps.Ideal.Laws

@[expose] public section

noncomputable section

namespace Cert.Spec

open Idealize.ShloMosaic

/-- The ten arguments as real-valued functions of natural-number indices. -/
structure Args where
  x : ℕ → ℕ → ℕ → ℕ → ℝ
  w1 : ℕ → ℕ → ℕ → ℕ → ℝ
  c1 : ℕ → ℝ
  g1 : ℕ → ℝ
  b1 : ℕ → ℝ
  cb : ℕ → ℕ → ℝ
  w2 : ℕ → ℕ → ℕ → ℕ → ℝ
  c2 : ℕ → ℝ
  g2 : ℕ → ℝ
  b2 : ℕ → ℝ

/-- A 224 × 224 image with a border of zeros one pixel wide. -/
def pad1 (f : ℕ → ℕ → ℝ) (y x : ℕ) : ℝ :=
  if 1 ≤ y ∧ y ≤ 224 ∧ 1 ≤ x ∧ x ≤ 224 then f (y - 1) (x - 1) else 0

/-- A 3 × 3 convolution of `n` channels that keeps the image's size. -/
def conv (n : ℕ) (img : ℕ → ℕ → ℕ → ℝ) (w : ℕ → ℕ → ℕ → ℝ) (y x : ℕ) : ℝ :=
  ∑ ky ∈ Finset.range 3, ∑ kx ∈ Finset.range 3, ∑ ci ∈ Finset.range n, pad1 (img ci) (y + ky) (x + kx) * w ci ky kx

/-- The sum over the four images' pixels. -/
def tot (f : ℕ → ℕ → ℕ → ℝ) : ℝ :=
  ∑ b ∈ Finset.range 4, ∑ y ∈ Finset.range 224, ∑ x ∈ Finset.range 224, f b y x

def mu (f : ℕ → ℕ → ℕ → ℝ) : ℝ := tot f / 200704

def var (f : ℕ → ℕ → ℕ → ℝ) : ℝ := tot (fun b y x => f b y x * f b y x) / 200704 - mu f * mu f

/-- The small constant under the square root. -/
def eps : ℝ := (Ideal.ofBits .f32 0x3727C5AC#32).toReal

/-- The normalisation of a channel. -/
def bn (f : ℕ → ℕ → ℕ → ℝ) (g b : ℝ) (n y x : ℕ) : ℝ :=
  (f n y x - mu f) * (g * (Real.sqrt (var f + eps))⁻¹) + b

/-! ### Sums over a range cut into equal stretches -/

theorem sum_range_mul {M : Type} [AddCommMonoid M] (a b : ℕ) (f : ℕ → M) :
    ∑ n ∈ Finset.range (a * b), f n = ∑ i ∈ Finset.range a, ∑ j ∈ Finset.range b, f (i * b + j) := by
  induction a with
  | zero => simp
  | succ a ih => rw [Nat.succ_mul, Finset.sum_range_add, ih, Finset.sum_range_succ]

theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem coe_max (a b : ℝ) : max (a : EReal) (b : EReal) = ((max a b : ℝ) : EReal) := by
  rcases le_total a b with h | h
  · rw [max_eq_right h, max_eq_right (EReal.coe_le_coe_iff.2 h)]
  · rw [max_eq_left h, max_eq_left (EReal.coe_le_coe_iff.2 h)]

theorem coe_min (a b : ℝ) : min (a : EReal) (b : EReal) = ((min a b : ℝ) : EReal) := by
  rcases le_total a b with h | h
  · rw [min_eq_left h, min_eq_left (EReal.coe_le_coe_iff.2 h)]
  · rw [min_eq_right h, min_eq_right (EReal.coe_le_coe_iff.2 h)]

theorem div_coe_coe (a b : ℝ) (h : b ≠ 0) : Ideal.div (a : EReal) (b : EReal) = ((a / b : ℝ) : EReal) := by
  rw [Ideal.div_coe h, ← EReal.coe_mul, mul_one_div]

/-! ### The constants -/

theorem eps_pos : 0 < eps := by
  unfold eps
  norm_num [Ideal.ofBits, Ideal.ieee, Nat.shiftRight_eq_div_pow, BitVec.extractLsb']

theorem ofBits_eps : Ideal.ofBits .f32 0x3727C5AC#32 = ((eps : ℝ) : EReal) := by
  unfold eps
  norm_num [Ideal.ofBits, Ideal.ieee, Nat.shiftRight_eq_div_pow, BitVec.extractLsb']

theorem ofBits_npix : Ideal.ofBits .f32 0x48440000#32 = ((200704 : ℝ) : EReal) := by
  norm_num [Ideal.ofBits, Ideal.ieee, Nat.shiftRight_eq_div_pow, BitVec.extractLsb']

theorem ofBits_ntok : Ideal.ofBits .f32 0x4A440000#32 = ((3211264 : ℝ) : EReal) := by
  norm_num [Ideal.ofBits, Ideal.ieee, Nat.shiftRight_eq_div_pow, BitVec.extractLsb']

theorem ofBits_one : Ideal.ofBits .f32 0x3F800000#32 = ((1 : ℝ) : EReal) := by
  norm_num [Ideal.ofBits, Ideal.ieee, Nat.shiftRight_eq_div_pow, BitVec.extractLsb']

theorem ofBits_two : Ideal.ofBits .f32 0x40000000#32 = ((2 : ℝ) : EReal) := by
  norm_num [Ideal.ofBits, Ideal.ieee, Nat.shiftRight_eq_div_pow, BitVec.extractLsb']

theorem ofBits_top : Ideal.ofBits .f32 0x7F800000#32 = ⊤ := by
  norm_num [Ideal.ofBits, Ideal.ieee, Nat.shiftRight_eq_div_pow, BitVec.extractLsb']

theorem ofBits_bot : Ideal.ofBits .f32 0xFF800000#32 = ⊥ := by
  norm_num [Ideal.ofBits, Ideal.ieee, Nat.shiftRight_eq_div_pow, BitVec.extractLsb']

/-! ### The normalisation, in the two forms the programs compute it -/

theorem tot_add (f g : ℕ → ℕ → ℕ → ℝ) : tot (fun b y x => f b y x + g b y x) = tot f + tot g := by
  simp only [tot, Finset.sum_add_distrib]

theorem tot_mul (a : ℝ) (f : ℕ → ℕ → ℕ → ℝ) : tot (fun b y x => a * f b y x) = a * tot f := by
  simp only [tot, Finset.mul_sum]

theorem tot_const (a : ℝ) : tot (fun _ _ _ => a) = 200704 * a := by
  simp only [tot, Finset.sum_const, Finset.card_range, nsmul_eq_mul]
  push_cast
  ring

theorem tot_nonneg (f : ℕ → ℕ → ℕ → ℝ) (h : ∀ b y x, 0 ≤ f b y x) : 0 ≤ tot f :=
  Finset.sum_nonneg fun _ _ => Finset.sum_nonneg fun _ _ => Finset.sum_nonneg fun _ _ => h ..

theorem mu_add (f : ℕ → ℕ → ℕ → ℝ) (a : ℝ) : tot (fun b y x => f b y x + a) / 200704 = mu f + a := by
  rw [tot_add f fun _ _ _ => a, tot_const, mu]
  ring

/-- The mean of the squared distances to the mean is the mean of the squares less the mean's square. -/
theorem var_centred (f : ℕ → ℕ → ℕ → ℝ) (a : ℝ) :
    tot (fun b y x => (f b y x + a - (mu f + a)) * (f b y x + a - (mu f + a))) / 200704 = var f := by
  have h : (fun b y x => (f b y x + a - (mu f + a)) * (f b y x + a - (mu f + a)))
      = fun b y x => f b y x * f b y x + (-2 * mu f * f b y x + mu f * mu f) := by
    funext b y x; ring
  rw [h, tot_add (fun b y x => f b y x * f b y x) fun b y x => -2 * mu f * f b y x + mu f * mu f,
    tot_add (fun b y x => -2 * mu f * f b y x) fun _ _ _ => mu f * mu f, tot_mul, tot_const, var]
  have h2 : tot f = 200704 * mu f := by rw [mu]; ring
  rw [h2]
  ring

theorem var_nonneg (f : ℕ → ℕ → ℕ → ℝ) : 0 ≤ var f := by
  rw [← var_centred f 0]
  exact div_nonneg (tot_nonneg _ fun b y x => mul_self_nonneg _) (by norm_num)

theorem var_eps_pos (f : ℕ → ℕ → ℕ → ℝ) : 0 < var f + eps := add_pos_of_nonneg_of_pos (var_nonneg f) eps_pos

theorem sqrt_pos (f : ℕ → ℕ → ℕ → ℝ) : 0 < Real.sqrt (var f + eps) := Real.sqrt_pos.2 (var_eps_pos f)

/-- One multiplication and one addition, the mean folded into the addend. -/
theorem bn_scale (f : ℕ → ℕ → ℕ → ℝ) (g b : ℝ) (n y x : ℕ) :
    f n y x * (g * (Real.sqrt (var f + eps))⁻¹) + (b - mu f * (g * (Real.sqrt (var f + eps))⁻¹)) = bn f g b n y x := by
  rw [bn]; ring

/-- The usual form: an added constant cancels against the mean. -/
theorem bn_div (f : ℕ → ℕ → ℕ → ℝ) (a g b : ℝ) (n y x : ℕ) :
    (f n y x + a - (mu f + a)) / Real.sqrt (var f + eps) * g + b = bn f g b n y x := by
  rw [bn, div_eq_mul_inv]; ring

/-! ### The first half: pooled pixels as tokens, distances, the nearest codeword -/

variable (D : Args)

/-- The first convolution, without its bias. -/
def h1 (o b y x : ℕ) : ℝ := conv 3 (D.x b) (D.w1 o) y x

/-- Normalised and rectified. -/
def r1 (o b y x : ℕ) : ℝ := max (bn (h1 D o) (D.g1 o) (D.b1 o) b y x) 0

/-- The largest of four pixels. -/
def pool (f : ℕ → ℕ → ℝ) (y x : ℕ) : ℝ :=
  max (max (f (2 * y) (2 * x)) (f (2 * y) (2 * x + 1))) (max (f (2 * y + 1) (2 * x)) (f (2 * y + 1) (2 * x + 1)))

/-- Token `t`, channel `o`: tokens count the pooled images' pixels in row-major order. -/
def tok (t o : ℕ) : ℝ := pool (r1 D o (t / 12544)) (t % 12544 / 112) (t % 112)

/-- The squared distance of token `t` to codeword `k`, expanded. -/
def dist (t k : ℕ) : ℝ :=
  ∑ d ∈ Finset.range 64, tok D t d * tok D t d - 2 * ∑ d ∈ Finset.range 64, tok D t d * D.cb k d
    + ∑ d ∈ Finset.range 64, D.cb k d * D.cb k d

theorem dist_eq (t k : ℕ) :
    dist D t k = ∑ d ∈ Finset.range 64, (D.cb k d - tok D t d) * (D.cb k d - tok D t d) := by
  rw [dist, Finset.mul_sum, ← Finset.sum_sub_distrib, ← Finset.sum_add_distrib]
  exact Finset.sum_congr rfl fun d _ => by ring

/-- The first of the smallest. -/
structure IsFirstMin (f : ℕ → ℝ) (n k : ℕ) : Prop where
  lt : k < n
  le : ∀ j < n, f k ≤ f j
  first : ∀ j < k, f k < f j

theorem exists_firstMin (f : ℕ → ℝ) (n : ℕ) : ∃ k, IsFirstMin f (n + 1) k := by
  induction n with
  | zero => exact ⟨0, by omega, fun j hj => by rw [show j = 0 by omega], fun j hj => by omega⟩
  | succ n ih =>
    obtain ⟨k, h⟩ := ih
    rcases lt_or_ge (f (n + 1)) (f k) with hlt | hge
    · refine ⟨n + 1, by omega, fun j hj => ?_, fun j hj => hlt.trans_le (h.le j hj)⟩
      rcases Nat.lt_or_ge j (n + 1) with h' | h'
      · exact (hlt.trans_le (h.le j h')).le
      · rw [show j = n + 1 by omega]
    · refine ⟨k, by have := h.lt; omega, fun j hj => ?_, h.first⟩
      rcases Nat.lt_or_ge j (n + 1) with h' | h'
      · exact h.le j h'
      · rwa [show j = n + 1 by omega]

theorem IsFirstMin.unique {f : ℕ → ℝ} {n j k : ℕ} (hj : IsFirstMin f n j) (hk : IsFirstMin f n k) : j = k := by
  rcases Nat.lt_trichotomy j k with h | h | h
  · exact absurd (hk.first j h) (not_lt.2 (hj.le k hk.lt))
  · exact h
  · exact absurd (hj.first k h) (not_lt.2 (hk.le j hj.lt))

/-- The codeword nearest to token `t`; of several, the first. -/
def near (t : ℕ) : ℕ := (exists_firstMin (dist D t) 1023).choose

theorem near_spec (t : ℕ) : IsFirstMin (dist D t) 1024 (near D t) := (exists_firstMin (dist D t) 1023).choose_spec

theorem near_lt (t : ℕ) : near D t < 1024 := (near_spec D t).lt

/-- The mean squared distance of the tokens to their codewords. -/
def loss : ℝ := (∑ t ∈ Finset.range 50176, dist D t (near D t)) / 3211264

/-! ### The second half: the codewords as an image of doubled size, convolved and normalised -/

/-- The image of doubled size. -/
def up (b d y x : ℕ) : ℝ := D.cb (near D (b * 12544 + y / 2 * 112 + x / 2)) d

/-- The second convolution, without its bias. -/
def h2 (o b y x : ℕ) : ℝ := conv 64 (up D b) (D.w2 o) y x

/-- The image put out. -/
def out (b o y x : ℕ) : ℝ := Real.tanh (bn (h2 D o) (D.g2 o) (D.b2 o) b y x)

end Cert.Spec
-- ==== Proof.KerPay.lean ====
/-
  The statistics and encoding kernels' arithmetic read at an index, over the reals: the first
  convolution of one call's rows, its sums, the normalisation, distances, the nearest codeword.
-/
module

public import proofs.«01_k».proof.Proof.Spec
public import proofs.«01_k».proof.Proof.Gen.KernelIdeal.Skeleton
public import Idealize.ShloMosaic.Lib.Pointwise

@[expose] public section

noncomputable section

open Idealize.ShloMosaic Idealize.ShloMosaic.TcCoe Idealize.SL.Sem
open Cert.KernelIdeal Cert.KernelIdeal.Gen Cert.Spec

namespace Cert.KerVal

theorem at_eq (P : ℕ → ℕ → ℕ → ℝ) {a a' b c c' : ℕ} (ha : a = a') (hc : c = c') :
    ((P a b c : ℝ) : EReal) = ((P a' b c' : ℝ) : EReal) := by subst ha; subst hc; rfl

/-- The first convolution of one call's rows: row `r` is the pixel `(r / 224, r % 224)`, the
    27 columns are the three rows by the nine columns of the prepared image. -/
theorem conv_pay (v3 : Vec Ideal S1x16x224x9 .f32) (v5 : Vec Ideal S1x2x224x9 .f32) (v13 : Vec Ideal S27x64 .f32)
    (P : ℕ → ℕ → ℕ → ℝ) (W : ℕ → ℕ → ℝ)
    (h3 : ∀ (r : Fin 16) (x : Fin 224) (j : Fin 9), v3 (ix4 0 r x j) = ((P r x j : ℝ) : EReal))
    (h5 : ∀ (r : Fin 2) (x : Fin 224) (j : Fin 9), v5 (ix4 0 r x j) = ((P (16 + r) x j : ℝ) : EReal))
    (hw : ∀ (k : Fin 27) (o : Fin 64), v13 (ix2 k o) = ((W k o : ℝ) : EReal)) (r : Fin 3584) (o : Fin 64) :
    k0_pay3 v3 v5 v13 (ix2 r o)
      = ((∑ k ∈ Finset.range 27, P (r / 224 + k / 9) (r % 224) (k % 9) * W k o : ℝ) : EReal) := by
  pointwise [k0_pay3]
  refine Eq.trans ?_ ((coe_sum Finset.univ (fun k : Fin 27 => P (r / 224 + k / 9) (r % 224) (k % 9) * W k o)).trans
    (congrArg (fun r : ℝ => (r : EReal)) (Finset.sum_range (fun k => P (r / 224 + k / 9) (r % 224) (k % 9) * W k o)).symm))
  refine Finset.sum_congr rfl fun k _ => ?_
  refine Eq.trans ?_ (EReal.coe_mul _ _).symm
  refine congrArg₂ (· * ·) ?_ (hw k o)
  have hk := k.isLt
  have hr := r.isLt
  by_cases a : (k : ℕ) < 9
  · rw [dif_pos a]
    by_cases b : (r : ℕ) / 224 < 16
    · rw [dif_pos b]
      exact (h3 ⟨_, _⟩ ⟨_, _⟩ ⟨_, _⟩).trans (at_eq P (show (r : ℕ) / 224 = (r : ℕ) / 224 + (k : ℕ) / 9 by omega) (show (k : ℕ) = (k : ℕ) % 9 by omega))
    · rw [dif_neg b]
      exact (h5 ⟨_, _⟩ ⟨_, _⟩ ⟨_, _⟩).trans (at_eq P (show 16 + ((r : ℕ) / 224 - 16) = (r : ℕ) / 224 + (k : ℕ) / 9 by omega) (show (k : ℕ) = (k : ℕ) % 9 by omega))
  · rw [dif_neg a]
    by_cases a' : (k : ℕ) - 9 < 9
    · rw [dif_pos a']
      by_cases b : 1 + (r : ℕ) / 224 < 16
      · rw [dif_pos b]
        exact (h3 ⟨_, _⟩ ⟨_, _⟩ ⟨_, _⟩).trans (at_eq P (show 1 + (r : ℕ) / 224 = (r : ℕ) / 224 + (k : ℕ) / 9 by omega) (show (k : ℕ) - 9 = (k : ℕ) % 9 by omega))
      · rw [dif_neg b]
        exact (h5 ⟨_, _⟩ ⟨_, _⟩ ⟨_, _⟩).trans (at_eq P (show 16 + (1 + (r : ℕ) / 224 - 16) = (r : ℕ) / 224 + (k : ℕ) / 9 by omega) (show (k : ℕ) - 9 = (k : ℕ) % 9 by omega))
    · rw [dif_neg a']
      by_cases b : 2 + (r : ℕ) / 224 < 16
      · rw [dif_pos b]
        exact (h3 ⟨_, _⟩ ⟨_, _⟩ ⟨_, _⟩).trans (at_eq P (show 2 + (r : ℕ) / 224 = (r : ℕ) / 224 + (k : ℕ) / 9 by omega) (show (k : ℕ) - 9 - 9 = (k : ℕ) % 9 by omega))
      · rw [dif_neg b]
        exact (h5 ⟨_, _⟩ ⟨_, _⟩ ⟨_, _⟩).trans (at_eq P (show 16 + (2 + (r : ℕ) / 224 - 16) = (r : ℕ) / 224 + (k : ℕ) / 9 by omega) (show (k : ℕ) - 9 - 9 = (k : ℕ) % 9 by omega))

theorem sum_pay (v3 : Vec Ideal S1x16x224x9 .f32) (v5 : Vec Ideal S1x2x224x9 .f32) (v13 : Vec Ideal S27x64 .f32)
    (p : Vec Ideal S1x64 .f32) (f : ℕ → ℝ) (a : ℝ) (o : Fin 64)
    (hf : ∀ r : Fin 3584, k0_pay3 v3 v5 v13 (ix2 r o) = ((f r : ℝ) : EReal)) (hp : p (ix2 0 o) = ((a : ℝ) : EReal)) :
    k0_pay4 v3 v5 v13 p (ix2 0 o) = ((a + ∑ r ∈ Finset.range 3584, f r : ℝ) : EReal) := by
  pointwise [k0_pay4]
  simp only [hf, hp]
  rw [coe_sum, Finset.sum_range]
  exact (EReal.coe_add _ _).symm

theorem sq_pay (v3 : Vec Ideal S1x16x224x9 .f32) (v5 : Vec Ideal S1x2x224x9 .f32) (v13 : Vec Ideal S27x64 .f32)
    (p : Vec Ideal S1x64 .f32) (f : ℕ → ℝ) (a : ℝ) (o : Fin 64)
    (hf : ∀ r : Fin 3584, k0_pay3 v3 v5 v13 (ix2 r o) = ((f r : ℝ) : EReal)) (hp : p (ix2 0 o) = ((a : ℝ) : EReal)) :
    k0_pay5 v3 v5 v13 p (ix2 0 o) = ((a + ∑ r ∈ Finset.range 3584, f r * f r : ℝ) : EReal) := by
  pointwise [k0_pay5]
  simp only [hf, hp, ← EReal.coe_mul]
  rw [coe_sum, Finset.sum_range]
  exact (EReal.coe_add _ _).symm

theorem rsqrt_pos (f : ℕ → ℕ → ℕ → ℝ) :
    Ideal.rsqrt ((var f + eps : ℝ) : EReal) = (((Real.sqrt (var f + eps))⁻¹ : ℝ) : EReal) := by
  have h := var_eps_pos f
  rw [Ideal.rsqrt_coe, if_neg h.not_gt, if_neg h.ne']

/-- The scale and the shift of the normalisation, from the sums. -/
theorem scale_shift (f : ℕ → ℕ → ℕ → ℝ) (g b : ℝ) (n y x : ℕ) (s1 s2 u v w : EReal)
    (h1 : s1 = ((tot f : ℝ) : EReal)) (h2 : s2 = ((tot (fun b y x => f b y x * f b y x) : ℝ) : EReal))
    (hu : u = ((g : ℝ) : EReal)) (hv : v = ((b : ℝ) : EReal)) (hw : w = ((f n y x : ℝ) : EReal)) :
    w * (u * Ideal.rsqrt (Ideal.div s2 (Ideal.ofBits .f32 0x48440000#32)
          - Ideal.div s1 (Ideal.ofBits .f32 0x48440000#32) * Ideal.div s1 (Ideal.ofBits .f32 0x48440000#32) + Ideal.ofBits .f32 0x3727C5AC#32))
      + (v - Ideal.div s1 (Ideal.ofBits .f32 0x48440000#32) * (u * Ideal.rsqrt (Ideal.div s2 (Ideal.ofBits .f32 0x48440000#32)
          - Ideal.div s1 (Ideal.ofBits .f32 0x48440000#32) * Ideal.div s1 (Ideal.ofBits .f32 0x48440000#32) + Ideal.ofBits .f32 0x3727C5AC#32)))
      = ((bn f g b n y x : ℝ) : EReal) := by
  subst h1 h2 hu hv hw
  have e : (tot (fun b y x => f b y x * f b y x) / 200704 - tot f / 200704 * (tot f / 200704) + eps : ℝ) = var f + eps := rfl
  rw [ofBits_npix, ofBits_eps, div_coe_coe _ _ (by norm_num), div_coe_coe _ _ (by norm_num)]
  simp only [← EReal.coe_mul, ← EReal.coe_sub, ← EReal.coe_add]
  rw [e, rsqrt_pos]
  simp only [← EReal.coe_mul, ← EReal.coe_sub, ← EReal.coe_add]
  exact congrArg (fun r : ℝ => (r : EReal)) (bn_scale f g b n y x)

theorem norm_pay (s1 s2 g b : Vec Ideal S1x64 .f32) (v3 : Vec Ideal S1x16x224x9 .f32) (v5 : Vec Ideal S1x2x224x9 .f32)
    (v13 : Vec Ideal S27x64 .f32) (f : ℕ → ℕ → ℕ → ℝ) (G B : ℝ) (n y x : ℕ) (r : Fin 3584) (o : Fin 64)
    (h1 : s1 (ix2 0 o) = ((tot f : ℝ) : EReal)) (h2 : s2 (ix2 0 o) = ((tot (fun b y x => f b y x * f b y x) : ℝ) : EReal))
    (hg : g (ix2 0 o) = ((G : ℝ) : EReal)) (hb : b (ix2 0 o) = ((B : ℝ) : EReal))
    (hf : k0_pay3 v3 v5 v13 (ix2 r o) = ((f n y x : ℝ) : EReal)) :
    k1_pay4 s1 s2 g b v3 v5 v13 (ix2 r o) = ((bn f G B n y x : ℝ) : EReal) := by
  have e := scale_shift f G B n y x _ _ _ _ _ h1 h2 hg hb hf
  refine Eq.trans ?_ e
  pointwise [k1_pay4, k0_pay3]

/-! ### Distances and the nearest codeword -/

theorem fold_max_two (f : Fin 2 → EReal) : Finset.fold max ⊥ f Finset.univ = max (f 0) (f 1) := by
  rw [show (Finset.univ : Finset (Fin 2)) = {0, 1} from rfl, Finset.fold_insert (by decide), Finset.fold_singleton,
    max_eq_left bot_le]

theorem dist_pay (h : FVec Ideal S3584x64 .f32) (cbt : Vec Ideal S64x1024 .f32) (f : ℕ → ℕ → ℝ) (q : ℕ → ℝ) (C : ℕ → ℕ → ℝ) (t : Fin 896) (k : Fin 1024)
    (hh : ∀ (r : Fin 3584) (d : Fin 64), h (ix2 r d) = ((f r d : ℝ) : EReal))
    (hq : ∀ d < 64, q d = max (max (max (f (t / 112 * 2 * 224 + t % 112 * 2) d) 0) (max (f (t / 112 * 2 * 224 + t % 112 * 2 + 1) d) 0))
      (max (max (f ((t / 112 * 2 + 1) * 224 + t % 112 * 2) d) 0) (max (f ((t / 112 * 2 + 1) * 224 + t % 112 * 2 + 1) d) 0)))
    (hc : ∀ (d : Fin 64) (k : Fin 1024), cbt (ix2 d k) = ((C k d : ℝ) : EReal)) :
    k1_pay5 h cbt cbt cbt (ix2 t k) = ((∑ d ∈ Finset.range 64, q d * q d - 2 * ∑ d ∈ Finset.range 64, q d * C k d
      + ∑ d ∈ Finset.range 64, C k d * C k d : ℝ) : EReal) := by
  pointwise [k1_pay5]
  have z : (0 : EReal) = ((0 : ℝ) : EReal) := rfl
  have hpool : ∀ d : Fin 64, max (max (max ((f (t / 112 * 2 * 224 + t % 112 * 2) d : ℝ) : EReal) 0) (max ((f (t / 112 * 2 * 224 + t % 112 * 2 + 1) d : ℝ) : EReal) 0))
      (max (max ((f ((t / 112 * 2 + 1) * 224 + t % 112 * 2) d : ℝ) : EReal) 0) (max ((f ((t / 112 * 2 + 1) * 224 + t % 112 * 2 + 1) d : ℝ) : EReal) 0))
      = ((q d : ℝ) : EReal) := fun d => by
    rw [hq d d.isLt, z]; simp only [coe_max]
  simp only [ofBits_bot, fold_max_two, hh, hc, ofBits_two]
  simp only [Fin.val_zero, Fin.val_one, Nat.add_zero, hpool, ← EReal.coe_mul, coe_sum]
  rw [Finset.sum_range, Finset.sum_range, Finset.sum_range, Finset.mul_sum]
  simp only [← EReal.coe_sub, ← EReal.coe_add]
  refine congrArg (fun r : ℝ => (r : EReal)) (congrArg₂ (· + ·) (congrArg₂ (· - ·) rfl (Finset.sum_congr rfl fun d _ => ?_)) rfl)
  ring

theorem least_pay (h : FVec Ideal S3584x64 .f32) (cbt : Vec Ideal S64x1024 .f32) (t : Fin 896) (d : ℕ → ℝ) (k : ℕ) (hk : IsFirstMin d 1024 k)
    (hd : ∀ j : Fin 1024, k1_pay5 h cbt cbt cbt (ix2 t j) = ((d j : ℝ) : EReal)) :
    k1_pay6 h cbt cbt cbt (ix2 t 0) = ((d k : ℝ) : EReal) := by
  pointwise [k1_pay6]
  simp only [ofBits_top, hd]
  refine le_antisymm ?_ ?_
  · exact (Finset.fold_min_le _).2 (Or.inr ⟨⟨k, hk.lt⟩, Finset.mem_univ _, le_rfl⟩)
  · exact (Finset.le_fold_min _).2 ⟨le_top, fun j _ => EReal.coe_le_coe_iff.2 (hk.le j j.isLt)⟩

theorem minsi_toInt (a b : BitVec 32) : (IntOp.minsi a b).toInt = min a.toInt b.toInt := by
  unfold IntOp.minsi
  split_ifs with h
  · rw [BitVec.slt_eq_decide, decide_eq_true_eq] at h
    exact (min_eq_left h.le).symm
  · rw [BitVec.slt_eq_decide, decide_eq_true_eq] at h
    exact (min_eq_right (not_lt.1 h)).symm

theorem word_toInt (i : ℕ) (hi : i < 1024) : (BitVec.ofNat 32 i).toInt = i := by
  have h : (BitVec.ofNat 32 i).toNat = i := by rw [BitVec.toNat_ofNat]; omega
  rw [BitVec.toInt_eq_toNat_of_lt (by omega), h]

theorem index_pay (h : FVec Ideal S3584x64 .f32) (cbt : Vec Ideal S64x1024 .f32) (t : Fin 896) (d : ℕ → ℝ) (k : ℕ) (hk : IsFirstMin d 1024 k)
    (hd : ∀ j : Fin 1024, k1_pay5 h cbt cbt cbt (ix2 t j) = ((d j : ℝ) : EReal)) :
    k1_pay7 h cbt cbt cbt (ix1 t) = BitVec.ofNat 32 k := by
  pointwise [k1_pay7]
  simp only [hd, least_pay h cbt t d k hk hd, EReal.coe_eq_coe_iff]
  refine BitVec.eq_of_toInt_eq ?_
  rw [← Finset.fold_hom (op' := min) minsi_toInt, word_toInt k hk.lt]
  have hv : ∀ j : Fin 1024, (if d j = d k then BitVec.ofNat 32 (j : ℕ) else 1073741824#32).toInt = if d j = d k then ((j : ℕ) : ℤ) else 1073741824 := fun j => by
    split_ifs
    · exact word_toInt j j.isLt
    · rfl
  simp only [hv]
  have hl := hk.lt
  refine le_antisymm ?_ ?_
  · refine (Finset.fold_min_le _).2 (Or.inr ⟨⟨k, hk.lt⟩, Finset.mem_univ _, ?_⟩)
    rw [if_pos rfl]
  · refine (Finset.le_fold_min _).2 ⟨?_, fun j _ => ?_⟩
    · rw [show (2147483647#32 : BitVec 32).toInt = 2147483647 from rfl]; omega
    · split_ifs with e
      · by_contra hlt
        exact absurd (hk.first j (by omega)) (by rw [e]; exact lt_irrefl _)
      · omega

theorem index_pay8 (h : FVec Ideal S3584x64 .f32) (cbt : Vec Ideal S64x1024 .f32) (t : Fin 896) :
    k1_pay8 h cbt cbt cbt (ix3 0 0 t) = k1_pay7 h cbt cbt cbt (ix1 t) := by
  pointwise [k1_pay8]

theorem quant_pay (h : FVec Ideal S3584x64 .f32) (cbt : Vec Ideal S64x1024 .f32) (cb : Vec Ideal S1024x64 .f32) (C : ℕ → ℕ → ℝ) (t : Fin 896) (d : Fin 64) (k : ℕ)
    (hk : k < 1024) (h7 : k1_pay7 h cbt cbt cbt (ix1 t) = BitVec.ofNat 32 k) (hc : ∀ (k : Fin 1024) (d : Fin 64), cb (ix2 k d) = ((C k d : ℝ) : EReal)) :
    k1_pay1 (k1_pay9 h cbt cbt cbt) cb (ix3 0 t d) = ((C k d : ℝ) : EReal) := by
  pointwise [k1_pay1, k1_pay9]
  rw [h7]
  refine (Finset.sum_eq_single (⟨k, hk⟩ : Fin 1024) (fun j _ hj => ?_) (fun hn => absurd (Finset.mem_univ _) hn)).trans ?_
  · have e : IntOp.cmpi .eq (BitVec.ofNat 32 (j : ℕ)) (BitVec.ofNat 32 k) = 0#1 := by
      unfold IntOp.cmpi
      have hne : BitVec.ofNat 32 (j : ℕ) ≠ BitVec.ofNat 32 k := fun hh => hj (Fin.ext (by
        have := congrArg BitVec.toInt hh
        rw [word_toInt j j.isLt, word_toInt k hk] at this
        exact_mod_cast this))
      show BitVec.ofBool (_ == _) = _
      rw [beq_eq_false_iff_ne.2 hne]; rfl
    rw [e, hc]
    show (((BitVec.setWidth 32 (0#1)).toInt : ℝ) : EReal) * _ = 0
    simp
  · have e : IntOp.cmpi .eq (BitVec.ofNat 32 k) (BitVec.ofNat 32 k) = 1#1 := by simp [IntOp.cmpi]
    show FloatOps.sitofp (F := Ideal) FTy.f32 (BitVec.setWidth 32 (IntOp.cmpi .eq (BitVec.ofNat 32 k) (BitVec.ofNat 32 k))) * cb (ix2 ⟨k, hk⟩ d) = _
    rw [e, hc ⟨k, hk⟩ d]
    show (((BitVec.setWidth 32 (1#1)).toInt : ℝ) : EReal) * _ = _
    simp

theorem loss_pay (v65 : FVec Ideal S896x1 .f32) (p : Vec Ideal S1x1 .f32) (f : ℕ → ℝ) (a : ℝ)
    (hf : ∀ r : Fin 896, v65 (ix2 r 0) = ((f r : ℝ) : EReal)) (hp : p (ix2 0 0) = ((a : ℝ) : EReal)) :
    k1_pay3 v65 p (ix2 0 0) = ((a + ∑ r ∈ Finset.range 896, f r : ℝ) : EReal) := by
  pointwise [k1_pay3]
  simp only [hf, hp, Finset.univ_unique, Finset.sum_singleton]
  rw [coe_sum, Finset.sum_range]
  exact (EReal.coe_add _ _).symm

end Cert.KerVal
-- ==== Proof.KerOut0.lean ====
/-
  What one call of the statistics kernel leaves in its two accumulators: the payloads of its
  last stores, over the blocks it read.
-/
module

public import proofs.«01_k».proof.Proof.Gen.KernelIdeal.Frame.Region0
public import Idealize.ShloMosaic.Lib.Pipeline.Value
public import Idealize.ShloMosaic.Lib.Tactic

@[expose] public section

noncomputable section

open Idealize.ShloMosaic Idealize.ShloMosaic.TcCoe Idealize.SL.Sem
open Cert.KernelIdeal Cert.KernelIdeal.Gen

namespace Cert.KerVal

variable {F : FTy → Type} [FloatOps F]
variable (V : (c : Dev nD) → (b : Ref sig .tc) → Buf (Elt F) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The first two rows of a block of rows: what the kernels read of the block below theirs. -/
abbrev twoRows (x : Vec F S1x16x224x9 .f32) : Vec F S1x2x224x9 .f32 :=
  View.ld x (Rect.unit (s := S1x16x224x9) ![0, 0, 0, 0] S1x2x224x9.size inb_S1x16x224x9_S1x2x224x9_0_0_0_0)

/-- The first call starts both sums at zero. -/
theorem outs0_start (c : Dev nD) (t : Fin cfg0.N) (h : t.val % 56 = 0) :
    outsAt0 V c t.val t.isLt
      = (k0_pay4 (iblk0 V c 0 t) (twoRows (iblk0 V c 1 t)) (iblk0 V c 2 t) k0_pay1,
         k0_pay5 (iblk0 V c 0 t) (twoRows (iblk0 V c 1 t)) (iblk0 V c 2 t) k0_pay2) := by
  rw [outsAt0_A V c t h]
  refine Prod.ext ?_ ?_ <;> dsimp only
  · unfold out0_A_3
    rw [View.read_writes_eq_canon _ _ _ (cover0_A_3 c _ _ _ _ _ _ _ _ _ _ _ _ _ _ _)]
    unfold kernelRun0_A
    dsimp only
    sl_unfold_words
    rw [View.canon_cons_unit_zero (S := S1x64) hz2, View.readCov_unit_zero (S := S1x64) _ hz2]
    simp only [View.readAt_eq_ld, (hs0_0 t).read_unread, (hs0_1 t).read_unread, (hs0_2 t).read_unread,
      View.ld_unit_zero (S := S27x64) hz2, View.ld_unit_zero (S := S1x16x224x9) hz4]
  · unfold out0_A_4
    rw [View.read_writes_eq_canon _ _ _ (cover0_A_4 c _ _ _ _ _ _ _ _ _ _ _ _ _ _ _)]
    unfold kernelRun0_A
    dsimp only
    sl_unfold_words
    rw [View.canon_cons_unit_zero (S := S1x64) hz2, View.readCov_unit_zero (S := S1x64) _ hz2]
    simp only [View.readAt_eq_ld, (hs0_0 t).read_unread, (hs0_1 t).read_unread, (hs0_2 t).read_unread,
      View.ld_unit_zero (S := S27x64) hz2, View.ld_unit_zero (S := S1x16x224x9) hz4]

/-- Every later call adds to what the call before it left. -/
theorem outs0_step (c : Dev nD) (t : Fin cfg0.N) (h : ¬t.val % 56 = 0) :
    outsAt0 V c t.val t.isLt
      = (k0_pay4 (iblk0 V c 0 t) (twoRows (iblk0 V c 1 t)) (iblk0 V c 2 t)
           (outsAt0 V c (t.val - 1) (Nat.lt_of_le_of_lt (Nat.sub_le _ _) t.isLt)).1,
         k0_pay5 (iblk0 V c 0 t) (twoRows (iblk0 V c 1 t)) (iblk0 V c 2 t)
           (outsAt0 V c (t.val - 1) (Nat.lt_of_le_of_lt (Nat.sub_le _ _) t.isLt)).2) := by
  rw [outsAt0_B V c t h]
  refine Prod.ext ?_ ?_ <;> dsimp only
  · unfold out0_B_3
    rw [View.read_writes_eq_canon _ _ _ (cover0_B_3 c _ _ _ _ _ _ _ _ _ _ _ _ _ _ _ _ _)]
    unfold kernelRun0_B
    dsimp only
    sl_unfold_words
    rw [View.canon_unit_zero hz2]
    simp only [View.readAt_eq_ld, (hs0_0 t).read_unread, (hs0_1 t).read_unread, (hs0_2 t).read_unread, (hs0_3 t).read_unread,
      View.ld_unit_zero (S := S1x64) hz2, View.ld_unit_zero (S := S27x64) hz2, View.ld_unit_zero (S := S1x16x224x9) hz4]
  · unfold out0_B_4
    rw [View.read_writes_eq_canon _ _ _ (cover0_B_4 c _ _ _ _ _ _ _ _ _ _ _ _ _ _ _ _ _)]
    unfold kernelRun0_B
    dsimp only
    sl_unfold_words
    rw [View.canon_unit_zero hz2]
    simp only [View.readAt_eq_ld, (hs0_0 t).read_unread, (hs0_1 t).read_unread, (hs0_2 t).read_unread, (hs0_4 t).read_unread,
      View.ld_unit_zero (S := S1x64) hz2, View.ld_unit_zero (S := S27x64) hz2, View.ld_unit_zero (S := S1x16x224x9) hz4]

end Cert.KerVal
-- ==== Proof.KerOut1.lean ====
/-
  What one call of the encoding kernel leaves: the indices, the quantised rows and the running
  sum of smallest distances, over the blocks it read.
-/
module

public import proofs.«01_k».proof.Proof.KerOut0
public import proofs.«01_k».proof.Proof.Gen.KernelIdeal.Frame.Region1
public import Idealize.ShloMosaic.Lib.Pipeline.Value
public import Idealize.ShloMosaic.Lib.Tactic

@[expose] public section

noncomputable section

open Idealize.ShloMosaic Idealize.ShloMosaic.TcCoe Idealize.SL.Sem
open Cert.KernelIdeal Cert.KernelIdeal.Gen

namespace Cert.KerVal

variable {F : FTy → Type} [FloatOps F]
variable (V : (c : Dev nD) → (b : Ref sig .tc) → Buf (Elt F) ((c : Thread nD τ).loc b))

/-- The normalised convolution of one call's rows. -/
abbrev norm1 (c : Dev nD) (t : Fin cfg1.N) : FVec F S3584x64 .f32 :=
  k1_pay4 (iblk1 V c 5 t) (iblk1 V c 6 t) (iblk1 V c 3 t) (iblk1 V c 4 t) (iblk1 V c 0 t) (twoRows (iblk1 V c 1 t)) (iblk1 V c 2 t)

/-- The smallest distance of each row of one call. -/
abbrev least1 (c : Dev nD) (t : Fin cfg1.N) : FVec F S896x1 .f32 :=
  k1_pay6 (norm1 V c t) (iblk1 V c 7 t) (iblk1 V c 7 t) (iblk1 V c 7 t)

theorem outs1_start (c : Dev nD) (t : Fin cfg1.N) (h : t.val % 56 = 0) :
    outsAt1 V c t.val t.isLt
      = (k1_pay8 (norm1 V c t) (iblk1 V c 7 t) (iblk1 V c 7 t) (iblk1 V c 7 t),
         k1_pay1 (k1_pay9 (norm1 V c t) (iblk1 V c 7 t) (iblk1 V c 7 t) (iblk1 V c 7 t)) (iblk1 V c 8 t),
         k1_pay3 (least1 V c t) k1_pay2) := by
  rw [outsAt1_A V c t h]
  refine Prod.ext ?_ (Prod.ext ?_ ?_) <;> dsimp only
  · unfold out1_A_9
    rw [View.read_writes_eq_canon _ _ _ (cover1_A_9 c _ _ _ _ _ _ _ _ _ _ _ _ _ _ _ _ _ _ _ _ _ _ _ _ _ _ _ _ _ _ _ _ _ _ _)]
    unfold kernelRun1_A
    dsimp only
    sl_unfold_words
    rw [View.canon_unit_zero hz3]
    simp only [View.readAt_eq_ld, (hs1_0 t).read_unread, (hs1_1 t).read_unread, (hs1_2 t).read_unread, (hs1_3 t).read_unread, (hs1_4 t).read_unread, (hs1_5 t).read_unread, (hs1_6 t).read_unread, (hs1_7 t).read_unread, (hs1_8 t).read_unread,
      View.ld_unit_zero (S := S1x64) hz2, View.ld_unit_zero (S := S27x64) hz2, View.ld_unit_zero (S := S64x1024) hz2, View.ld_unit_zero (S := S1024x64) hz2, View.ld_unit_zero (S := S1x16x224x9) hz4]
  · unfold out1_A_10
    rw [View.read_writes_eq_canon _ _ _ (cover1_A_10 c _ _ _ _ _ _ _ _ _ _ _ _ _ _ _ _ _ _ _ _ _ _ _ _ _ _ _ _ _ _ _ _ _ _ _)]
    unfold kernelRun1_A
    dsimp only
    sl_unfold_words
    rw [View.canon_unit_zero hz3]
    simp only [View.readAt_eq_ld, (hs1_0 t).read_unread, (hs1_1 t).read_unread, (hs1_2 t).read_unread, (hs1_3 t).read_unread, (hs1_4 t).read_unread, (hs1_5 t).read_unread, (hs1_6 t).read_unread, (hs1_7 t).read_unread, (hs1_8 t).read_unread,
      View.ld_unit_zero (S := S1x64) hz2, View.ld_unit_zero (S := S27x64) hz2, View.ld_unit_zero (S := S64x1024) hz2, View.ld_unit_zero (S := S1024x64) hz2, View.ld_unit_zero (S := S1x16x224x9) hz4]
  · unfold out1_A_11
    rw [View.read_writes_eq_canon _ _ _ (cover1_A_11 c _ _ _ _ _ _ _ _ _ _ _ _ _ _ _ _ _ _ _ _ _ _ _ _ _ _ _ _ _ _ _ _ _ _ _)]
    unfold kernelRun1_A
    dsimp only
    sl_unfold_words
    rw [View.canon_cons_unit_zero (S := S1x1) hz2, View.readCov_unit_zero (S := S1x1) _ hz2]
    simp only [View.readAt_eq_ld, (hs1_0 t).read_unread, (hs1_1 t).read_unread, (hs1_2 t).read_unread, (hs1_3 t).read_unread, (hs1_4 t).read_unread, (hs1_5 t).read_unread, (hs1_6 t).read_unread, (hs1_7 t).read_unread, (hs1_8 t).read_unread,
      View.ld_unit_zero (S := S1x64) hz2, View.ld_unit_zero (S := S27x64) hz2, View.ld_unit_zero (S := S64x1024) hz2, View.ld_unit_zero (S := S1024x64) hz2, View.ld_unit_zero (S := S1x16x224x9) hz4]

theorem outs1_step (c : Dev nD) (t : Fin cfg1.N) (h : ¬t.val % 56 = 0) :
    outsAt1 V c t.val t.isLt
      = (k1_pay8 (norm1 V c t) (iblk1 V c 7 t) (iblk1 V c 7 t) (iblk1 V c 7 t),
         k1_pay1 (k1_pay9 (norm1 V c t) (iblk1 V c 7 t) (iblk1 V c 7 t) (iblk1 V c 7 t)) (iblk1 V c 8 t),
         k1_pay3 (least1 V c t) (outsAt1 V c (t.val - 1) (Nat.lt_of_le_of_lt (Nat.sub_le _ _) t.isLt)).2.2) := by
  rw [outsAt1_B V c t h]
  refine Prod.ext ?_ (Prod.ext ?_ ?_) <;> dsimp only
  · unfold out1_B_9
    rw [View.read_writes_eq_canon _ _ _ (cover1_B_9 c _ _ _ _ _ _ _ _ _ _ _ _ _ _ _ _ _ _ _ _ _ _ _ _ _ _ _ _ _ _ _ _ _ _ _ _)]
    unfold kernelRun1_B
    dsimp only
    sl_unfold_words
    rw [View.canon_unit_zero hz3]
    simp only [View.readAt_eq_ld, (hs1_0 t).read_unread, (hs1_1 t).read_unread, (hs1_2 t).read_unread, (hs1_3 t).read_unread, (hs1_4 t).read_unread, (hs1_5 t).read_unread, (hs1_6 t).read_unread, (hs1_7 t).read_unread, (hs1_8 t).read_unread,
      View.ld_unit_zero (S := S1x64) hz2, View.ld_unit_zero (S := S27x64) hz2, View.ld_unit_zero (S := S64x1024) hz2, View.ld_unit_zero (S := S1024x64) hz2, View.ld_unit_zero (S := S1x16x224x9) hz4]
  · unfold out1_B_10
    rw [View.read_writes_eq_canon _ _ _ (cover1_B_10 c _ _ _ _ _ _ _ _ _ _ _ _ _ _ _ _ _ _ _ _ _ _ _ _ _ _ _ _ _ _ _ _ _ _ _ _)]
    unfold kernelRun1_B
    dsimp only
    sl_unfold_words
    rw [View.canon_unit_zero hz3]
    simp only [View.readAt_eq_ld, (hs1_0 t).read_unread, (hs1_1 t).read_unread, (hs1_2 t).read_unread, (hs1_3 t).read_unread, (hs1_4 t).read_unread, (hs1_5 t).read_unread, (hs1_6 t).read_unread, (hs1_7 t).read_unread, (hs1_8 t).read_unread,
      View.ld_unit_zero (S := S1x64) hz2, View.ld_unit_zero (S := S27x64) hz2, View.ld_unit_zero (S := S64x1024) hz2, View.ld_unit_zero (S := S1024x64) hz2, View.ld_unit_zero (S := S1x16x224x9) hz4]
  · unfold out1_B_11
    rw [View.read_writes_eq_canon _ _ _ (cover1_B_11 c _ _ _ _ _ _ _ _ _ _ _ _ _ _ _ _ _ _ _ _ _ _ _ _ _ _ _ _ _ _ _ _ _ _ _ _)]
    unfold kernelRun1_B
    dsimp only
    sl_unfold_words
    rw [View.canon_unit_zero hz2]
    simp only [View.readAt_eq_ld, (hs1_0 t).read_unread, (hs1_1 t).read_unread, (hs1_2 t).read_unread, (hs1_3 t).read_unread, (hs1_4 t).read_unread, (hs1_5 t).read_unread, (hs1_6 t).read_unread, (hs1_7 t).read_unread, (hs1_8 t).read_unread, (hs1_11 t).read_unread,
      View.ld_unit_zero (S := S1x64) hz2, View.ld_unit_zero (S := S1x1) hz2, View.ld_unit_zero (S := S27x64) hz2, View.ld_unit_zero (S := S64x1024) hz2, View.ld_unit_zero (S := S1024x64) hz2, View.ld_unit_zero (S := S1x16x224x9) hz4]

end Cert.KerVal
-- ==== Proof.KerBlk.lean ====
/-
  The blocks the statistics and encoding kernels are handed at a grid point, as parts of the arrays
  they are cut from: call `t` is image `t / 14`, rows `16 * (t % 14)` on.
-/
module

public import proofs.«01_k».proof.Proof.KerOut0
public import proofs.«01_k».proof.Proof.KerOut1
public import Idealize.ShloMosaic.Lib.Pipeline.Value
public import Idealize.ShloMosaic.Lib.Pointwise

@[expose] public section

noncomputable section

open Idealize.ShloMosaic Idealize.ShloMosaic.TcCoe Idealize.SL.Sem
open Cert.KernelIdeal Cert.KernelIdeal.Gen

namespace Cert.KerVal

variable {F : FTy → Type} [FloatOps F]
variable (V : (c : Dev nD) → (b : Ref sig .tc) → Buf (Elt F) ((c : Thread nD τ).loc b))

theorem index0_0 : ∀ t : Fin cfg0.N, win0_0.index t 0 = t.val / 14 ∧ win0_0.index t 1 = t.val % 14 ∧ win0_0.index t 2 = 0 ∧ win0_0.index t 3 = 0 := by
  decide +kernel
theorem index0_1 : ∀ t : Fin cfg0.N, win0_1.index t 0 = t.val / 14 ∧ win0_1.index t 1 = t.val % 14 + 1 ∧ win0_1.index t 2 = 0 ∧ win0_1.index t 3 = 0 := by
  decide +kernel
theorem index1_0 : ∀ t : Fin cfg1.N, win1_0.index t 0 = t.val / 14 ∧ win1_0.index t 1 = t.val % 14 ∧ win1_0.index t 2 = 0 ∧ win1_0.index t 3 = 0 := by
  decide +kernel
theorem index1_1 : ∀ t : Fin cfg1.N, win1_1.index t 0 = t.val / 14 ∧ win1_1.index t 1 = t.val % 14 + 1 ∧ win1_1.index t 2 = 0 ∧ win1_1.index t 3 = 0 := by
  decide +kernel

theorem lt0 (t : Fin cfg0.N) : t.val < 56 := lt_of_lt_of_eq t.isLt (show cfg0.N = 56 from N_0)
theorem lt1 (t : Fin cfg1.N) : t.val < 56 := lt_of_lt_of_eq t.isLt (show cfg1.N = 56 from N_1)

theorem blk0_0 (c : Dev nD) (t : Fin cfg0.N) (r : Fin 16) (x : Fin 224) (j : Fin 9) :
    (iblk0 V c 0 t : Vec F S1x16x224x9 .f32) (ix4 0 r x j)
      = V c main_v6 (ix4 ⟨t.val / 14, by have := lt0 t; omega⟩ ⟨16 * (t.val % 14) + r.val, by omega⟩ x j) := by
  have hi := index0_0 t
  unfold iblk0
  rw [View.read_apply]
  show V c main_v6 _ = V c main_v6 _
  congr 1
  funext a
  apply Fin.ext
  match a with
  | ⟨0, _⟩ => show win0_0.index t 0 * 1 + 1 * 0 = t.val / 14; rw [hi.1]; omega
  | ⟨1, _⟩ => show win0_0.index t 1 * 16 + 1 * r.val = 16 * (t.val % 14) + r.val; rw [hi.2.1]; omega
  | ⟨2, _⟩ => show win0_0.index t 2 * 224 + 1 * x.val = x.val; rw [hi.2.2.1]; omega
  | ⟨3, _⟩ => show win0_0.index t 3 * 9 + 1 * j.val = j.val; rw [hi.2.2.2]; omega

theorem blk0_1 (c : Dev nD) (t : Fin cfg0.N) (r : Fin 2) (x : Fin 224) (j : Fin 9) :
    twoRows (iblk0 V c 1 t : Vec F S1x16x224x9 .f32) (ix4 0 r x j)
      = V c main_v6 (ix4 ⟨t.val / 14, by have := lt0 t; omega⟩ ⟨16 * (t.val % 14) + (16 + r.val), by omega⟩ x j) := by
  have hi := index0_1 t
  unfold twoRows iblk0
  show View.read (Elt F) _ _ _ = _
  rw [View.read_apply]
  show V c main_v6 _ = V c main_v6 _
  congr 1
  funext a
  apply Fin.ext
  match a with
  | ⟨0, _⟩ => show win0_1.index t 0 * 1 + 1 * (0 + 1 * 0) = t.val / 14; rw [hi.1]; omega
  | ⟨1, _⟩ => show win0_1.index t 1 * 16 + 1 * (0 + 1 * r.val) = 16 * (t.val % 14) + (16 + r.val); rw [hi.2.1]; omega
  | ⟨2, _⟩ => show win0_1.index t 2 * 224 + 1 * (0 + 1 * x.val) = x.val; rw [hi.2.2.1]; omega
  | ⟨3, _⟩ => show win0_1.index t 3 * 9 + 1 * (0 + 1 * j.val) = j.val; rw [hi.2.2.2]; omega

theorem blk1_0 (c : Dev nD) (t : Fin cfg1.N) (r : Fin 16) (x : Fin 224) (j : Fin 9) :
    (iblk1 V c 0 t : Vec F S1x16x224x9 .f32) (ix4 0 r x j)
      = V c main_v6 (ix4 ⟨t.val / 14, by have := lt1 t; omega⟩ ⟨16 * (t.val % 14) + r.val, by omega⟩ x j) := by
  have hi := index1_0 t
  unfold iblk1
  rw [View.read_apply]
  show V c main_v6 _ = V c main_v6 _
  congr 1
  funext a
  apply Fin.ext
  match a with
  | ⟨0, _⟩ => show win1_0.index t 0 * 1 + 1 * 0 = t.val / 14; rw [hi.1]; omega
  | ⟨1, _⟩ => show win1_0.index t 1 * 16 + 1 * r.val = 16 * (t.val % 14) + r.val; rw [hi.2.1]; omega
  | ⟨2, _⟩ => show win1_0.index t 2 * 224 + 1 * x.val = x.val; rw [hi.2.2.1]; omega
  | ⟨3, _⟩ => show win1_0.index t 3 * 9 + 1 * j.val = j.val; rw [hi.2.2.2]; omega

theorem blk1_1 (c : Dev nD) (t : Fin cfg1.N) (r : Fin 2) (x : Fin 224) (j : Fin 9) :
    twoRows (iblk1 V c 1 t : Vec F S1x16x224x9 .f32) (ix4 0 r x j)
      = V c main_v6 (ix4 ⟨t.val / 14, by have := lt1 t; omega⟩ ⟨16 * (t.val % 14) + (16 + r.val), by omega⟩ x j) := by
  have hi := index1_1 t
  unfold twoRows iblk1
  show View.read (Elt F) _ _ _ = _
  rw [View.read_apply]
  show V c main_v6 _ = V c main_v6 _
  congr 1
  funext a
  apply Fin.ext
  match a with
  | ⟨0, _⟩ => show win1_1.index t 0 * 1 + 1 * (0 + 1 * 0) = t.val / 14; rw [hi.1]; omega
  | ⟨1, _⟩ => show win1_1.index t 1 * 16 + 1 * (0 + 1 * r.val) = 16 * (t.val % 14) + (16 + r.val); rw [hi.2.1]; omega
  | ⟨2, _⟩ => show win1_1.index t 2 * 224 + 1 * (0 + 1 * x.val) = x.val; rw [hi.2.2.1]; omega
  | ⟨3, _⟩ => show win1_1.index t 3 * 9 + 1 * (0 + 1 * j.val) = j.val; rw [hi.2.2.2]; omega

/-! ### The operands read whole -/

theorem blk0_2 (c : Dev nD) (t : Fin cfg0.N) : (iblk0 V c 2 t : Vec F S27x64 .f32) = V c main_v8 := by
  have hz' : (fun a => win0_2.index t a * main_v8.ty.shape.size a) = fun _ => 0 := funext fun a => by fin_cases a <;> exact Nat.zero_mul _
  exact Memref.read_access_unit_zero (Elt F) main_v8 hz' (fun a => by rw [congrFun hz' a]; simp) (V c main_v8)

theorem blk1_2 (c : Dev nD) (t : Fin cfg1.N) : (iblk1 V c 2 t : Vec F S27x64 .f32) = V c main_v8 := by
  have hz' : (fun a => win1_2.index t a * main_v8.ty.shape.size a) = fun _ => 0 := funext fun a => by fin_cases a <;> exact Nat.zero_mul _
  exact Memref.read_access_unit_zero (Elt F) main_v8 hz' (fun a => by rw [congrFun hz' a]; simp) (V c main_v8)

theorem blk1_3 (c : Dev nD) (t : Fin cfg1.N) : (iblk1 V c 3 t : Vec F S1x64 .f32) = V c main_v181 := by
  have hz' : (fun a => win1_3.index t a * main_v181.ty.shape.size a) = fun _ => 0 := funext fun a => by fin_cases a <;> exact Nat.zero_mul _
  exact Memref.read_access_unit_zero (Elt F) main_v181 hz' (fun a => by rw [congrFun hz' a]; simp) (V c main_v181)

theorem blk1_4 (c : Dev nD) (t : Fin cfg1.N) : (iblk1 V c 4 t : Vec F S1x64 .f32) = V c main_v182 := by
  have hz' : (fun a => win1_4.index t a * main_v182.ty.shape.size a) = fun _ => 0 := funext fun a => by fin_cases a <;> exact Nat.zero_mul _
  exact Memref.read_access_unit_zero (Elt F) main_v182 hz' (fun a => by rw [congrFun hz' a]; simp) (V c main_v182)

theorem blk1_5 (c : Dev nD) (t : Fin cfg1.N) : (iblk1 V c 5 t : Vec F S1x64 .f32) = V c main_v187_0 := by
  have hz' : (fun a => win1_5.index t a * main_v187_0.ty.shape.size a) = fun _ => 0 := funext fun a => by fin_cases a <;> exact Nat.zero_mul _
  exact Memref.read_access_unit_zero (Elt F) main_v187_0 hz' (fun a => by rw [congrFun hz' a]; simp) (V c main_v187_0)

theorem blk1_6 (c : Dev nD) (t : Fin cfg1.N) : (iblk1 V c 6 t : Vec F S1x64 .f32) = V c main_v187_1 := by
  have hz' : (fun a => win1_6.index t a * main_v187_1.ty.shape.size a) = fun _ => 0 := funext fun a => by fin_cases a <;> exact Nat.zero_mul _
  exact Memref.read_access_unit_zero (Elt F) main_v187_1 hz' (fun a => by rw [congrFun hz' a]; simp) (V c main_v187_1)

theorem blk1_7 (c : Dev nD) (t : Fin cfg1.N) : (iblk1 V c 7 t : Vec F S64x1024 .f32) = V c main_v180 := by
  have hz' : (fun a => win1_7.index t a * main_v180.ty.shape.size a) = fun _ => 0 := funext fun a => by fin_cases a <;> exact Nat.zero_mul _
  exact Memref.read_access_unit_zero (Elt F) main_v180 hz' (fun a => by rw [congrFun hz' a]; simp) (V c main_v180)

theorem blk1_8 (c : Dev nD) (t : Fin cfg1.N) : (iblk1 V c 8 t : Vec F S1024x64 .f32) = V c main_arg5 := by
  have hz' : (fun a => win1_8.index t a * main_arg5.ty.shape.size a) = fun _ => 0 := funext fun a => by fin_cases a <;> exact Nat.zero_mul _
  exact Memref.read_access_unit_zero (Elt F) main_arg5 hz' (fun a => by rw [congrFun hz' a]; simp) (V c main_arg5)

end Cert.KerVal
-- ==== Proof.KerVal0.lean ====
/-
  The statistics kernel's results: the sums of the first convolution and of its square over all
  pixels, channel by channel.
-/
module

public import proofs.«01_k».proof.Proof.KerPay
public import proofs.«01_k».proof.Proof.KerBlk

@[expose] public section

noncomputable section

open Idealize.ShloMosaic Idealize.ShloMosaic.TcCoe Idealize.SL.Sem
open Cert.KernelIdeal Cert.KernelIdeal.Gen Cert.Spec

namespace Cert.KerVal

/-- The first convolution as the kernel has it: 27 products with the prepared image's columns. -/
def cv (X : ℕ → ℕ → ℕ → ℕ → ℝ) (W : ℕ → ℕ → ℝ) (o b y x : ℕ) : ℝ :=
  ∑ k ∈ Finset.range 27, X b (y + k / 9) x (k % 9) * W k o

/-- The sum over all pixels, call by call. -/
theorem tot_calls (f : ℕ → ℕ → ℕ → ℝ) :
    tot f = ∑ s ∈ Finset.range 56, ∑ r ∈ Finset.range 3584, f (s / 14) (16 * (s % 14) + r / 224) (r % 224) := by
  rw [show 56 = 4 * 14 from rfl, sum_range_mul]
  refine Finset.sum_congr rfl fun b _ => ?_
  rw [show (224 : ℕ) = 14 * 16 from rfl, sum_range_mul]
  refine Finset.sum_congr rfl fun q hq => ?_
  have hq' := Finset.mem_range.1 hq
  rw [show (3584 : ℕ) = 16 * (14 * 16) from rfl, sum_range_mul]
  refine Finset.sum_congr rfl fun i _ => Finset.sum_congr rfl fun x hx => ?_
  have hx' := Finset.mem_range.1 hx
  rw [show (b * 14 + q) / 14 = b by omega, show (b * 14 + q) % 14 = q by omega,
    show 16 * q + (i * (14 * 16) + x) / (14 * 16) = q * 16 + i by omega, show (i * (14 * 16) + x) % (14 * 16) = x by omega]

variable (V : (c : Dev nD) → (b : Ref sig .tc) → Buf (Elt Ideal) ((c : Thread nD τ).loc b)) (c : Dev nD)

/-- What the kernels are handed of the prepared image and the weights. -/
structure Prep (X : ℕ → ℕ → ℕ → ℕ → ℝ) (W : ℕ → ℕ → ℝ) : Prop where
  img : ∀ (b : Fin 4) (y : Fin 240) (x : Fin 224) (j : Fin 9), V c main_v6 (ix4 b y x j) = ((X b y x j : ℝ) : EReal)
  wts : ∀ (k : Fin 27) (o : Fin 64), V c main_v8 (ix2 k o) = ((W k o : ℝ) : EReal)

variable {V c} {X : ℕ → ℕ → ℕ → ℕ → ℝ} {W : ℕ → ℕ → ℝ} (h : Prep V c X W)
include h

theorem conv0 (t : Fin cfg0.N) (r : Fin 3584) (o : Fin 64) :
    k0_pay3 (iblk0 V c 0 t) (twoRows (iblk0 V c 1 t)) (iblk0 V c 2 t) (ix2 r o)
      = ((cv X W o (t.val / 14) (16 * (t.val % 14) + r.val / 224) (r.val % 224) : ℝ) : EReal) := by
  have hc := conv_pay (iblk0 V c 0 t) (twoRows (iblk0 V c 1 t)) (iblk0 V c 2 t) (fun a x j => X (t.val / 14) (16 * (t.val % 14) + a) x j) W
    (fun r x j => (blk0_0 V c t r x j).trans (h.img _ _ x j)) (fun r x j => (blk0_1 V c t r x j).trans (h.img _ _ x j))
    (fun k o => (congrFun (blk0_2 V c t) _).trans (h.wts k o)) r o
  simpa only [cv, Nat.add_assoc] using hc

theorem sums (o : Fin 64) : ∀ (n : ℕ) (hn : n < cfg0.N),
    (outsAt0 V c n hn).1 (ix2 0 o) = ((∑ s ∈ Finset.range (n + 1), ∑ r ∈ Finset.range 3584,
        cv X W o (s / 14) (16 * (s % 14) + r / 224) (r % 224) : ℝ) : EReal)
    ∧ (outsAt0 V c n hn).2 (ix2 0 o) = ((∑ s ∈ Finset.range (n + 1), ∑ r ∈ Finset.range 3584,
        cv X W o (s / 14) (16 * (s % 14) + r / 224) (r % 224) * cv X W o (s / 14) (16 * (s % 14) + r / 224) (r % 224) : ℝ) : EReal)
  | 0, hn => by
    have e := outs0_start V c ⟨0, hn⟩ rfl
    have z1 : (k0_pay1 : FVec Ideal S1x64 .f32) (ix2 0 o) = ((0 : ℝ) : EReal) := by pointwise [k0_pay1]; rfl
    have z2 : (k0_pay2 : FVec Ideal S1x64 .f32) (ix2 0 o) = ((0 : ℝ) : EReal) := by pointwise [k0_pay2]; rfl
    rw [show outsAt0 V c 0 hn = _ from e]
    constructor
    · refine (sum_pay _ _ _ _ (fun r => cv X W o ((0) / 14) (16 * ((0) % 14) + r / 224) (r % 224)) _ o (fun r => conv0 h ⟨0, hn⟩ r o) z1).trans ?_
      rw [Finset.sum_range_one, zero_add]
    · refine (sq_pay _ _ _ _ (fun r => cv X W o ((0) / 14) (16 * ((0) % 14) + r / 224) (r % 224)) _ o (fun r => conv0 h ⟨0, hn⟩ r o) z2).trans ?_
      rw [Finset.sum_range_one, zero_add]
  | n + 1, hn => by
    have hN : n + 1 < 56 := lt0 ⟨n + 1, hn⟩
    have e := outs0_step V c ⟨n + 1, hn⟩ (by show ¬(n + 1) % 56 = 0; omega)
    have ih := sums o n (Nat.lt_of_succ_lt hn)
    rw [show outsAt0 V c (n + 1) hn = _ from e]
    constructor
    · refine (sum_pay _ _ _ _ (fun r => cv X W o ((n + 1) / 14) (16 * ((n + 1) % 14) + r / 224) (r % 224)) _ o (fun r => conv0 h ⟨n + 1, hn⟩ r o) ih.1).trans ?_
      rw [Finset.sum_range_succ _ (n + 1)]
    · refine (sq_pay _ _ _ _ (fun r => cv X W o ((n + 1) / 14) (16 * ((n + 1) % 14) + r / 224) (r % 224)) _ o (fun r => conv0 h ⟨n + 1, hn⟩ r o) ih.2).trans ?_
      rw [Finset.sum_range_succ _ (n + 1)]

omit h

/-- The last call. -/
abbrev last0 : Fin cfg0.N := ⟨55, by rw [show cfg0.N = 56 from N_0]; decide⟩

variable (V c)

theorem array0_3 : (dat0 V c).arrAt 3 cfg0.N = (outsAt0 V c 55 last0.isLt).1 :=
  (dat0 V c).arrAt_eq_of_cover 3 (outsAt0 V c 55 last0.isLt).1
    (fun t hf => by
      obtain rfl : t = last0 := Fin.ext (by have := (flush0_3 t).mp hf; have := lt0 t; show t.val = 55; omega)
      show (cfg0.win 3).cut (grid0.coords last0) ((dat0 V c).after 3 last0) = _
      rw [after0_3]
      have hz' : (fun a => win0_3.index last0 a * main_v187_0.ty.shape.size a) = fun _ => 0 := funext fun a => by fin_cases a <;> exact Nat.zero_mul _
      exact (Memref.read_access_unit_zero (Elt Ideal) main_v187_0 hz' (fun a => by rw [congrFun hz' a]; simp) (outsAt0 V c 55 last0.isLt).1).symm)
    fun i => ⟨last0, (flush0_3 last0).mpr rfl, by
      show i ∈ ((View.whole main_v187_0).slice (win0_3.rect last0)).set
      rw [View.set_slice_whole, Rect.mem_set_unit]
      intro a
      have h0 : (i 0 : Nat) < 1 := (i 0).isLt
      have h1 : (i 1 : Nat) < 64 := (i 1).isLt
      match a with
      | ⟨0, _⟩ => show 0 * 1 ≤ (i 0 : Nat) ∧ (i 0 : Nat) < 0 * 1 + 1; omega
      | ⟨1, _⟩ => show 0 * 64 ≤ (i 1 : Nat) ∧ (i 1 : Nat) < 0 * 64 + 64; omega⟩

theorem array0_4 : (dat0 V c).arrAt 4 cfg0.N = (outsAt0 V c 55 last0.isLt).2 :=
  (dat0 V c).arrAt_eq_of_cover 4 (outsAt0 V c 55 last0.isLt).2
    (fun t hf => by
      obtain rfl : t = last0 := Fin.ext (by have := (flush0_4 t).mp hf; have := lt0 t; show t.val = 55; omega)
      show (cfg0.win 4).cut (grid0.coords last0) ((dat0 V c).after 4 last0) = _
      rw [after0_4]
      have hz' : (fun a => win0_4.index last0 a * main_v187_1.ty.shape.size a) = fun _ => 0 := funext fun a => by fin_cases a <;> exact Nat.zero_mul _
      exact (Memref.read_access_unit_zero (Elt Ideal) main_v187_1 hz' (fun a => by rw [congrFun hz' a]; simp) (outsAt0 V c 55 last0.isLt).2).symm)
    fun i => ⟨last0, (flush0_4 last0).mpr rfl, by
      show i ∈ ((View.whole main_v187_1).slice (win0_4.rect last0)).set
      rw [View.set_slice_whole, Rect.mem_set_unit]
      intro a
      have h0 : (i 0 : Nat) < 1 := (i 0).isLt
      have h1 : (i 1 : Nat) < 64 := (i 1).isLt
      match a with
      | ⟨0, _⟩ => show 0 * 1 ≤ (i 0 : Nat) ∧ (i 0 : Nat) < 0 * 1 + 1; omega
      | ⟨1, _⟩ => show 0 * 64 ≤ (i 1 : Nat) ∧ (i 1 : Nat) < 0 * 64 + 64; omega⟩

variable {V c}
include h

theorem val0_3 (o : Fin 64) : (dat0 V c).arrAt 3 cfg0.N (ix2 0 o) = ((tot (cv X W o) : ℝ) : EReal) := by
  rw [array0_3, tot_calls]
  exact (sums h o 55 last0.isLt).1

theorem val0_4 (o : Fin 64) : (dat0 V c).arrAt 4 cfg0.N (ix2 0 o)
    = ((tot (fun b y x => cv X W o b y x * cv X W o b y x) : ℝ) : EReal) := by
  rw [array0_4, tot_calls]
  exact (sums h o 55 last0.isLt).2

end Cert.KerVal
-- ==== Proof.KerVal1.lean ====
/-
  The encoding kernel's results: the nearest codeword of each token, the codewords themselves, and
  the sum of the smallest distances.
-/
module

public import proofs.«01_k».proof.Proof.KerVal0

@[expose] public section

noncomputable section

open Idealize.ShloMosaic Idealize.ShloMosaic.TcCoe Idealize.SL.Sem
open Cert.KernelIdeal Cert.KernelIdeal.Gen Cert.Spec

namespace Cert.KerVal

variable (D : Args)

/-- The prepared image: row `y` of the padded image, three shifted copies of three channels. -/
def xin (b y x j : ℕ) : ℝ := pad1 (D.x b (j % 3)) y (x + j / 3)

/-- The first weights as a matrix of 27 rows. -/
def win (k o : ℕ) : ℝ := D.w1 o (k % 3) (k / 9) (k / 3 % 3)

theorem cv_eq (o : ℕ) : cv (xin D) (win D) o = h1 D o := by
  funext b y x
  unfold cv h1 conv
  rw [show 27 = 3 * 9 from rfl, sum_range_mul]
  refine Finset.sum_congr rfl fun u _ => ?_
  rw [show 9 = 3 * 3 from rfl, sum_range_mul]
  refine Finset.sum_congr rfl fun v hv => Finset.sum_congr rfl fun i hi => ?_
  have hv' := Finset.mem_range.1 hv
  have hi' := Finset.mem_range.1 hi
  unfold xin win
  rw [show (u * (3 * 3) + (v * 3 + i)) / 9 = u by omega, show (u * (3 * 3) + (v * 3 + i)) % 9 = v * 3 + i by omega,
    show (v * 3 + i) % 3 = i by omega, show (v * 3 + i) / 3 = v by omega, show (u * (3 * 3) + (v * 3 + i)) % 3 = i by omega,
    show (u * (3 * 3) + (v * 3 + i)) / 3 % 3 = v by omega]

variable (V : (c : Dev nD) → (b : Ref sig .tc) → Buf (Elt Ideal) ((c : Thread nD τ).loc b)) (c : Dev nD)

/-- What the encoding kernel is handed. -/
structure Prep1 : Prop extends Prep V c (xin D) (win D) where
  s1 : ∀ o : Fin 64, V c main_v187_0 (ix2 0 o) = ((tot (h1 D o) : ℝ) : EReal)
  s2 : ∀ o : Fin 64, V c main_v187_1 (ix2 0 o) = ((tot (fun b y x => h1 D o b y x * h1 D o b y x) : ℝ) : EReal)
  g : ∀ o : Fin 64, V c main_v181 (ix2 0 o) = ((D.g1 o : ℝ) : EReal)
  b : ∀ o : Fin 64, V c main_v182 (ix2 0 o) = ((D.b1 o : ℝ) : EReal)
  cbt : ∀ (d : Fin 64) (k : Fin 1024), V c main_v180 (ix2 d k) = ((D.cb k d : ℝ) : EReal)
  cb : ∀ (k : Fin 1024) (d : Fin 64), V c main_arg5 (ix2 k d) = ((D.cb k d : ℝ) : EReal)

variable {D V c} (h : Prep1 D V c)
include h

theorem conv1 (t : Fin cfg1.N) (r : Fin 3584) (o : Fin 64) :
    k0_pay3 (iblk1 V c 0 t) (twoRows (iblk1 V c 1 t)) (iblk1 V c 2 t) (ix2 r o)
      = ((h1 D o (t.val / 14) (16 * (t.val % 14) + r.val / 224) (r.val % 224) : ℝ) : EReal) := by
  have hc := conv_pay (iblk1 V c 0 t) (twoRows (iblk1 V c 1 t)) (iblk1 V c 2 t) (fun a x j => xin D (t.val / 14) (16 * (t.val % 14) + a) x j) (win D)
    (fun r x j => (blk1_0 V c t r x j).trans (h.img _ _ x j)) (fun r x j => (blk1_1 V c t r x j).trans (h.img _ _ x j))
    (fun k o => (congrFun (blk1_2 V c t) _).trans (h.wts k o)) r o
  rw [← cv_eq]
  simpa only [cv, Nat.add_assoc] using hc

theorem norm (t : Fin cfg1.N) (r : Fin 3584) (o : Fin 64) :
    norm1 V c t (ix2 r o)
      = ((bn (h1 D o) (D.g1 o) (D.b1 o) (t.val / 14) (16 * (t.val % 14) + r.val / 224) (r.val % 224) : ℝ) : EReal) :=
  norm_pay _ _ _ _ _ _ _ (h1 D o) (D.g1 o) (D.b1 o) _ _ _ r o ((congrFun (blk1_5 V c t) _).trans (h.s1 o)) ((congrFun (blk1_6 V c t) _).trans (h.s2 o))
    ((congrFun (blk1_3 V c t) _).trans (h.g o)) ((congrFun (blk1_4 V c t) _).trans (h.b o)) (conv1 h t r o)

theorem dists (t : Fin cfg1.N) (r : Fin 896) (k : Fin 1024) :
    k1_pay5 (norm1 V c t) (iblk1 V c 7 t) (iblk1 V c 7 t) (iblk1 V c 7 t) (ix2 r k) = ((dist D (t.val * 896 + r.val) k : ℝ) : EReal) := by
  have hr := r.isLt
  refine dist_pay (norm1 V c t) (iblk1 V c 7 t)
    (fun r o => bn (h1 D o) (D.g1 o) (D.b1 o) (t.val / 14) (16 * (t.val % 14) + r / 224) (r % 224)) (tok D (t.val * 896 + r.val)) D.cb r k
    (fun r o => norm h t r o) (fun d _ => ?_) (fun d k => (congrFun (blk1_7 V c t) _).trans (h.cbt d k))
  unfold tok Spec.pool r1
  rw [show (t.val * 896 + r.val) / 12544 = t.val / 14 by omega,
    show 2 * ((t.val * 896 + r.val) % 12544 / 112) = 16 * (t.val % 14) + (r.val / 112 * 2 * 224 + r.val % 112 * 2) / 224 by omega,
    show 2 * ((t.val * 896 + r.val) % 112) = (r.val / 112 * 2 * 224 + r.val % 112 * 2) % 224 by omega,
    show (r.val / 112 * 2 * 224 + r.val % 112 * 2 + 1) / 224 = (r.val / 112 * 2 * 224 + r.val % 112 * 2) / 224 by omega,
    show (r.val / 112 * 2 * 224 + r.val % 112 * 2 + 1) % 224 = (r.val / 112 * 2 * 224 + r.val % 112 * 2) % 224 + 1 by omega,
    show ((r.val / 112 * 2 + 1) * 224 + r.val % 112 * 2) / 224 = (r.val / 112 * 2 * 224 + r.val % 112 * 2) / 224 + 1 by omega,
    show ((r.val / 112 * 2 + 1) * 224 + r.val % 112 * 2) % 224 = (r.val / 112 * 2 * 224 + r.val % 112 * 2) % 224 by omega,
    show ((r.val / 112 * 2 + 1) * 224 + r.val % 112 * 2 + 1) / 224 = (r.val / 112 * 2 * 224 + r.val % 112 * 2) / 224 + 1 by omega,
    show ((r.val / 112 * 2 + 1) * 224 + r.val % 112 * 2 + 1) % 224 = (r.val / 112 * 2 * 224 + r.val % 112 * 2) % 224 + 1 by omega]
  simp only [Nat.add_assoc]

theorem leasts (t : Fin cfg1.N) (r : Fin 896) :
    least1 V c t (ix2 r 0) = ((dist D (t.val * 896 + r.val) (near D (t.val * 896 + r.val)) : ℝ) : EReal) :=
  least_pay _ _ r _ _ (near_spec D _) fun k => dists h t r k

theorem indexes (t : Fin cfg1.N) (r : Fin 896) :
    k1_pay7 (norm1 V c t) (iblk1 V c 7 t) (iblk1 V c 7 t) (iblk1 V c 7 t) (ix1 r) = BitVec.ofNat 32 (near D (t.val * 896 + r.val)) :=
  index_pay _ _ r _ _ (near_spec D _) fun k => dists h t r k

theorem codes (t : Fin cfg1.N) (r : Fin 896) (d : Fin 64) :
    k1_pay1 (k1_pay9 (norm1 V c t) (iblk1 V c 7 t) (iblk1 V c 7 t) (iblk1 V c 7 t)) (iblk1 V c 8 t) (ix3 0 r d)
      = ((D.cb (near D (t.val * 896 + r.val)) d : ℝ) : EReal) :=
  quant_pay _ _ _ D.cb r d _ (near_lt D _) (indexes h t r) fun k d => (congrFun (blk1_8 V c t) _).trans (h.cb k d)

/-! ### What the outputs hold after each call -/

theorem out1_9 (t : Fin cfg1.N) (r : Fin 896) : (outsAt1 V c t.val t.isLt).1 (ix3 0 0 r) = BitVec.ofNat 32 (near D (t.val * 896 + r.val)) := by
  by_cases ht : t.val % 56 = 0
  · rw [outs1_start V c t ht]
    refine Eq.trans ?_ (indexes h t r)
    dsimp only
    exact index_pay8 (norm1 V c t) (iblk1 V c 7 t) r
  · rw [outs1_step V c t ht]
    refine Eq.trans ?_ (indexes h t r)
    dsimp only
    exact index_pay8 (norm1 V c t) (iblk1 V c 7 t) r

theorem out1_10 (t : Fin cfg1.N) (r : Fin 896) (d : Fin 64) :
    (outsAt1 V c t.val t.isLt).2.1 (ix3 0 r d) = ((D.cb (near D (t.val * 896 + r.val)) d : ℝ) : EReal) := by
  by_cases ht : t.val % 56 = 0
  · rw [outs1_start V c t ht]
    exact codes h t r d
  · rw [outs1_step V c t ht]
    exact codes h t r d

theorem out1_11 : ∀ (n : ℕ) (hn : n < cfg1.N), (outsAt1 V c n hn).2.2 (ix2 0 0)
    = ((∑ s ∈ Finset.range (n + 1), ∑ r ∈ Finset.range 896, dist D (s * 896 + r) (near D (s * 896 + r)) : ℝ) : EReal)
  | 0, hn => by
    have z : (k1_pay2 : FVec Ideal S1x1 .f32) (ix2 0 0) = ((0 : ℝ) : EReal) := by pointwise [k1_pay2]; rfl
    rw [show outsAt1 V c 0 hn = _ from outs1_start V c ⟨0, hn⟩ rfl]
    refine (loss_pay _ _ (fun r => dist D (0 * 896 + r) (near D (0 * 896 + r))) _ (fun r => leasts h ⟨0, hn⟩ r) z).trans ?_
    rw [Finset.sum_range_one, zero_add]
  | n + 1, hn => by
    have hN : n + 1 < 56 := lt1 ⟨n + 1, hn⟩
    rw [show outsAt1 V c (n + 1) hn = _ from outs1_step V c ⟨n + 1, hn⟩ (by show ¬(n + 1) % 56 = 0; omega)]
    refine (loss_pay _ _ (fun r => dist D ((n + 1) * 896 + r) (near D ((n + 1) * 896 + r))) _ (fun r => leasts h ⟨n + 1, hn⟩ r)
      (out1_11 n (Nat.lt_of_succ_lt hn))).trans ?_
    rw [Finset.sum_range_succ _ (n + 1)]

/-! ### The arrays -/

omit h in
theorem index1_9 (t : Fin cfg1.N) : win1_9.index t 0 = t.val ∧ win1_9.index t 1 = 0 ∧ win1_9.index t 2 = 0 :=
  (by decide +kernel : ∀ t : Fin cfg1.N, win1_9.index t 0 = t.val ∧ win1_9.index t 1 = 0 ∧ win1_9.index t 2 = 0) t

omit h in
theorem index1_10 (t : Fin cfg1.N) : win1_10.index t 0 = t.val ∧ win1_10.index t 1 = 0 ∧ win1_10.index t 2 = 0 :=
  (by decide +kernel : ∀ t : Fin cfg1.N, win1_10.index t 0 = t.val ∧ win1_10.index t 1 = 0 ∧ win1_10.index t 2 = 0) t

theorem val1_9 (s : Fin 56) (r : Fin 896) :
    (dat1 V c).arrAt 9 cfg1.N (ix3 s 0 r) = BitVec.ofNat 32 (near D (s.val * 896 + r.val)) := by
  refine congrFun ((dat1 V c).arrAt_eq_of_cover 9
    (fun i : S56x1x896.Idx => (BitVec.ofNat 32 (near D ((i 0).val * 896 + (i 2).val)) : BitVec 32)) (fun t hf => ?_) fun i => ?_) (ix3 s 0 r)
  · have hi := index1_9 t
    show (cfg1.win 9).cut (grid1.coords t) ((dat1 V c).after 9 t) = _
    rw [after1_9]
    funext y
    rw [View.read_apply]
    show (outsAt1 V c t.val t.isLt).1 y = BitVec.ofNat 32 (near D ((win1_9.index t 0 * 1 + 1 * (y 0).val) * 896 + (win1_9.index t 2 * 896 + 1 * (y 2).val)))
    have h0 : (y 0).val < 1 := (y 0).isLt
    have hy : y = ix3 0 0 (y 2) := by
      funext a
      apply Fin.ext
      have h1 : (y 1).val < 1 := (y 1).isLt
      match a with
      | ⟨0, _⟩ => show (y 0).val = 0; omega
      | ⟨1, _⟩ => show (y 1).val = 0; omega
      | ⟨2, _⟩ => rfl
    rw [hi.1, hi.2.2, show t.val * 1 + 1 * (y 0).val = t.val by omega, show 0 * 896 + 1 * (y 2).val = (y 2).val by omega]
    exact (congrArg _ hy).trans (out1_9 h t (y 2))
  · obtain ⟨t, ht⟩ : ∃ t : Fin cfg1.N, t.val = (i 0).val := ⟨⟨(i 0).val, by rw [show cfg1.N = 56 from N_1]; exact (i 0).isLt⟩, rfl⟩
    refine ⟨t, flush1_9 t, ?_⟩
    have hi := index1_9 t
    show i ∈ ((View.whole main_v188_0).slice (win1_9.rect t)).set
    rw [View.set_slice_whole, Rect.mem_set_unit]
    intro a
    have h1 : (i 1 : Nat) < 1 := (i 1).isLt
    have h2 : (i 2 : Nat) < 896 := (i 2).isLt
    match a with
    | ⟨0, _⟩ => show win1_9.index t 0 * 1 ≤ (i 0 : Nat) ∧ (i 0 : Nat) < win1_9.index t 0 * 1 + 1; rw [hi.1, ht]; omega
    | ⟨1, _⟩ => show win1_9.index t 1 * 1 ≤ (i 1 : Nat) ∧ (i 1 : Nat) < win1_9.index t 1 * 1 + 1; rw [hi.2.1]; omega
    | ⟨2, _⟩ => show win1_9.index t 2 * 896 ≤ (i 2 : Nat) ∧ (i 2 : Nat) < win1_9.index t 2 * 896 + 896; rw [hi.2.2]; omega

theorem val1_10 (s : Fin 56) (r : Fin 896) (d : Fin 64) :
    (dat1 V c).arrAt 10 cfg1.N (ix3 s r d) = ((D.cb (near D (s.val * 896 + r.val)) d : ℝ) : EReal) := by
  refine congrFun ((dat1 V c).arrAt_eq_of_cover 10
    (fun i : S56x896x64.Idx => ((D.cb (near D ((i 0).val * 896 + (i 1).val)) (i 2).val : ℝ) : EReal)) (fun t hf => ?_) fun i => ?_) (ix3 s r d)
  · have hi := index1_10 t
    show (cfg1.win 10).cut (grid1.coords t) ((dat1 V c).after 10 t) = _
    rw [after1_10]
    funext y
    rw [View.read_apply]
    show (outsAt1 V c t.val t.isLt).2.1 y = ((D.cb (near D ((win1_10.index t 0 * 1 + 1 * (y 0).val) * 896 + (win1_10.index t 1 * 896 + 1 * (y 1).val)))
      (win1_10.index t 2 * 64 + 1 * (y 2).val) : ℝ) : EReal)
    have h0 : (y 0).val < 1 := (y 0).isLt
    have hy : y = ix3 0 (y 1) (y 2) := by
      funext a
      apply Fin.ext
      match a with
      | ⟨0, _⟩ => show (y 0).val = 0; omega
      | ⟨1, _⟩ => rfl
      | ⟨2, _⟩ => rfl
    rw [hi.1, hi.2.1, hi.2.2, show t.val * 1 + 1 * (y 0).val = t.val by omega, show 0 * 896 + 1 * (y 1).val = (y 1).val by omega,
      show 0 * 64 + 1 * (y 2).val = (y 2).val by omega]
    exact (congrArg _ hy).trans (out1_10 h t (y 1) (y 2))
  · obtain ⟨t, ht⟩ : ∃ t : Fin cfg1.N, t.val = (i 0).val := ⟨⟨(i 0).val, by rw [show cfg1.N = 56 from N_1]; exact (i 0).isLt⟩, rfl⟩
    refine ⟨t, flush1_10 t, ?_⟩
    have hi := index1_10 t
    show i ∈ ((View.whole main_v188_1).slice (win1_10.rect t)).set
    rw [View.set_slice_whole, Rect.mem_set_unit]
    intro a
    have h1 : (i 1 : Nat) < 896 := (i 1).isLt
    have h2 : (i 2 : Nat) < 64 := (i 2).isLt
    match a with
    | ⟨0, _⟩ => show win1_10.index t 0 * 1 ≤ (i 0 : Nat) ∧ (i 0 : Nat) < win1_10.index t 0 * 1 + 1; rw [hi.1, ht]; omega
    | ⟨1, _⟩ => show win1_10.index t 1 * 896 ≤ (i 1 : Nat) ∧ (i 1 : Nat) < win1_10.index t 1 * 896 + 896; rw [hi.2.1]; omega
    | ⟨2, _⟩ => show win1_10.index t 2 * 64 ≤ (i 2 : Nat) ∧ (i 2 : Nat) < win1_10.index t 2 * 64 + 64; rw [hi.2.2]; omega

omit h in
/-- The last call. -/
abbrev last1 : Fin cfg1.N := ⟨55, by rw [show cfg1.N = 56 from N_1]; decide⟩

omit h in
theorem array1_11 : (dat1 V c).arrAt 11 cfg1.N = (outsAt1 V c 55 last1.isLt).2.2 :=
  (dat1 V c).arrAt_eq_of_cover 11 (outsAt1 V c 55 last1.isLt).2.2
    (fun t hf => by
      obtain rfl : t = last1 := Fin.ext (by have := (flush1_11 t).mp hf; have := lt1 t; show t.val = 55; omega)
      show (cfg1.win 11).cut (grid1.coords last1) ((dat1 V c).after 11 last1) = _
      rw [after1_11]
      have hz' : (fun a => win1_11.index last1 a * main_v188_2.ty.shape.size a) = fun _ => 0 := funext fun a => by fin_cases a <;> exact Nat.zero_mul _
      exact (Memref.read_access_unit_zero (Elt Ideal) main_v188_2 hz' (fun a => by rw [congrFun hz' a]; simp) (outsAt1 V c 55 last1.isLt).2.2).symm)
    fun i => ⟨last1, (flush1_11 last1).mpr rfl, by
      show i ∈ ((View.whole main_v188_2).slice (win1_11.rect last1)).set
      rw [View.set_slice_whole, Rect.mem_set_unit]
      intro a
      have h0 : (i 0 : Nat) < 1 := (i 0).isLt
      have h1 : (i 1 : Nat) < 1 := (i 1).isLt
      match a with
      | ⟨0, _⟩ => show 0 * 1 ≤ (i 0 : Nat) ∧ (i 0 : Nat) < 0 * 1 + 1; omega
      | ⟨1, _⟩ => show 0 * 1 ≤ (i 1 : Nat) ∧ (i 1 : Nat) < 0 * 1 + 1; omega⟩

theorem val1_11 : (dat1 V c).arrAt 11 cfg1.N (ix2 0 0) = ((∑ t ∈ Finset.range 50176, dist D t (near D t) : ℝ) : EReal) := by
  rw [array1_11, show 50176 = 56 * 896 from rfl, sum_range_mul]
  exact out1_11 h 55 last1.isLt

end Cert.KerVal
-- ==== Proof.KerHost.lean ====
/-
  What the host hands the kernels, read at an index: the image with its three shifted copies, the
  first weights as a matrix, the transposed codebook, the normalisation's rows.
-/
module

public import proofs.«01_k».proof.Proof.Spec
public import proofs.«01_k».proof.Proof.Gen.KernelIdeal.Launch
public import Idealize.ShloMosaic.Lib.Pointwise
public import Idealize.ShloMosaic.Lib.StableHlo.Run

@[expose] public section

noncomputable section

open Idealize.ShloMosaic Idealize.ShloMosaic.TcCoe Idealize.SL.Sem Idealize.ShloMosaic.StableHlo
open Cert.KernelIdeal Cert.KernelIdeal.Gen Cert.Spec

namespace Cert.KerVal

theorem host_v0 (V : Valuation τ sig (Elt Ideal)) (b : Fin 4) (y x : Fin 224) (c : Fin 3) :
    after hostOps0 V (Proc.devRef .tc main_v0) (ix4 b y x c) = V (Proc.devRef .tc main_arg0) (ix4 b c y x) := by
  simp only [hostOps0, TRef.binary, TRef.nullary, TRef.ternary, TRef.unary, TRef.quaternary, TRef.toBuf, TRef.ofBuf, cast_eq]
  after_results_simp
  pointwise

theorem host_c (V : Valuation τ sig (Elt Ideal)) : after hostOps0 V (Proc.devRef .tc main_c) ix0 = 0#32 := by
  simp only [hostOps0, TRef.binary, TRef.nullary, TRef.ternary, TRef.unary, TRef.quaternary, TRef.toBuf, TRef.ofBuf, cast_eq]
  after_results_simp
  pointwise

theorem word_zero (i : S_.Idx) (z : Vec Ideal S_ .i32) (hz : z ix0 = 0#32) : (FloatOps.sitofp (F := Ideal) .f32 (z i) : EReal) = ((0 : ℝ) : EReal) := by
  rw [show i = ix0 from Subsingleton.elim _ _, hz]
  show (((0#32 : BitVec 32).toInt : ℝ) : EReal) = _
  simp

theorem host_v1 (V : Valuation τ sig (Elt Ideal)) (f : ℕ → ℕ → ℕ → ℕ → ℝ)
    (hx : ∀ (b : Fin 4) (y x : Fin 224) (c : Fin 3), V (Proc.devRef .tc main_v0) (ix4 b y x c) = ((f b c y x : ℝ) : EReal))
    (hz : V (Proc.devRef .tc main_c) ix0 = 0#32) (b : Fin 4) (y : Fin 224) (x : Fin 226) (c : Fin 3) :
    after hostOps0_1 V (Proc.devRef .tc main_v1) (ix4 b y x c)
      = ((if 1 ≤ x.val ∧ x.val ≤ 224 then f b c y (x.val - 1) else 0 : ℝ) : EReal) := by
  simp only [hostOps0_1, TRef.binary, TRef.nullary, TRef.ternary, TRef.unary, TRef.quaternary, TRef.toBuf, TRef.ofBuf, cast_eq]
  after_results_simp
  pointwise
  by_cases h : 1 ≤ x.val ∧ x.val ≤ 224
  · rw [if_pos h]
    refine (dif_pos (show 1 ≤ x.val ∧ x.val - 1 < 224 by omega)).trans ?_
    exact hx b y ⟨x.val - 1, _⟩ c
  · rw [if_neg h]
    refine (dif_neg (show ¬(1 ≤ x.val ∧ x.val - 1 < 224) by omega)).trans ?_
    exact word_zero _ _ hz

theorem host_v5 (V : Valuation τ sig (Elt Ideal)) (f : ℕ → ℕ → ℕ → ℕ → EReal)
    (hx : ∀ (b : Fin 4) (y : Fin 224) (x : Fin 226) (c : Fin 3), V (Proc.devRef .tc main_v1) (ix4 b y x c) = f b y x c)
    (b : Fin 4) (y : Fin 224) (x : Fin 224) (j : Fin 9) :
    after hostOps0_2 V (Proc.devRef .tc main_v5) (ix4 b y x j) = f b y (x.val + j.val / 3) (j.val % 3) := by
  simp only [hostOps0_2, TRef.binary, TRef.nullary, TRef.ternary, TRef.unary, TRef.quaternary, TRef.toBuf, TRef.ofBuf, cast_eq]
  after_results_simp
  pointwise
  after_results_simp
  pointwise
  have at_f : ∀ {u u' v v' : ℕ}, u = u' → v = v' → f b y u v = f b y u' v' := fun hu hv => by rw [hu, hv]
  by_cases h : (j : ℕ) < 3
  · exact (dif_pos h).trans ((hx b y ⟨_, _⟩ ⟨_, _⟩).trans (at_f (show (x : ℕ) = x + j / 3 by omega) (show (j : ℕ) = j % 3 by omega)))
  · refine (dif_neg h).trans ?_
    by_cases h' : (j : ℕ) - 3 < 3
    · exact (dif_pos h').trans ((hx b y ⟨_, _⟩ ⟨_, _⟩).trans (at_f (show 1 + (x : ℕ) = x + j / 3 by omega) (show (j : ℕ) - 3 = j % 3 by omega)))
    · exact (dif_neg h').trans ((hx b y ⟨_, _⟩ ⟨_, _⟩).trans (at_f (show 2 + (x : ℕ) = x + j / 3 by omega) (show (j : ℕ) - 3 - 3 = j % 3 by omega)))

theorem host_c_0 (V : Valuation τ sig (Elt Ideal)) : after hostOps0_2 V (Proc.devRef .tc main_c_0) ix0 = 0#32 := by
  simp only [hostOps0_2, TRef.binary, TRef.nullary, TRef.ternary, TRef.unary, TRef.quaternary, TRef.toBuf, TRef.ofBuf, cast_eq]
  after_results_simp
  pointwise

theorem host_v6 (V : Valuation τ sig (Elt Ideal)) (f : ℕ → ℕ → ℕ → ℕ → ℝ)
    (hx : ∀ (b : Fin 4) (y x : Fin 224) (c : Fin 9), V (Proc.devRef .tc main_v5) (ix4 b y x c) = ((f b y x c : ℝ) : EReal))
    (hz : V (Proc.devRef .tc main_c_0) ix0 = 0#32) (b : Fin 4) (y : Fin 240) (x : Fin 224) (j : Fin 9) :
    after hostOps0_3 V (Proc.devRef .tc main_v6) (ix4 b y x j)
      = ((if 1 ≤ y.val ∧ y.val ≤ 224 then f b (y.val - 1) x j else 0 : ℝ) : EReal) := by
  simp only [hostOps0_3, TRef.binary, TRef.nullary, TRef.ternary, TRef.unary, TRef.quaternary, TRef.toBuf, TRef.ofBuf, cast_eq]
  after_results_simp
  pointwise
  by_cases h : 1 ≤ y.val ∧ y.val ≤ 224
  · rw [if_pos h]
    refine (dif_pos (show 1 ≤ y.val ∧ y.val - 1 < 224 by omega)).trans ?_
    exact hx b ⟨y.val - 1, _⟩ x j
  · rw [if_neg h]
    refine (dif_neg (show ¬(1 ≤ y.val ∧ y.val - 1 < 224) by omega)).trans ?_
    exact word_zero _ _ hz

theorem host_v8 (V : Valuation τ sig (Elt Ideal)) (w : ℕ → ℕ → ℕ → ℕ → ℝ)
    (hw : ∀ (o : Fin 64) (c u v : Fin 3), V (Proc.devRef .tc main_arg1) (ix4 o c u v) = ((w o c u v : ℝ) : EReal)) (k : Fin 27) (o : Fin 64) :
    after hostOps0_4 V (Proc.devRef .tc main_v8) (ix2 k o) = ((w o (k.val % 3) (k.val / 9) (k.val / 3 % 3) : ℝ) : EReal) := by
  simp only [hostOps0_4, TRef.binary, TRef.nullary, TRef.ternary, TRef.unary, TRef.quaternary, TRef.toBuf, TRef.ofBuf, cast_eq]
  after_results_simp
  pointwise
  exact hw o ⟨_, _⟩ ⟨_, _⟩ ⟨_, _⟩

theorem host_v181 (V : Valuation τ sig (Elt Ideal)) (o : Fin 64) :
    after hostOps0_6 V (Proc.devRef .tc main_v181) (ix2 0 o) = V (Proc.devRef .tc main_arg3) (ix1 o) := by
  simp only [hostOps0_6, TRef.binary, TRef.nullary, TRef.ternary, TRef.unary, TRef.quaternary, TRef.toBuf, TRef.ofBuf, cast_eq]
  after_results_simp
  pointwise

theorem host_v182 (V : Valuation τ sig (Elt Ideal)) (o : Fin 64) :
    after hostOps0_6 V (Proc.devRef .tc main_v182) (ix2 0 o) = V (Proc.devRef .tc main_arg4) (ix1 o) := by
  simp only [hostOps0_6, TRef.binary, TRef.nullary, TRef.ternary, TRef.unary, TRef.quaternary, TRef.toBuf, TRef.ofBuf, cast_eq]
  after_results_simp
  pointwise

theorem host_v180 (V : Valuation τ sig (Elt Ideal)) (d : Fin 64) (k : Fin 1024) :
    after hostOps0_6 V (Proc.devRef .tc main_v180) (ix2 d k) = V (Proc.devRef .tc main_arg5) (ix2 k d) := by
  simp only [hostOps0_6, TRef.binary, TRef.nullary, TRef.ternary, TRef.unary, TRef.quaternary, TRef.toBuf, TRef.ofBuf, cast_eq]
  after_results_simp
  pointwise

end Cert.KerVal
-- ==== Proof.KerPrep.lean ====
/-
  From the arguments in memory to the codewords' indices, the codewords and the loss.
-/
module

public import proofs.«01_k».proof.Proof.KerVal1
public import proofs.«01_k».proof.Proof.KerHost
public import proofs.«01_k».proof.Proof.Gen.KernelIdeal.Frame

@[expose] public section

noncomputable section

open Idealize.ShloMosaic Idealize.ShloMosaic.TcCoe Idealize.SL.Sem Idealize.ShloMosaic.StableHlo
open Cert.KernelIdeal Cert.KernelIdeal.Gen Cert.Spec

namespace Cert.KerVal

/-- Region 1's results, reshaped. -/
theorem host_v189 (V : Valuation τ sig (Elt Ideal)) (f : ℕ → BitVec 32)
    (h : ∀ (s : Fin 56) (r : Fin 896), V (Proc.devRef .tc main_v188_0) (ix3 s 0 r) = f (s.val * 896 + r.val)) (b : Fin 4) (y x : Fin 112) :
    after hostOps2 V (Proc.devRef .tc main_v189) (ix3 b y x) = f (b.val * 12544 + y.val * 112 + x.val) := by
  simp only [hostOps2, TRef.binary, TRef.nullary, TRef.ternary, TRef.unary, TRef.quaternary, TRef.toBuf, TRef.ofBuf, cast_eq]
  after_results_simp
  pointwise
  refine (h ⟨_, _⟩ ⟨_, _⟩).trans (congrArg f ?_)
  dsimp only
  omega

theorem host_v191 (V : Valuation τ sig (Elt Ideal)) (a : ℝ) (h : V (Proc.devRef .tc main_v188_2) (ix2 0 0) = ((a : ℝ) : EReal)) :
    after hostOps2 V (Proc.devRef .tc main_v191) ix0 = ((a / 3211264 : ℝ) : EReal) := by
  simp only [hostOps2, TRef.binary, TRef.nullary, TRef.ternary, TRef.unary, TRef.quaternary, TRef.toBuf, TRef.ofBuf, cast_eq]
  after_results_simp
  pointwise
  show Ideal.div (V (Proc.devRef .tc main_v188_2) (ix2 0 0)) (Ideal.ofBits .f32 0x4A440000#32) = _
  rw [h, ofBits_ntok, div_coe_coe _ _ (by norm_num)]

theorem host_v192 (V : Valuation τ sig (Elt Ideal)) (f : ℕ → ℕ → ℝ)
    (h : ∀ (s : Fin 56) (r : Fin 896) (d : Fin 64), V (Proc.devRef .tc main_v188_1) (ix3 s r d) = ((f (s.val * 896 + r.val) d : ℝ) : EReal))
    (s : Fin 56) (y : Fin 8) (x : Fin 112) (d : Fin 64) :
    after hostOps2 V (Proc.devRef .tc main_v192) (ix4 s y x d) = ((f (s.val * 896 + y.val * 112 + x.val) d : ℝ) : EReal) := by
  simp only [hostOps2, TRef.binary, TRef.nullary, TRef.ternary, TRef.unary, TRef.quaternary, TRef.toBuf, TRef.ofBuf, cast_eq]
  after_results_simp
  pointwise
  refine (h ⟨_, _⟩ ⟨_, _⟩ ⟨_, _⟩).trans ?_
  dsimp only
  congr 2
  omega

variable (D : Args) (m : (ℓ : Loc nD τ sig) → Buf (Elt Ideal) ℓ) (ρ : Dev nD → PrngReg) (c : Dev nD)

/-- The arguments in memory hold the real numbers of `D`. -/
structure Given : Prop where
  x : ∀ (b : Fin 4) (i : Fin 3) (y x : Fin 224), m ((c : Thread nD τ).loc main_arg0) (ix4 b i y x) = ((D.x b i y x : ℝ) : EReal)
  w1 : ∀ (o : Fin 64) (i : Fin 3) (y x : Fin 3), m ((c : Thread nD τ).loc main_arg1) (ix4 o i y x) = ((D.w1 o i y x : ℝ) : EReal)
  g1 : ∀ o : Fin 64, m ((c : Thread nD τ).loc main_arg3) (ix1 o) = ((D.g1 o : ℝ) : EReal)
  b1 : ∀ o : Fin 64, m ((c : Thread nD τ).loc main_arg4) (ix1 o) = ((D.b1 o : ℝ) : EReal)
  cb : ∀ (k : Fin 1024) (d : Fin 64), m ((c : Thread nD τ).loc main_arg5) (ix2 k d) = ((D.cb k d : ℝ) : EReal)
  w2 : ∀ (o : Fin 3) (i : Fin 64) (y x : Fin 3), m ((c : Thread nD τ).loc main_arg6) (ix4 o i y x) = ((D.w2 o i y x : ℝ) : EReal)
  g2 : ∀ o : Fin 3, m ((c : Thread nD τ).loc main_arg8) (ix1 o) = ((D.g2 o : ℝ) : EReal)
  b2 : ∀ o : Fin 3, m ((c : Thread nD τ).loc main_arg9) (ix1 o) = ((D.b2 o : ℝ) : EReal)

variable {D m c} (h : Given D m c)
include h

theorem prep_v6 (b : Fin 4) (y : Fin 240) (x : Fin 224) (j : Fin 9) :
    W4 m ρ c (Proc.devRef .tc main_v6) (ix4 b y x j) = ((xin D b y x j : ℝ) : EReal) := by
  have h0 : ∀ (b : Fin 4) (y x : Fin 224) (i : Fin 3), W1 m ρ c (Proc.devRef .tc main_v0) (ix4 b y x i) = ((D.x b i y x : ℝ) : EReal) := fun b y x i =>
    (host_v0 (W0 m ρ c) b y x i).trans (h.x b i y x)
  have h1 := host_v1 (W1 m ρ c) D.x h0 (host_c _)
  have h5 := host_v5 (W2 m ρ c) (fun b y x i => ((if 1 ≤ x ∧ x ≤ 224 then D.x b i y (x - 1) else 0 : ℝ) : EReal)) h1
  refine (host_v6 (W3 m ρ c) (fun b y x j => if 1 ≤ x + j / 3 ∧ x + j / 3 ≤ 224 then D.x b (j % 3) y (x + j / 3 - 1) else 0) h5 (host_c_0 _) b y x j).trans ?_
  refine congrArg _ ?_
  unfold xin pad1
  by_cases hy : 1 ≤ y.val ∧ y.val ≤ 224
  · by_cases hx : 1 ≤ x.val + j.val / 3 ∧ x.val + j.val / 3 ≤ 224
    · rw [if_pos hy, if_pos hx, if_pos ⟨hy.1, hy.2, hx⟩]
    · rw [if_pos hy, if_neg hx, if_neg fun e => hx e.2.2]
  · rw [if_neg hy, if_neg fun e => hy ⟨e.1, e.2.1⟩]

theorem prep0 : Prep (V11 m ρ) c (xin D) (win D) where
  img b y x j := by
    refine Eq.trans (congrFun ?_ _) (prep_v6 ρ h b y x j)
    exact (W11_of m ρ c main_v6 (by decide)).trans <| (W10_of m ρ c main_v6 (by decide)).trans <| (W9_of m ρ c main_v6 (by decide)).trans <|
      (W8_of m ρ c main_v6 (by decide)).trans <| (W7_of m ρ c main_v6 (by decide)).trans <| (W6_of m ρ c main_v6 (by decide)).trans <|
      W5_of m ρ c main_v6 (by decide)
  wts k o := by
    refine Eq.trans (congrFun ?_ _) (host_v8 (W4 m ρ c) D.w1 (fun o i u v => (congrFun (W4_args m ρ c main_arg1 (by decide)) _).trans (h.w1 o i u v)) k o)
    exact (W11_of m ρ c main_v8 (by decide)).trans <| (W10_of m ρ c main_v8 (by decide)).trans <| (W9_of m ρ c main_v8 (by decide)).trans <|
      (W8_of m ρ c main_v8 (by decide)).trans <| (W7_of m ρ c main_v8 (by decide)).trans <| W6_of m ρ c main_v8 (by decide)

omit h in
/-- What the seventh stretch leaves is still there at the first kernel's entry. -/
theorem keep7 (r : Ref sig .tc) (h7 : r ∉ hostOps0_7_W) (h8 : r ∉ hostOps0_8_W) (h9 : r ∉ hostOps0_9_W) (h10 : r ∉ hostOps0_10_W) :
    V11 m ρ c r = W7 m ρ c (Proc.devRef .tc r) :=
  (W11_of m ρ c r h10).trans <| (W10_of m ρ c r h9).trans <| (W9_of m ρ c r h8).trans <| W8_of m ρ c r h7

theorem prep1 : Prep1 D (V12 m ρ) c where
  img b y x j := (congrFun (W12_of m ρ c main_v6 (by decide)) _).trans ((prep0 ρ h).img b y x j)
  wts k o := (congrFun (W12_of m ρ c main_v8 (by decide)) _).trans ((prep0 ρ h).wts k o)
  s1 o := by
    have e := val0_3 (prep0 ρ h) o
    rw [cv_eq] at e
    exact (congrFun (W12_arr m ρ c 3) _).trans e
  s2 o := by
    have e := val0_4 (prep0 ρ h) o
    rw [cv_eq] at e
    exact (congrFun (W12_arr m ρ c 4) _).trans e
  g o := (congrFun ((W12_of m ρ c main_v181 (by decide)).trans (keep7 ρ main_v181 (by decide) (by decide) (by decide) (by decide))) _).trans
    ((host_v181 (W6 m ρ c) o).trans ((congrFun (W6_args m ρ c main_arg3 (by decide)) _).trans (h.g1 o)))
  b o := (congrFun ((W12_of m ρ c main_v182 (by decide)).trans (keep7 ρ main_v182 (by decide) (by decide) (by decide) (by decide))) _).trans
    ((host_v182 (W6 m ρ c) o).trans ((congrFun (W6_args m ρ c main_arg4 (by decide)) _).trans (h.b1 o)))
  cbt d k := (congrFun ((W12_of m ρ c main_v180 (by decide)).trans (keep7 ρ main_v180 (by decide) (by decide) (by decide) (by decide))) _).trans
    ((host_v180 (W6 m ρ c) d k).trans ((congrFun (W6_args m ρ c main_arg5 (by decide)) _).trans (h.cb k d)))
  cb k d := (congrFun ((W12_of m ρ c main_arg5 (by decide)).trans (W11_args m ρ c main_arg5 (by decide))) _).trans (h.cb k d)

/-- The indices. -/
theorem val_v189 (b : Fin 4) (y x : Fin 112) :
    W14 m ρ c (Proc.devRef .tc main_v189) (ix3 b y x) = BitVec.ofNat 32 (near D (b.val * 12544 + y.val * 112 + x.val)) :=
  host_v189 (W13 m ρ c) (fun n => BitVec.ofNat 32 (near D n)) (fun s r => (congrFun (W13_arr m ρ c 9) _).trans (val1_9 (prep1 ρ h) s r)) b y x

/-- The loss. -/
theorem val_v191 : W14 m ρ c (Proc.devRef .tc main_v191) ix0 = ((loss D : ℝ) : EReal) :=
  host_v191 (W13 m ρ c) _ ((congrFun (W13_arr m ρ c 11) _).trans (val1_11 (prep1 ρ h)))

/-- The codewords. -/
theorem val_v192 (s : Fin 56) (y : Fin 8) (x : Fin 112) (d : Fin 64) :
    W14 m ρ c (Proc.devRef .tc main_v192) (ix4 s y x d) = ((D.cb (near D (s.val * 896 + y.val * 112 + x.val)) d : ℝ) : EReal) :=
  host_v192 (W13 m ρ c) (fun n d => D.cb (near D n) d) (fun s r d => (congrFun (W13_arr m ρ c 10) _).trans (val1_10 (prep1 ρ h) s r d)) s y x d

/-- The indices at the end of the run. -/
theorem end_v189 (b : Fin 4) (y x : Fin 112) :
    W17 m ρ c (Proc.devRef .tc main_v189) (ix3 b y x) = BitVec.ofNat 32 (near D (b.val * 12544 + y.val * 112 + x.val)) :=
  (congrFun ((W17_of m ρ c main_v189 (by decide)).trans <| (W16_of m ρ c main_v189 (by decide)).trans <| W15_of m ρ c main_v189 (by decide)) _).trans
    (val_v189 ρ h b y x)

/-- The loss at the end of the run. -/
theorem end_v191 : W17 m ρ c (Proc.devRef .tc main_v191) ix0 = ((loss D : ℝ) : EReal) :=
  (congrFun ((W17_of m ρ c main_v191 (by decide)).trans <| (W16_of m ρ c main_v191 (by decide)).trans <| W15_of m ρ c main_v191 (by decide)) _).trans
    (val_v191 ρ h)

end Cert.KerVal
-- ==== Proof.RefRun.lean ====
/- The reference program as a list of its host operations, cut into stretches by what they compute, and its run:
   every buffer ends at what the operations leave in it, and the arguments keep their contents. -/
module

public import proofs.«01_k».proof.Proof.Gen.ReferenceIdeal
public import Idealize.ShloMosaic.Lib.StableHlo.Run
public import Idealize.ShloMosaic.Lib.Pipeline.Frame

@[expose] public section

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The reference's operations that compute the padded images and the first four taps of the first convolution. -/
abbrev c1 : List (HloOp τ sig (Elt F)) :=
  [ nullary main_c (constantI S_ 32 0#32),
    TRef.unary (TRef.of (T := ⟨S_, .i32⟩) main_c) (TRef.of (T := ⟨S_, .f32⟩) main_call0_v0) (sitofp .f32),
    TRef.binary (TRef.of (T := ⟨S4x3x224x224, .f32⟩) main_arg0) (TRef.of (T := ⟨S_, .f32⟩) main_call0_v0) (TRef.of (T := ⟨S4x3x226x226, .f32⟩) main_v0) (fun x v => pad S4x3x226x226 ![0, 0, 1, 1] ![0, 0, 1, 1] ![0, 0, 0, 0] x v pads_S4x3x224x224_S4x3x226x226_000_000_110_110 h_S_),
    unary main_v0 main_v1 ((extractStridedSlice S4x3x224x224 ![0, 0, 0, 0] · slices_S4x3x226x226_S4x3x224x224_0_0_0_0) : (⟨S4x3x226x226, .f32⟩ : BufTy).Contents (Elt F) → (⟨S4x3x224x224, .f32⟩ : BufTy).Contents (Elt F)),
    unary main_arg1 main_v2 ((extractStridedSlice S64x3x1x1 ![0, 0, 0, 0] · slices_S64x3x3x3_S64x3x1x1_0_0_0_0) : (⟨S64x3x3x3, .f32⟩ : BufTy).Contents (Elt F) → (⟨S64x3x1x1, .f32⟩ : BufTy).Contents (Elt F)),
    reshape main_v2 main_v3 (rfl : (.f32 : EltTy) = .f32) shapeCasts_S64x3x1x1_S64x3,
    binary main_v3 main_v1 main_v4 ((fun l r => Host.dotGeneral dot_S64x3_S4x3x224x224_S64x4x224x224_1_1_0_023_n_n none l r) : (⟨S64x3, .f32⟩ : BufTy).Contents (Elt F) → (⟨S4x3x224x224, .f32⟩ : BufTy).Contents (Elt F) → (⟨S64x4x224x224, .f32⟩ : BufTy).Contents (Elt F)),
    unary main_v4 main_v5 ((transpose S4x64x224x224 [1, 0, 2, 3] · transposes_S64x4x224x224_S4x64x224x224_1_0_2_3) : (⟨S64x4x224x224, .f32⟩ : BufTy).Contents (Elt F) → (⟨S4x64x224x224, .f32⟩ : BufTy).Contents (Elt F)),
    nullary main_cst (constant S_ .f32 0x00000000#32),
    unary main_cst main_v6 (broadcastInDim S4x64x224x224 ![] bcast_S_S4x64x224x224 : (⟨S_, .f32⟩ : BufTy).Contents (Elt F) → (⟨S4x64x224x224, .f32⟩ : BufTy).Contents (Elt F)),
    binary main_v6 main_v5 main_v7 (addf : (⟨S4x64x224x224, .f32⟩ : BufTy).Contents (Elt F) → (⟨S4x64x224x224, .f32⟩ : BufTy).Contents (Elt F) → (⟨S4x64x224x224, .f32⟩ : BufTy).Contents (Elt F)),
    unary main_v0 main_v8 ((extractStridedSlice S4x3x224x224 ![0, 0, 0, 1] · slices_S4x3x226x226_S4x3x224x224_0_0_0_1) : (⟨S4x3x226x226, .f32⟩ : BufTy).Contents (Elt F) → (⟨S4x3x224x224, .f32⟩ : BufTy).Contents (Elt F)),
    unary main_arg1 main_v9 ((extractStridedSlice S64x3x1x1 ![0, 0, 0, 1] · slices_S64x3x3x3_S64x3x1x1_0_0_0_1) : (⟨S64x3x3x3, .f32⟩ : BufTy).Contents (Elt F) → (⟨S64x3x1x1, .f32⟩ : BufTy).Contents (Elt F)),
    reshape main_v9 main_v10 (rfl : (.f32 : EltTy) = .f32) shapeCasts_S64x3x1x1_S64x3,
    binary main_v10 main_v8 main_v11 ((fun l r => Host.dotGeneral dot_S64x3_S4x3x224x224_S64x4x224x224_1_1_0_023_n_n none l r) : (⟨S64x3, .f32⟩ : BufTy).Contents (Elt F) → (⟨S4x3x224x224, .f32⟩ : BufTy).Contents (Elt F) → (⟨S64x4x224x224, .f32⟩ : BufTy).Contents (Elt F)),
    unary main_v11 main_v12 ((transpose S4x64x224x224 [1, 0, 2, 3] · transposes_S64x4x224x224_S4x64x224x224_1_0_2_3) : (⟨S64x4x224x224, .f32⟩ : BufTy).Contents (Elt F) → (⟨S4x64x224x224, .f32⟩ : BufTy).Contents (Elt F)),
    binary main_v7 main_v12 main_v13 (addf : (⟨S4x64x224x224, .f32⟩ : BufTy).Contents (Elt F) → (⟨S4x64x224x224, .f32⟩ : BufTy).Contents (Elt F) → (⟨S4x64x224x224, .f32⟩ : BufTy).Contents (Elt F)),
    unary main_v0 main_v14 ((extractStridedSlice S4x3x224x224 ![0, 0, 0, 2] · slices_S4x3x226x226_S4x3x224x224_0_0_0_2) : (⟨S4x3x226x226, .f32⟩ : BufTy).Contents (Elt F) → (⟨S4x3x224x224, .f32⟩ : BufTy).Contents (Elt F)),
    unary main_arg1 main_v15 ((extractStridedSlice S64x3x1x1 ![0, 0, 0, 2] · slices_S64x3x3x3_S64x3x1x1_0_0_0_2) : (⟨S64x3x3x3, .f32⟩ : BufTy).Contents (Elt F) → (⟨S64x3x1x1, .f32⟩ : BufTy).Contents (Elt F)),
    reshape main_v15 main_v16 (rfl : (.f32 : EltTy) = .f32) shapeCasts_S64x3x1x1_S64x3,
    binary main_v16 main_v14 main_v17 ((fun l r => Host.dotGeneral dot_S64x3_S4x3x224x224_S64x4x224x224_1_1_0_023_n_n none l r) : (⟨S64x3, .f32⟩ : BufTy).Contents (Elt F) → (⟨S4x3x224x224, .f32⟩ : BufTy).Contents (Elt F) → (⟨S64x4x224x224, .f32⟩ : BufTy).Contents (Elt F)),
    unary main_v17 main_v18 ((transpose S4x64x224x224 [1, 0, 2, 3] · transposes_S64x4x224x224_S4x64x224x224_1_0_2_3) : (⟨S64x4x224x224, .f32⟩ : BufTy).Contents (Elt F) → (⟨S4x64x224x224, .f32⟩ : BufTy).Contents (Elt F)),
    binary main_v13 main_v18 main_v19 (addf : (⟨S4x64x224x224, .f32⟩ : BufTy).Contents (Elt F) → (⟨S4x64x224x224, .f32⟩ : BufTy).Contents (Elt F) → (⟨S4x64x224x224, .f32⟩ : BufTy).Contents (Elt F)),
    unary main_v0 main_v20 ((extractStridedSlice S4x3x224x224 ![0, 0, 1, 0] · slices_S4x3x226x226_S4x3x224x224_0_0_1_0) : (⟨S4x3x226x226, .f32⟩ : BufTy).Contents (Elt F) → (⟨S4x3x224x224, .f32⟩ : BufTy).Contents (Elt F)),
    unary main_arg1 main_v21 ((extractStridedSlice S64x3x1x1 ![0, 0, 1, 0] · slices_S64x3x3x3_S64x3x1x1_0_0_1_0) : (⟨S64x3x3x3, .f32⟩ : BufTy).Contents (Elt F) → (⟨S64x3x1x1, .f32⟩ : BufTy).Contents (Elt F)),
    reshape main_v21 main_v22 (rfl : (.f32 : EltTy) = .f32) shapeCasts_S64x3x1x1_S64x3,
    binary main_v22 main_v20 main_v23 ((fun l r => Host.dotGeneral dot_S64x3_S4x3x224x224_S64x4x224x224_1_1_0_023_n_n none l r) : (⟨S64x3, .f32⟩ : BufTy).Contents (Elt F) → (⟨S4x3x224x224, .f32⟩ : BufTy).Contents (Elt F) → (⟨S64x4x224x224, .f32⟩ : BufTy).Contents (Elt F)),
    unary main_v23 main_v24 ((transpose S4x64x224x224 [1, 0, 2, 3] · transposes_S64x4x224x224_S4x64x224x224_1_0_2_3) : (⟨S64x4x224x224, .f32⟩ : BufTy).Contents (Elt F) → (⟨S4x64x224x224, .f32⟩ : BufTy).Contents (Elt F)),
    binary main_v19 main_v24 main_v25 (addf : (⟨S4x64x224x224, .f32⟩ : BufTy).Contents (Elt F) → (⟨S4x64x224x224, .f32⟩ : BufTy).Contents (Elt F) → (⟨S4x64x224x224, .f32⟩ : BufTy).Contents (Elt F)) ]

/-- The reference's operations that compute the other five taps and the bias image. -/
abbrev c2 : List (HloOp τ sig (Elt F)) :=
  [ unary main_v0 main_v26 ((extractStridedSlice S4x3x224x224 ![0, 0, 1, 1] · slices_S4x3x226x226_S4x3x224x224_0_0_1_1) : (⟨S4x3x226x226, .f32⟩ : BufTy).Contents (Elt F) → (⟨S4x3x224x224, .f32⟩ : BufTy).Contents (Elt F)),
    unary main_arg1 main_v27 ((extractStridedSlice S64x3x1x1 ![0, 0, 1, 1] · slices_S64x3x3x3_S64x3x1x1_0_0_1_1) : (⟨S64x3x3x3, .f32⟩ : BufTy).Contents (Elt F) → (⟨S64x3x1x1, .f32⟩ : BufTy).Contents (Elt F)),
    reshape main_v27 main_v28 (rfl : (.f32 : EltTy) = .f32) shapeCasts_S64x3x1x1_S64x3,
    binary main_v28 main_v26 main_v29 ((fun l r => Host.dotGeneral dot_S64x3_S4x3x224x224_S64x4x224x224_1_1_0_023_n_n none l r) : (⟨S64x3, .f32⟩ : BufTy).Contents (Elt F) → (⟨S4x3x224x224, .f32⟩ : BufTy).Contents (Elt F) → (⟨S64x4x224x224, .f32⟩ : BufTy).Contents (Elt F)),
    unary main_v29 main_v30 ((transpose S4x64x224x224 [1, 0, 2, 3] · transposes_S64x4x224x224_S4x64x224x224_1_0_2_3) : (⟨S64x4x224x224, .f32⟩ : BufTy).Contents (Elt F) → (⟨S4x64x224x224, .f32⟩ : BufTy).Contents (Elt F)),
    binary main_v25 main_v30 main_v31 (addf : (⟨S4x64x224x224, .f32⟩ : BufTy).Contents (Elt F) → (⟨S4x64x224x224, .f32⟩ : BufTy).Contents (Elt F) → (⟨S4x64x224x224, .f32⟩ : BufTy).Contents (Elt F)),
    unary main_v0 main_v32 ((extractStridedSlice S4x3x224x224 ![0, 0, 1, 2] · slices_S4x3x226x226_S4x3x224x224_0_0_1_2) : (⟨S4x3x226x226, .f32⟩ : BufTy).Contents (Elt F) → (⟨S4x3x224x224, .f32⟩ : BufTy).Contents (Elt F)),
    unary main_arg1 main_v33 ((extractStridedSlice S64x3x1x1 ![0, 0, 1, 2] · slices_S64x3x3x3_S64x3x1x1_0_0_1_2) : (⟨S64x3x3x3, .f32⟩ : BufTy).Contents (Elt F) → (⟨S64x3x1x1, .f32⟩ : BufTy).Contents (Elt F)),
    reshape main_v33 main_v34 (rfl : (.f32 : EltTy) = .f32) shapeCasts_S64x3x1x1_S64x3,
    binary main_v34 main_v32 main_v35 ((fun l r => Host.dotGeneral dot_S64x3_S4x3x224x224_S64x4x224x224_1_1_0_023_n_n none l r) : (⟨S64x3, .f32⟩ : BufTy).Contents (Elt F) → (⟨S4x3x224x224, .f32⟩ : BufTy).Contents (Elt F) → (⟨S64x4x224x224, .f32⟩ : BufTy).Contents (Elt F)),
    unary main_v35 main_v36 ((transpose S4x64x224x224 [1, 0, 2, 3] · transposes_S64x4x224x224_S4x64x224x224_1_0_2_3) : (⟨S64x4x224x224, .f32⟩ : BufTy).Contents (Elt F) → (⟨S4x64x224x224, .f32⟩ : BufTy).Contents (Elt F)),
    binary main_v31 main_v36 main_v37 (addf : (⟨S4x64x224x224, .f32⟩ : BufTy).Contents (Elt F) → (⟨S4x64x224x224, .f32⟩ : BufTy).Contents (Elt F) → (⟨S4x64x224x224, .f32⟩ : BufTy).Contents (Elt F)),
    unary main_v0 main_v38 ((extractStridedSlice S4x3x224x224 ![0, 0, 2, 0] · slices_S4x3x226x226_S4x3x224x224_0_0_2_0) : (⟨S4x3x226x226, .f32⟩ : BufTy).Contents (Elt F) → (⟨S4x3x224x224, .f32⟩ : BufTy).Contents (Elt F)),
    unary main_arg1 main_v39 ((extractStridedSlice S64x3x1x1 ![0, 0, 2, 0] · slices_S64x3x3x3_S64x3x1x1_0_0_2_0) : (⟨S64x3x3x3, .f32⟩ : BufTy).Contents (Elt F) → (⟨S64x3x1x1, .f32⟩ : BufTy).Contents (Elt F)),
    reshape main_v39 main_v40 (rfl : (.f32 : EltTy) = .f32) shapeCasts_S64x3x1x1_S64x3,
    binary main_v40 main_v38 main_v41 ((fun l r => Host.dotGeneral dot_S64x3_S4x3x224x224_S64x4x224x224_1_1_0_023_n_n none l r) : (⟨S64x3, .f32⟩ : BufTy).Contents (Elt F) → (⟨S4x3x224x224, .f32⟩ : BufTy).Contents (Elt F) → (⟨S64x4x224x224, .f32⟩ : BufTy).Contents (Elt F)),
    unary main_v41 main_v42 ((transpose S4x64x224x224 [1, 0, 2, 3] · transposes_S64x4x224x224_S4x64x224x224_1_0_2_3) : (⟨S64x4x224x224, .f32⟩ : BufTy).Contents (Elt F) → (⟨S4x64x224x224, .f32⟩ : BufTy).Contents (Elt F)),
    binary main_v37 main_v42 main_v43 (addf : (⟨S4x64x224x224, .f32⟩ : BufTy).Contents (Elt F) → (⟨S4x64x224x224, .f32⟩ : BufTy).Contents (Elt F) → (⟨S4x64x224x224, .f32⟩ : BufTy).Contents (Elt F)),
    unary main_v0 main_v44 ((extractStridedSlice S4x3x224x224 ![0, 0, 2, 1] · slices_S4x3x226x226_S4x3x224x224_0_0_2_1) : (⟨S4x3x226x226, .f32⟩ : BufTy).Contents (Elt F) → (⟨S4x3x224x224, .f32⟩ : BufTy).Contents (Elt F)),
    unary main_arg1 main_v45 ((extractStridedSlice S64x3x1x1 ![0, 0, 2, 1] · slices_S64x3x3x3_S64x3x1x1_0_0_2_1) : (⟨S64x3x3x3, .f32⟩ : BufTy).Contents (Elt F) → (⟨S64x3x1x1, .f32⟩ : BufTy).Contents (Elt F)),
    reshape main_v45 main_v46 (rfl : (.f32 : EltTy) = .f32) shapeCasts_S64x3x1x1_S64x3,
    binary main_v46 main_v44 main_v47 ((fun l r => Host.dotGeneral dot_S64x3_S4x3x224x224_S64x4x224x224_1_1_0_023_n_n none l r) : (⟨S64x3, .f32⟩ : BufTy).Contents (Elt F) → (⟨S4x3x224x224, .f32⟩ : BufTy).Contents (Elt F) → (⟨S64x4x224x224, .f32⟩ : BufTy).Contents (Elt F)),
    unary main_v47 main_v48 ((transpose S4x64x224x224 [1, 0, 2, 3] · transposes_S64x4x224x224_S4x64x224x224_1_0_2_3) : (⟨S64x4x224x224, .f32⟩ : BufTy).Contents (Elt F) → (⟨S4x64x224x224, .f32⟩ : BufTy).Contents (Elt F)),
    binary main_v43 main_v48 main_v49 (addf : (⟨S4x64x224x224, .f32⟩ : BufTy).Contents (Elt F) → (⟨S4x64x224x224, .f32⟩ : BufTy).Contents (Elt F) → (⟨S4x64x224x224, .f32⟩ : BufTy).Contents (Elt F)),
    unary main_v0 main_v50 ((extractStridedSlice S4x3x224x224 ![0, 0, 2, 2] · slices_S4x3x226x226_S4x3x224x224_0_0_2_2) : (⟨S4x3x226x226, .f32⟩ : BufTy).Contents (Elt F) → (⟨S4x3x224x224, .f32⟩ : BufTy).Contents (Elt F)),
    unary main_arg1 main_v51 ((extractStridedSlice S64x3x1x1 ![0, 0, 2, 2] · slices_S64x3x3x3_S64x3x1x1_0_0_2_2) : (⟨S64x3x3x3, .f32⟩ : BufTy).Contents (Elt F) → (⟨S64x3x1x1, .f32⟩ : BufTy).Contents (Elt F)),
    reshape main_v51 main_v52 (rfl : (.f32 : EltTy) = .f32) shapeCasts_S64x3x1x1_S64x3,
    binary main_v52 main_v50 main_v53 ((fun l r => Host.dotGeneral dot_S64x3_S4x3x224x224_S64x4x224x224_1_1_0_023_n_n none l r) : (⟨S64x3, .f32⟩ : BufTy).Contents (Elt F) → (⟨S4x3x224x224, .f32⟩ : BufTy).Contents (Elt F) → (⟨S64x4x224x224, .f32⟩ : BufTy).Contents (Elt F)),
    unary main_v53 main_v54 ((transpose S4x64x224x224 [1, 0, 2, 3] · transposes_S64x4x224x224_S4x64x224x224_1_0_2_3) : (⟨S64x4x224x224, .f32⟩ : BufTy).Contents (Elt F) → (⟨S4x64x224x224, .f32⟩ : BufTy).Contents (Elt F)),
    binary main_v49 main_v54 main_v55 (addf : (⟨S4x64x224x224, .f32⟩ : BufTy).Contents (Elt F) → (⟨S4x64x224x224, .f32⟩ : BufTy).Contents (Elt F) → (⟨S4x64x224x224, .f32⟩ : BufTy).Contents (Elt F)),
    reshape main_arg2 main_v56 (rfl : (.f32 : EltTy) = .f32) shapeCasts_S64_S1x64x1x1,
    unary main_v56 main_v57 (broadcastInDim S4x64x224x224 ![0, 1, 2, 3] bcast_S1x64x1x1_S4x64x224x224_0_1_2_3 : (⟨S1x64x1x1, .f32⟩ : BufTy).Contents (Elt F) → (⟨S4x64x224x224, .f32⟩ : BufTy).Contents (Elt F)) ]

/-- The reference's operations that compute the bias added, and the sum over every pixel. -/
abbrev c3 : List (HloOp τ sig (Elt F)) :=
  [ binary main_v55 main_v57 main_v58 (addf : (⟨S4x64x224x224, .f32⟩ : BufTy).Contents (Elt F) → (⟨S4x64x224x224, .f32⟩ : BufTy).Contents (Elt F) → (⟨S4x64x224x224, .f32⟩ : BufTy).Contents (Elt F)),
    nullary main_cst_0 (constant S_ .f32 0x00000000#32),
    binary main_v58 main_cst_0 main_v59 ((fun x v => Host.reduceAdd x v reducesTo_S4x64x224x224_S64_d0_2_3 h_S_) : (⟨S4x64x224x224, .f32⟩ : BufTy).Contents (Elt F) → (⟨S_, .f32⟩ : BufTy).Contents (Elt F) → (⟨S64, .f32⟩ : BufTy).Contents (Elt F)) ]

/-- The reference's operations that compute mean and variance of the first normalisation. -/
abbrev c4 : List (HloOp τ sig (Elt F)) :=
  [ unary main_v59 main_v60 (broadcastInDim S1x64x1x1 ![1] bcast_S64_S1x64x1x1_1 : (⟨S64, .f32⟩ : BufTy).Contents (Elt F) → (⟨S1x64x1x1, .f32⟩ : BufTy).Contents (Elt F)),
    nullary main_cst_1 (constant S_ .f32 0x48440000#32),
    unary main_cst_1 main_v61 (broadcastInDim S1x64x1x1 ![] bcast_S_S1x64x1x1 : (⟨S_, .f32⟩ : BufTy).Contents (Elt F) → (⟨S1x64x1x1, .f32⟩ : BufTy).Contents (Elt F)),
    binary main_v60 main_v61 main_v62 (Host.divf : (⟨S1x64x1x1, .f32⟩ : BufTy).Contents (Elt F) → (⟨S1x64x1x1, .f32⟩ : BufTy).Contents (Elt F) → (⟨S1x64x1x1, .f32⟩ : BufTy).Contents (Elt F)),
    nullary main_c_2 (constantI S_ 32 0#32),
    TRef.nullary (TRef.of (T := ⟨S_, .f32⟩) main_call1_cst) (constant S_ .f32 0x00000000#32),
    TRef.binary (TRef.of (T := ⟨S4x64x224x224, .f32⟩) main_v58) (TRef.of (T := ⟨S_, .f32⟩) main_call1_cst) (TRef.of (T := ⟨S64, .f32⟩) main_call1_v0) (fun x v => Host.reduceAdd x v reducesTo_S4x64x224x224_S64_d0_2_3 h_S_),
    TRef.unary (TRef.of (T := ⟨S64, .f32⟩) main_call1_v0) (TRef.of (T := ⟨S1x64x1x1, .f32⟩) main_call1_v1) (broadcastInDim S1x64x1x1 ![1] bcast_S64_S1x64x1x1_1),
    TRef.nullary (TRef.of (T := ⟨S_, .f32⟩) main_call1_cst_0) (constant S_ .f32 0x48440000#32),
    TRef.unary (TRef.of (T := ⟨S_, .f32⟩) main_call1_cst_0) (TRef.of (T := ⟨S1x64x1x1, .f32⟩) main_call1_v2) (broadcastInDim S1x64x1x1 ![] bcast_S_S1x64x1x1),
    TRef.binary (TRef.of (T := ⟨S1x64x1x1, .f32⟩) main_call1_v1) (TRef.of (T := ⟨S1x64x1x1, .f32⟩) main_call1_v2) (TRef.of (T := ⟨S1x64x1x1, .f32⟩) main_call1_v3) Host.divf,
    TRef.unary (TRef.of (T := ⟨S1x64x1x1, .f32⟩) main_call1_v3) (TRef.of (T := ⟨S4x64x224x224, .f32⟩) main_call1_v4) (broadcastInDim S4x64x224x224 ![0, 1, 2, 3] bcast_S1x64x1x1_S4x64x224x224_0_1_2_3),
    TRef.binary (TRef.of (T := ⟨S4x64x224x224, .f32⟩) main_v58) (TRef.of (T := ⟨S4x64x224x224, .f32⟩) main_call1_v4) (TRef.of (T := ⟨S4x64x224x224, .f32⟩) main_call1_v5) subf,
    TRef.binary (TRef.of (T := ⟨S4x64x224x224, .f32⟩) main_call1_v5) (TRef.of (T := ⟨S4x64x224x224, .f32⟩) main_call1_v5) (TRef.of (T := ⟨S4x64x224x224, .f32⟩) main_call1_v6) mulf,
    TRef.unary (TRef.of (T := ⟨S_, .i32⟩) main_c_2) (TRef.of (T := ⟨S_, .f32⟩) main_call1_v7) (sitofp .f32),
    TRef.nullary (TRef.of (T := ⟨S_, .f32⟩) main_call1_cst_1) (constant S_ .f32 0x48440000#32),
    TRef.binary (TRef.of (T := ⟨S_, .f32⟩) main_call1_cst_1) (TRef.of (T := ⟨S_, .f32⟩) main_call1_v7) (TRef.of (T := ⟨S_, .f32⟩) main_call1_v8) subf,
    TRef.nullary (TRef.of (T := ⟨S_, .f32⟩) main_call1_cst_2) (constant S_ .f32 0x00000000#32),
    TRef.binary (TRef.of (T := ⟨S4x64x224x224, .f32⟩) main_call1_v6) (TRef.of (T := ⟨S_, .f32⟩) main_call1_cst_2) (TRef.of (T := ⟨S64, .f32⟩) main_call1_v9) (fun x v => Host.reduceAdd x v reducesTo_S4x64x224x224_S64_d0_2_3 h_S_),
    TRef.unary (TRef.of (T := ⟨S64, .f32⟩) main_call1_v9) (TRef.of (T := ⟨S1x64x1x1, .f32⟩) main_call1_v10) (broadcastInDim S1x64x1x1 ![1] bcast_S64_S1x64x1x1_1),
    TRef.unary (TRef.of (T := ⟨S_, .f32⟩) main_call1_v8) (TRef.of (T := ⟨S1x64x1x1, .f32⟩) main_call1_v11) (broadcastInDim S1x64x1x1 ![] bcast_S_S1x64x1x1),
    TRef.binary (TRef.of (T := ⟨S1x64x1x1, .f32⟩) main_call1_v10) (TRef.of (T := ⟨S1x64x1x1, .f32⟩) main_call1_v11) (TRef.of (T := ⟨S1x64x1x1, .f32⟩) main_call1_v12) Host.divf,
    TRef.nullary (TRef.of (T := ⟨S_, .f32⟩) main_call1_cst_3) (constant S_ .f32 0x00000000#32),
    TRef.binary (TRef.of (T := ⟨S_, .f32⟩) main_call1_v8) (TRef.of (T := ⟨S_, .f32⟩) main_call1_cst_3) (TRef.of (T := ⟨S_, .i1⟩) main_call1_v13) (cmpf .ogt),
    TRef.nullary (TRef.of (T := ⟨S_, .f32⟩) main_call1_cst_4) (constant S_ .f32 0x7FC00000#32),
    TRef.unary (TRef.of (T := ⟨S_, .f32⟩) main_call1_cst_4) (TRef.of (T := ⟨S_, .f32⟩) main_call1_call0_v0) id,
    TRef.unary (TRef.of (T := ⟨S_, .f32⟩) main_call1_call0_v0) (TRef.of (T := ⟨S1x64x1x1, .f32⟩) main_call1_call0_v1) (broadcastInDim S1x64x1x1 ![] bcast_S_S1x64x1x1),
    TRef.ternary (TRef.of (T := ⟨S_, .i1⟩) main_call1_v13) (TRef.of (T := ⟨S1x64x1x1, .f32⟩) main_call1_v12) (TRef.of (T := ⟨S1x64x1x1, .f32⟩) main_call1_call0_v1) (TRef.of (T := ⟨S1x64x1x1, .f32⟩) main_v63) (fun p a b => select (broadcastInDim S1x64x1x1 ![] bcast_S_S1x64x1x1 p) a b) ]

/-- The reference's operations that compute the first normalisation, the rectifier and the pooling. -/
abbrev c5 : List (HloOp τ sig (Elt F)) :=
  [ unary main_v62 main_v64 (broadcastInDim S4x64x224x224 ![0, 1, 2, 3] bcast_S1x64x1x1_S4x64x224x224_0_1_2_3 : (⟨S1x64x1x1, .f32⟩ : BufTy).Contents (Elt F) → (⟨S4x64x224x224, .f32⟩ : BufTy).Contents (Elt F)),
    binary main_v58 main_v64 main_v65 (subf : (⟨S4x64x224x224, .f32⟩ : BufTy).Contents (Elt F) → (⟨S4x64x224x224, .f32⟩ : BufTy).Contents (Elt F) → (⟨S4x64x224x224, .f32⟩ : BufTy).Contents (Elt F)),
    nullary main_cst_3 (constant S_ .f32 0x3727C5AC#32),
    unary main_cst_3 main_v66 (broadcastInDim S1x64x1x1 ![] bcast_S_S1x64x1x1 : (⟨S_, .f32⟩ : BufTy).Contents (Elt F) → (⟨S1x64x1x1, .f32⟩ : BufTy).Contents (Elt F)),
    binary main_v63 main_v66 main_v67 (addf : (⟨S1x64x1x1, .f32⟩ : BufTy).Contents (Elt F) → (⟨S1x64x1x1, .f32⟩ : BufTy).Contents (Elt F) → (⟨S1x64x1x1, .f32⟩ : BufTy).Contents (Elt F)),
    unary main_v67 main_v68 (Host.sqrt : (⟨S1x64x1x1, .f32⟩ : BufTy).Contents (Elt F) → (⟨S1x64x1x1, .f32⟩ : BufTy).Contents (Elt F)),
    unary main_v68 main_v69 (broadcastInDim S4x64x224x224 ![0, 1, 2, 3] bcast_S1x64x1x1_S4x64x224x224_0_1_2_3 : (⟨S1x64x1x1, .f32⟩ : BufTy).Contents (Elt F) → (⟨S4x64x224x224, .f32⟩ : BufTy).Contents (Elt F)),
    binary main_v65 main_v69 main_v70 (Host.divf : (⟨S4x64x224x224, .f32⟩ : BufTy).Contents (Elt F) → (⟨S4x64x224x224, .f32⟩ : BufTy).Contents (Elt F) → (⟨S4x64x224x224, .f32⟩ : BufTy).Contents (Elt F)),
    reshape main_arg3 main_v71 (rfl : (.f32 : EltTy) = .f32) shapeCasts_S64_S1x64x1x1,
    unary main_v71 main_v72 (broadcastInDim S4x64x224x224 ![0, 1, 2, 3] bcast_S1x64x1x1_S4x64x224x224_0_1_2_3 : (⟨S1x64x1x1, .f32⟩ : BufTy).Contents (Elt F) → (⟨S4x64x224x224, .f32⟩ : BufTy).Contents (Elt F)),
    binary main_v70 main_v72 main_v73 (mulf : (⟨S4x64x224x224, .f32⟩ : BufTy).Contents (Elt F) → (⟨S4x64x224x224, .f32⟩ : BufTy).Contents (Elt F) → (⟨S4x64x224x224, .f32⟩ : BufTy).Contents (Elt F)),
    reshape main_arg4 main_v74 (rfl : (.f32 : EltTy) = .f32) shapeCasts_S64_S1x64x1x1,
    unary main_v74 main_v75 (broadcastInDim S4x64x224x224 ![0, 1, 2, 3] bcast_S1x64x1x1_S4x64x224x224_0_1_2_3 : (⟨S1x64x1x1, .f32⟩ : BufTy).Contents (Elt F) → (⟨S4x64x224x224, .f32⟩ : BufTy).Contents (Elt F)),
    binary main_v73 main_v75 main_v76 (addf : (⟨S4x64x224x224, .f32⟩ : BufTy).Contents (Elt F) → (⟨S4x64x224x224, .f32⟩ : BufTy).Contents (Elt F) → (⟨S4x64x224x224, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S4x64x224x224, .f32⟩) main_call2_v0) (broadcastInDim S4x64x224x224 ![] bcast_S_S4x64x224x224),
    TRef.binary (TRef.of (T := ⟨S4x64x224x224, .f32⟩) main_v76) (TRef.of (T := ⟨S4x64x224x224, .f32⟩) main_call2_v0) (TRef.of (T := ⟨S4x64x224x224, .f32⟩) main_v77) maximumf,
    nullary main_cst_4 (constant S_ .f32 0xFF800000#32),
    unary main_cst_4 main_v78 (broadcastInDim S_ ![] bcast_S_S_ : (⟨S_, .f32⟩ : BufTy).Contents (Elt F) → (⟨S_, .f32⟩ : BufTy).Contents (Elt F)),
    binary main_v77 main_v78 main_v79 ((fun x v => Host.reduceWindow FloatOps.maximumf ![1, 1, 2, 2] ![1, 1, 2, 2] ![0, 0, 0, 0] ![0, 0, 0, 0] x v reduceWindows_S4x64x224x224_S4x64x112x112_w1s1p0_0_w1s1p0_0_w2s2p0_0_w2s2p0_0 h_S_) : (⟨S4x64x224x224, .f32⟩ : BufTy).Contents (Elt F) → (⟨S_, .f32⟩ : BufTy).Contents (Elt F) → (⟨S4x64x112x112, .f32⟩ : BufTy).Contents (Elt F)),
    unary main_v79 main_v80 ((transpose S4x112x112x64 [0, 2, 3, 1] · transposes_S4x64x112x112_S4x112x112x64_0_2_3_1) : (⟨S4x64x112x112, .f32⟩ : BufTy).Contents (Elt F) → (⟨S4x112x112x64, .f32⟩ : BufTy).Contents (Elt F)),
    reshape main_v80 main_v81 (rfl : (.f32 : EltTy) = .f32) shapeCasts_S4x112x112x64_S50176x64 ]

/-- The reference's operations that compute squared distances to the codewords. -/
abbrev c6 : List (HloOp τ sig (Elt F)) :=
  [ binary main_v81 main_v81 main_v82 (mulf : (⟨S50176x64, .f32⟩ : BufTy).Contents (Elt F) → (⟨S50176x64, .f32⟩ : BufTy).Contents (Elt F) → (⟨S50176x64, .f32⟩ : BufTy).Contents (Elt F)),
    nullary main_cst_5 (constant S_ .f32 0x00000000#32),
    binary main_v82 main_cst_5 main_v83 ((fun x v => Host.reduceAdd x v reducesTo_S50176x64_S50176_d1 h_S_) : (⟨S50176x64, .f32⟩ : BufTy).Contents (Elt F) → (⟨S_, .f32⟩ : BufTy).Contents (Elt F) → (⟨S50176, .f32⟩ : BufTy).Contents (Elt F)),
    unary main_v83 main_v84 (broadcastInDim S50176x1 ![0] bcast_S50176_S50176x1_0 : (⟨S50176, .f32⟩ : BufTy).Contents (Elt F) → (⟨S50176x1, .f32⟩ : BufTy).Contents (Elt F)),
    unary main_arg5 main_v85 ((transpose S64x1024 [1, 0] · transposes_S1024x64_S64x1024_1_0) : (⟨S1024x64, .f32⟩ : BufTy).Contents (Elt F) → (⟨S64x1024, .f32⟩ : BufTy).Contents (Elt F)),
    binary main_v81 main_v85 main_v86 ((fun l r => Host.dotGeneral dot_S50176x64_S64x1024_S50176x1024_1_0_0_1_n_n none l r) : (⟨S50176x64, .f32⟩ : BufTy).Contents (Elt F) → (⟨S64x1024, .f32⟩ : BufTy).Contents (Elt F) → (⟨S50176x1024, .f32⟩ : BufTy).Contents (Elt F)),
    nullary main_cst_6 (constant S_ .f32 0x40000000#32),
    unary main_cst_6 main_v87 (broadcastInDim S50176x1024 ![] bcast_S_S50176x1024 : (⟨S_, .f32⟩ : BufTy).Contents (Elt F) → (⟨S50176x1024, .f32⟩ : BufTy).Contents (Elt F)),
    binary main_v87 main_v86 main_v88 (mulf : (⟨S50176x1024, .f32⟩ : BufTy).Contents (Elt F) → (⟨S50176x1024, .f32⟩ : BufTy).Contents (Elt F) → (⟨S50176x1024, .f32⟩ : BufTy).Contents (Elt F)),
    unary main_v84 main_v89 (broadcastInDim S50176x1024 ![0, 1] bcast_S50176x1_S50176x1024_0_1 : (⟨S50176x1, .f32⟩ : BufTy).Contents (Elt F) → (⟨S50176x1024, .f32⟩ : BufTy).Contents (Elt F)),
    binary main_v89 main_v88 main_v90 (subf : (⟨S50176x1024, .f32⟩ : BufTy).Contents (Elt F) → (⟨S50176x1024, .f32⟩ : BufTy).Contents (Elt F) → (⟨S50176x1024, .f32⟩ : BufTy).Contents (Elt F)),
    binary main_arg5 main_arg5 main_v91 (mulf : (⟨S1024x64, .f32⟩ : BufTy).Contents (Elt F) → (⟨S1024x64, .f32⟩ : BufTy).Contents (Elt F) → (⟨S1024x64, .f32⟩ : BufTy).Contents (Elt F)),
    nullary main_cst_7 (constant S_ .f32 0x00000000#32),
    binary main_v91 main_cst_7 main_v92 ((fun x v => Host.reduceAdd x v reducesTo_S1024x64_S1024_d1 h_S_) : (⟨S1024x64, .f32⟩ : BufTy).Contents (Elt F) → (⟨S_, .f32⟩ : BufTy).Contents (Elt F) → (⟨S1024, .f32⟩ : BufTy).Contents (Elt F)),
    unary main_v92 main_v93 (broadcastInDim S1x1024 ![1] bcast_S1024_S1x1024_1 : (⟨S1024, .f32⟩ : BufTy).Contents (Elt F) → (⟨S1x1024, .f32⟩ : BufTy).Contents (Elt F)),
    unary main_v93 main_v94 (broadcastInDim S50176x1024 ![0, 1] bcast_S1x1024_S50176x1024_0_1 : (⟨S1x1024, .f32⟩ : BufTy).Contents (Elt F) → (⟨S50176x1024, .f32⟩ : BufTy).Contents (Elt F)),
    binary main_v90 main_v94 main_v95 (addf : (⟨S50176x1024, .f32⟩ : BufTy).Contents (Elt F) → (⟨S50176x1024, .f32⟩ : BufTy).Contents (Elt F) → (⟨S50176x1024, .f32⟩ : BufTy).Contents (Elt F)) ]

/-- The reference's operations that compute the nearest codeword. -/
abbrev c7 : List (HloOp τ sig (Elt F)) :=
  [ TRef.nullary (TRef.of (T := ⟨S50176x1024, .i32⟩) main_call3_v0) (iotaInDim S50176x1024 32 1),
    TRef.nullary (TRef.of (T := ⟨S_, .f32⟩) main_call3_cst) (constant S_ .f32 0x7F800000#32),
    TRef.nullary (TRef.of (T := ⟨S_, .i32⟩) main_call3_c) (constantI S_ 32 0#32),
    TRef.quaternary (TRef.of (T := ⟨S50176x1024, .f32⟩) main_v95) (TRef.of (T := ⟨S50176x1024, .i32⟩) main_call3_v0) (TRef.of (T := ⟨S_, .f32⟩) main_call3_cst) (TRef.of (T := ⟨S_, .i32⟩) main_call3_c) (TRef.of (T := ⟨S50176, .f32⟩) main_call3_v1_0) (fun x y u v j => (Host.argReduce reducer_argmin_f32_i32 x y u v reducesTo_S50176x1024_S50176_d1 h_S_ j).1),
    TRef.quaternary (TRef.of (T := ⟨S50176x1024, .f32⟩) main_v95) (TRef.of (T := ⟨S50176x1024, .i32⟩) main_call3_v0) (TRef.of (T := ⟨S_, .f32⟩) main_call3_cst) (TRef.of (T := ⟨S_, .i32⟩) main_call3_c) (TRef.of (T := ⟨S50176, .i32⟩) main_v96) (fun x y u v j => (Host.argReduce reducer_argmin_f32_i32 x y u v reducesTo_S50176x1024_S50176_d1 h_S_ j).2) ]

/-- The reference's operations that compute the chosen codewords. -/
abbrev c8 : List (HloOp τ sig (Elt F)) :=
  [ TRef.nullary (TRef.of (T := ⟨S_, .i32⟩) main_call4_c) (constantI S_ 32 0#32),
    TRef.unary (TRef.of (T := ⟨S_, .i32⟩) main_call4_c) (TRef.of (T := ⟨S50176, .i32⟩) main_call4_v0) (broadcastInDim S50176 ![] bcast_S_S50176),
    TRef.binary (TRef.of (T := ⟨S50176, .i32⟩) main_v96) (TRef.of (T := ⟨S50176, .i32⟩) main_call4_v0) (TRef.of (T := ⟨S50176, .i1⟩) main_call4_v1) (cmpi .slt),
    TRef.nullary (TRef.of (T := ⟨S_, .i32⟩) main_call4_c_0) (constantI S_ 32 1024#32),
    TRef.unary (TRef.of (T := ⟨S_, .i32⟩) main_call4_c_0) (TRef.of (T := ⟨S50176, .i32⟩) main_call4_v2) (broadcastInDim S50176 ![] bcast_S_S50176),
    TRef.binary (TRef.of (T := ⟨S50176, .i32⟩) main_v96) (TRef.of (T := ⟨S50176, .i32⟩) main_call4_v2) (TRef.of (T := ⟨S50176, .i32⟩) main_call4_v3) addi,
    TRef.ternary (TRef.of (T := ⟨S50176, .i1⟩) main_call4_v1) (TRef.of (T := ⟨S50176, .i32⟩) main_call4_v3) (TRef.of (T := ⟨S50176, .i32⟩) main_v96) (TRef.of (T := ⟨S50176, .i32⟩) main_call4_v4) select,
    TRef.unary (TRef.of (T := ⟨S50176, .i32⟩) main_call4_v4) (TRef.of (T := ⟨S50176x1, .i32⟩) main_call4_v5) (broadcastInDim S50176x1 ![0] bcast_S50176_S50176x1_0),
    TRef.nullary (TRef.of (T := ⟨S1, .i32⟩) main_call4_c_1) (constantI S1 32 1023#32),
    TRef.nullary (TRef.of (T := ⟨S_, .i32⟩) main_call4_c_2) (constantI S_ 32 0#32),
    TRef.unary (TRef.of (T := ⟨S_, .i32⟩) main_call4_c_2) (TRef.of (T := ⟨S50176x1, .i32⟩) main_call4_v6) (broadcastInDim S50176x1 ![] bcast_S_S50176x1),
    TRef.binary (TRef.of (T := ⟨S50176x1, .i32⟩) main_call4_v5) (TRef.of (T := ⟨S50176x1, .i32⟩) main_call4_v6) (TRef.of (T := ⟨S50176x1, .i1⟩) main_call4_v7) (cmpi .sge),
    TRef.unary (TRef.of (T := ⟨S1, .i32⟩) main_call4_c_1) (TRef.of (T := ⟨S1x1, .i32⟩) main_call4_v8) (broadcastInDim S1x1 ![1] bcast_S1_S1x1_1),
    TRef.unary (TRef.of (T := ⟨S1x1, .i32⟩) main_call4_v8) (TRef.of (T := ⟨S50176x1, .i32⟩) main_call4_v9) (broadcastInDim S50176x1 ![0, 1] bcast_S1x1_S50176x1_0_1),
    TRef.binary (TRef.of (T := ⟨S50176x1, .i32⟩) main_call4_v5) (TRef.of (T := ⟨S50176x1, .i32⟩) main_call4_v9) (TRef.of (T := ⟨S50176x1, .i1⟩) main_call4_v10) (cmpi .sle),
    TRef.binary (TRef.of (T := ⟨S50176x1, .i1⟩) main_call4_v7) (TRef.of (T := ⟨S50176x1, .i1⟩) main_call4_v10) (TRef.of (T := ⟨S50176x1, .i1⟩) main_call4_v11) andi,
    TRef.nullary (TRef.of (T := ⟨S_, .i1⟩) main_call4_c_3) (constantI S_ 1 1#1),
    TRef.binary (TRef.of (T := ⟨S50176x1, .i1⟩) main_call4_v11) (TRef.of (T := ⟨S_, .i1⟩) main_call4_c_3) (TRef.of (T := ⟨S50176, .i1⟩) main_call4_v12) (fun x v => Host.reduce IntOp.andi x v reducesTo_S50176x1_S50176_d1 h_S_),
    TRef.binary (TRef.of (T := ⟨S1024x64, .f32⟩) main_arg5) (TRef.of (T := ⟨S50176x1, .i32⟩) main_call4_v5) (TRef.of (T := ⟨S50176x64, .f32⟩) main_call4_v13) (fun x i => Host.gather gather_S1024x64_S50176x1_S50176x64_1_0_n_n_0_1_164 x i),
    TRef.unary (TRef.of (T := ⟨S50176, .i1⟩) main_call4_v12) (TRef.of (T := ⟨S50176x64, .i1⟩) main_call4_v14) (broadcastInDim S50176x64 ![0] bcast_S50176_S50176x64_0),
    TRef.nullary (TRef.of (T := ⟨S_, .f32⟩) main_call4_cst) (constant S_ .f32 0x7FC00000#32),
    TRef.unary (TRef.of (T := ⟨S_, .f32⟩) main_call4_cst) (TRef.of (T := ⟨S50176x64, .f32⟩) main_call4_v15) (broadcastInDim S50176x64 ![] bcast_S_S50176x64),
    TRef.ternary (TRef.of (T := ⟨S50176x64, .i1⟩) main_call4_v14) (TRef.of (T := ⟨S50176x64, .f32⟩) main_call4_v13) (TRef.of (T := ⟨S50176x64, .f32⟩) main_call4_v15) (TRef.of (T := ⟨S50176x64, .f32⟩) main_v97) select ]

/-- The reference's operations that compute the loss, and the chosen codewords as an image. -/
abbrev c9 : List (HloOp τ sig (Elt F)) :=
  [ binary main_v97 main_v81 main_v98 (subf : (⟨S50176x64, .f32⟩ : BufTy).Contents (Elt F) → (⟨S50176x64, .f32⟩ : BufTy).Contents (Elt F) → (⟨S50176x64, .f32⟩ : BufTy).Contents (Elt F)),
    binary main_v98 main_v98 main_v99 (mulf : (⟨S50176x64, .f32⟩ : BufTy).Contents (Elt F) → (⟨S50176x64, .f32⟩ : BufTy).Contents (Elt F) → (⟨S50176x64, .f32⟩ : BufTy).Contents (Elt F)),
    nullary main_cst_8 (constant S_ .f32 0x00000000#32),
    binary main_v99 main_cst_8 main_v100 ((fun x v => Host.reduceAdd x v reducesTo_S50176x64_S_d0_1 h_S_) : (⟨S50176x64, .f32⟩ : BufTy).Contents (Elt F) → (⟨S_, .f32⟩ : BufTy).Contents (Elt F) → (⟨S_, .f32⟩ : BufTy).Contents (Elt F)),
    nullary main_cst_9 (constant S_ .f32 0x4A440000#32),
    binary main_v100 main_cst_9 main_v101 (Host.divf : (⟨S_, .f32⟩ : BufTy).Contents (Elt F) → (⟨S_, .f32⟩ : BufTy).Contents (Elt F) → (⟨S_, .f32⟩ : BufTy).Contents (Elt F)),
    nullary main_cst_10 (constant S_ .f32 0x3F800000#32),
    binary main_v101 main_cst_10 main_v102 (mulf : (⟨S_, .f32⟩ : BufTy).Contents (Elt F) → (⟨S_, .f32⟩ : BufTy).Contents (Elt F) → (⟨S_, .f32⟩ : BufTy).Contents (Elt F)),
    binary main_v97 main_v81 main_v103 (subf : (⟨S50176x64, .f32⟩ : BufTy).Contents (Elt F) → (⟨S50176x64, .f32⟩ : BufTy).Contents (Elt F) → (⟨S50176x64, .f32⟩ : BufTy).Contents (Elt F)),
    binary main_v81 main_v103 main_v104 (addf : (⟨S50176x64, .f32⟩ : BufTy).Contents (Elt F) → (⟨S50176x64, .f32⟩ : BufTy).Contents (Elt F) → (⟨S50176x64, .f32⟩ : BufTy).Contents (Elt F)),
    reshape main_v104 main_v105 (rfl : (.f32 : EltTy) = .f32) shapeCasts_S50176x64_S4x112x112x64,
    unary main_v105 main_v106 ((transpose S4x64x112x112 [0, 3, 1, 2] · transposes_S4x112x112x64_S4x64x112x112_0_3_1_2) : (⟨S4x112x112x64, .f32⟩ : BufTy).Contents (Elt F) → (⟨S4x64x112x112, .f32⟩ : BufTy).Contents (Elt F)) ]

/-- The reference's operations that compute its rows and columns doubled, and the padding. -/
abbrev c10 : List (HloOp τ sig (Elt F)) :=
  [ unary main_v106 main_v107 (broadcastInDim S4x64x112x2x112 ![0, 1, 2, 4] bcast_S4x64x112x112_S4x64x112x2x112_0_1_2_4 : (⟨S4x64x112x112, .f32⟩ : BufTy).Contents (Elt F) → (⟨S4x64x112x2x112, .f32⟩ : BufTy).Contents (Elt F)),
    reshape main_v107 main_v108 (rfl : (.f32 : EltTy) = .f32) shapeCasts_S4x64x112x2x112_S4x64x224x112,
    unary main_v108 main_v109 (broadcastInDim S4x64x224x112x2 ![0, 1, 2, 3] bcast_S4x64x224x112_S4x64x224x112x2_0_1_2_3 : (⟨S4x64x224x112, .f32⟩ : BufTy).Contents (Elt F) → (⟨S4x64x224x112x2, .f32⟩ : BufTy).Contents (Elt F)),
    reshape main_v109 main_v110 (rfl : (.f32 : EltTy) = .f32) shapeCasts_S4x64x224x112x2_S4x64x224x224,
    nullary main_c_11 (constantI S_ 32 0#32),
    TRef.unary (TRef.of (T := ⟨S_, .i32⟩) main_c_11) (TRef.of (T := ⟨S_, .f32⟩) main_call5_v0) (sitofp .f32),
    TRef.binary (TRef.of (T := ⟨S4x64x224x224, .f32⟩) main_v110) (TRef.of (T := ⟨S_, .f32⟩) main_call5_v0) (TRef.of (T := ⟨S4x64x226x226, .f32⟩) main_v111) (fun x v => pad S4x64x226x226 ![0, 0, 1, 1] ![0, 0, 1, 1] ![0, 0, 0, 0] x v pads_S4x64x224x224_S4x64x226x226_000_000_110_110 h_S_) ]

/-- The reference's operations that compute the first five taps of the second convolution. -/
abbrev c11 : List (HloOp τ sig (Elt F)) :=
  [ unary main_v111 main_v112 ((extractStridedSlice S4x64x224x224 ![0, 0, 0, 0] · slices_S4x64x226x226_S4x64x224x224_0_0_0_0) : (⟨S4x64x226x226, .f32⟩ : BufTy).Contents (Elt F) → (⟨S4x64x224x224, .f32⟩ : BufTy).Contents (Elt F)),
    unary main_arg6 main_v113 ((extractStridedSlice S3x64x1x1 ![0, 0, 0, 0] · slices_S3x64x3x3_S3x64x1x1_0_0_0_0) : (⟨S3x64x3x3, .f32⟩ : BufTy).Contents (Elt F) → (⟨S3x64x1x1, .f32⟩ : BufTy).Contents (Elt F)),
    reshape main_v113 main_v114 (rfl : (.f32 : EltTy) = .f32) shapeCasts_S3x64x1x1_S3x64,
    binary main_v114 main_v112 main_v115 ((fun l r => Host.dotGeneral dot_S3x64_S4x64x224x224_S3x4x224x224_1_1_0_023_n_n none l r) : (⟨S3x64, .f32⟩ : BufTy).Contents (Elt F) → (⟨S4x64x224x224, .f32⟩ : BufTy).Contents (Elt F) → (⟨S3x4x224x224, .f32⟩ : BufTy).Contents (Elt F)),
    unary main_v115 main_v116 ((transpose S4x3x224x224 [1, 0, 2, 3] · transposes_S3x4x224x224_S4x3x224x224_1_0_2_3) : (⟨S3x4x224x224, .f32⟩ : BufTy).Contents (Elt F) → (⟨S4x3x224x224, .f32⟩ : BufTy).Contents (Elt F)),
    nullary main_cst_12 (constant S_ .f32 0x00000000#32),
    unary main_cst_12 main_v117 (broadcastInDim S4x3x224x224 ![] bcast_S_S4x3x224x224 : (⟨S_, .f32⟩ : BufTy).Contents (Elt F) → (⟨S4x3x224x224, .f32⟩ : BufTy).Contents (Elt F)),
    binary main_v117 main_v116 main_v118 (addf : (⟨S4x3x224x224, .f32⟩ : BufTy).Contents (Elt F) → (⟨S4x3x224x224, .f32⟩ : BufTy).Contents (Elt F) → (⟨S4x3x224x224, .f32⟩ : BufTy).Contents (Elt F)),
    unary main_v111 main_v119 ((extractStridedSlice S4x64x224x224 ![0, 0, 0, 1] · slices_S4x64x226x226_S4x64x224x224_0_0_0_1) : (⟨S4x64x226x226, .f32⟩ : BufTy).Contents (Elt F) → (⟨S4x64x224x224, .f32⟩ : BufTy).Contents (Elt F)),
    unary main_arg6 main_v120 ((extractStridedSlice S3x64x1x1 ![0, 0, 0, 1] · slices_S3x64x3x3_S3x64x1x1_0_0_0_1) : (⟨S3x64x3x3, .f32⟩ : BufTy).Contents (Elt F) → (⟨S3x64x1x1, .f32⟩ : BufTy).Contents (Elt F)),
    reshape main_v120 main_v121 (rfl : (.f32 : EltTy) = .f32) shapeCasts_S3x64x1x1_S3x64,
    binary main_v121 main_v119 main_v122 ((fun l r => Host.dotGeneral dot_S3x64_S4x64x224x224_S3x4x224x224_1_1_0_023_n_n none l r) : (⟨S3x64, .f32⟩ : BufTy).Contents (Elt F) → (⟨S4x64x224x224, .f32⟩ : BufTy).Contents (Elt F) → (⟨S3x4x224x224, .f32⟩ : BufTy).Contents (Elt F)),
    unary main_v122 main_v123 ((transpose S4x3x224x224 [1, 0, 2, 3] · transposes_S3x4x224x224_S4x3x224x224_1_0_2_3) : (⟨S3x4x224x224, .f32⟩ : BufTy).Contents (Elt F) → (⟨S4x3x224x224, .f32⟩ : BufTy).Contents (Elt F)),
    binary main_v118 main_v123 main_v124 (addf : (⟨S4x3x224x224, .f32⟩ : BufTy).Contents (Elt F) → (⟨S4x3x224x224, .f32⟩ : BufTy).Contents (Elt F) → (⟨S4x3x224x224, .f32⟩ : BufTy).Contents (Elt F)),
    unary main_v111 main_v125 ((extractStridedSlice S4x64x224x224 ![0, 0, 0, 2] · slices_S4x64x226x226_S4x64x224x224_0_0_0_2) : (⟨S4x64x226x226, .f32⟩ : BufTy).Contents (Elt F) → (⟨S4x64x224x224, .f32⟩ : BufTy).Contents (Elt F)),
    unary main_arg6 main_v126 ((extractStridedSlice S3x64x1x1 ![0, 0, 0, 2] · slices_S3x64x3x3_S3x64x1x1_0_0_0_2) : (⟨S3x64x3x3, .f32⟩ : BufTy).Contents (Elt F) → (⟨S3x64x1x1, .f32⟩ : BufTy).Contents (Elt F)),
    reshape main_v126 main_v127 (rfl : (.f32 : EltTy) = .f32) shapeCasts_S3x64x1x1_S3x64,
    binary main_v127 main_v125 main_v128 ((fun l r => Host.dotGeneral dot_S3x64_S4x64x224x224_S3x4x224x224_1_1_0_023_n_n none l r) : (⟨S3x64, .f32⟩ : BufTy).Contents (Elt F) → (⟨S4x64x224x224, .f32⟩ : BufTy).Contents (Elt F) → (⟨S3x4x224x224, .f32⟩ : BufTy).Contents (Elt F)),
    unary main_v128 main_v129 ((transpose S4x3x224x224 [1, 0, 2, 3] · transposes_S3x4x224x224_S4x3x224x224_1_0_2_3) : (⟨S3x4x224x224, .f32⟩ : BufTy).Contents (Elt F) → (⟨S4x3x224x224, .f32⟩ : BufTy).Contents (Elt F)),
    binary main_v124 main_v129 main_v130 (addf : (⟨S4x3x224x224, .f32⟩ : BufTy).Contents (Elt F) → (⟨S4x3x224x224, .f32⟩ : BufTy).Contents (Elt F) → (⟨S4x3x224x224, .f32⟩ : BufTy).Contents (Elt F)),
    unary main_v111 main_v131 ((extractStridedSlice S4x64x224x224 ![0, 0, 1, 0] · slices_S4x64x226x226_S4x64x224x224_0_0_1_0) : (⟨S4x64x226x226, .f32⟩ : BufTy).Contents (Elt F) → (⟨S4x64x224x224, .f32⟩ : BufTy).Contents (Elt F)),
    unary main_arg6 main_v132 ((extractStridedSlice S3x64x1x1 ![0, 0, 1, 0] · slices_S3x64x3x3_S3x64x1x1_0_0_1_0) : (⟨S3x64x3x3, .f32⟩ : BufTy).Contents (Elt F) → (⟨S3x64x1x1, .f32⟩ : BufTy).Contents (Elt F)),
    reshape main_v132 main_v133 (rfl : (.f32 : EltTy) = .f32) shapeCasts_S3x64x1x1_S3x64,
    binary main_v133 main_v131 main_v134 ((fun l r => Host.dotGeneral dot_S3x64_S4x64x224x224_S3x4x224x224_1_1_0_023_n_n none l r) : (⟨S3x64, .f32⟩ : BufTy).Contents (Elt F) → (⟨S4x64x224x224, .f32⟩ : BufTy).Contents (Elt F) → (⟨S3x4x224x224, .f32⟩ : BufTy).Contents (Elt F)),
    unary main_v134 main_v135 ((transpose S4x3x224x224 [1, 0, 2, 3] · transposes_S3x4x224x224_S4x3x224x224_1_0_2_3) : (⟨S3x4x224x224, .f32⟩ : BufTy).Contents (Elt F) → (⟨S4x3x224x224, .f32⟩ : BufTy).Contents (Elt F)),
    binary main_v130 main_v135 main_v136 (addf : (⟨S4x3x224x224, .f32⟩ : BufTy).Contents (Elt F) → (⟨S4x3x224x224, .f32⟩ : BufTy).Contents (Elt F) → (⟨S4x3x224x224, .f32⟩ : BufTy).Contents (Elt F)),
    unary main_v111 main_v137 ((extractStridedSlice S4x64x224x224 ![0, 0, 1, 1] · slices_S4x64x226x226_S4x64x224x224_0_0_1_1) : (⟨S4x64x226x226, .f32⟩ : BufTy).Contents (Elt F) → (⟨S4x64x224x224, .f32⟩ : BufTy).Contents (Elt F)),
    unary main_arg6 main_v138 ((extractStridedSlice S3x64x1x1 ![0, 0, 1, 1] · slices_S3x64x3x3_S3x64x1x1_0_0_1_1) : (⟨S3x64x3x3, .f32⟩ : BufTy).Contents (Elt F) → (⟨S3x64x1x1, .f32⟩ : BufTy).Contents (Elt F)),
    reshape main_v138 main_v139 (rfl : (.f32 : EltTy) = .f32) shapeCasts_S3x64x1x1_S3x64,
    binary main_v139 main_v137 main_v140 ((fun l r => Host.dotGeneral dot_S3x64_S4x64x224x224_S3x4x224x224_1_1_0_023_n_n none l r) : (⟨S3x64, .f32⟩ : BufTy).Contents (Elt F) → (⟨S4x64x224x224, .f32⟩ : BufTy).Contents (Elt F) → (⟨S3x4x224x224, .f32⟩ : BufTy).Contents (Elt F)),
    unary main_v140 main_v141 ((transpose S4x3x224x224 [1, 0, 2, 3] · transposes_S3x4x224x224_S4x3x224x224_1_0_2_3) : (⟨S3x4x224x224, .f32⟩ : BufTy).Contents (Elt F) → (⟨S4x3x224x224, .f32⟩ : BufTy).Contents (Elt F)) ]

/-- The reference's operations that compute its other taps but for the last sum. -/
abbrev c12 : List (HloOp τ sig (Elt F)) :=
  [ binary main_v136 main_v141 main_v142 (addf : (⟨S4x3x224x224, .f32⟩ : BufTy).Contents (Elt F) → (⟨S4x3x224x224, .f32⟩ : BufTy).Contents (Elt F) → (⟨S4x3x224x224, .f32⟩ : BufTy).Contents (Elt F)),
    unary main_v111 main_v143 ((extractStridedSlice S4x64x224x224 ![0, 0, 1, 2] · slices_S4x64x226x226_S4x64x224x224_0_0_1_2) : (⟨S4x64x226x226, .f32⟩ : BufTy).Contents (Elt F) → (⟨S4x64x224x224, .f32⟩ : BufTy).Contents (Elt F)),
    unary main_arg6 main_v144 ((extractStridedSlice S3x64x1x1 ![0, 0, 1, 2] · slices_S3x64x3x3_S3x64x1x1_0_0_1_2) : (⟨S3x64x3x3, .f32⟩ : BufTy).Contents (Elt F) → (⟨S3x64x1x1, .f32⟩ : BufTy).Contents (Elt F)),
    reshape main_v144 main_v145 (rfl : (.f32 : EltTy) = .f32) shapeCasts_S3x64x1x1_S3x64,
    binary main_v145 main_v143 main_v146 ((fun l r => Host.dotGeneral dot_S3x64_S4x64x224x224_S3x4x224x224_1_1_0_023_n_n none l r) : (⟨S3x64, .f32⟩ : BufTy).Contents (Elt F) → (⟨S4x64x224x224, .f32⟩ : BufTy).Contents (Elt F) → (⟨S3x4x224x224, .f32⟩ : BufTy).Contents (Elt F)),
    unary main_v146 main_v147 ((transpose S4x3x224x224 [1, 0, 2, 3] · transposes_S3x4x224x224_S4x3x224x224_1_0_2_3) : (⟨S3x4x224x224, .f32⟩ : BufTy).Contents (Elt F) → (⟨S4x3x224x224, .f32⟩ : BufTy).Contents (Elt F)),
    binary main_v142 main_v147 main_v148 (addf : (⟨S4x3x224x224, .f32⟩ : BufTy).Contents (Elt F) → (⟨S4x3x224x224, .f32⟩ : BufTy).Contents (Elt F) → (⟨S4x3x224x224, .f32⟩ : BufTy).Contents (Elt F)),
    unary main_v111 main_v149 ((extractStridedSlice S4x64x224x224 ![0, 0, 2, 0] · slices_S4x64x226x226_S4x64x224x224_0_0_2_0) : (⟨S4x64x226x226, .f32⟩ : BufTy).Contents (Elt F) → (⟨S4x64x224x224, .f32⟩ : BufTy).Contents (Elt F)),
    unary main_arg6 main_v150 ((extractStridedSlice S3x64x1x1 ![0, 0, 2, 0] · slices_S3x64x3x3_S3x64x1x1_0_0_2_0) : (⟨S3x64x3x3, .f32⟩ : BufTy).Contents (Elt F) → (⟨S3x64x1x1, .f32⟩ : BufTy).Contents (Elt F)),
    reshape main_v150 main_v151 (rfl : (.f32 : EltTy) = .f32) shapeCasts_S3x64x1x1_S3x64,
    binary main_v151 main_v149 main_v152 ((fun l r => Host.dotGeneral dot_S3x64_S4x64x224x224_S3x4x224x224_1_1_0_023_n_n none l r) : (⟨S3x64, .f32⟩ : BufTy).Contents (Elt F) → (⟨S4x64x224x224, .f32⟩ : BufTy).Contents (Elt F) → (⟨S3x4x224x224, .f32⟩ : BufTy).Contents (Elt F)),
    unary main_v152 main_v153 ((transpose S4x3x224x224 [1, 0, 2, 3] · transposes_S3x4x224x224_S4x3x224x224_1_0_2_3) : (⟨S3x4x224x224, .f32⟩ : BufTy).Contents (Elt F) → (⟨S4x3x224x224, .f32⟩ : BufTy).Contents (Elt F)),
    binary main_v148 main_v153 main_v154 (addf : (⟨S4x3x224x224, .f32⟩ : BufTy).Contents (Elt F) → (⟨S4x3x224x224, .f32⟩ : BufTy).Contents (Elt F) → (⟨S4x3x224x224, .f32⟩ : BufTy).Contents (Elt F)),
    unary main_v111 main_v155 ((extractStridedSlice S4x64x224x224 ![0, 0, 2, 1] · slices_S4x64x226x226_S4x64x224x224_0_0_2_1) : (⟨S4x64x226x226, .f32⟩ : BufTy).Contents (Elt F) → (⟨S4x64x224x224, .f32⟩ : BufTy).Contents (Elt F)),
    unary main_arg6 main_v156 ((extractStridedSlice S3x64x1x1 ![0, 0, 2, 1] · slices_S3x64x3x3_S3x64x1x1_0_0_2_1) : (⟨S3x64x3x3, .f32⟩ : BufTy).Contents (Elt F) → (⟨S3x64x1x1, .f32⟩ : BufTy).Contents (Elt F)),
    reshape main_v156 main_v157 (rfl : (.f32 : EltTy) = .f32) shapeCasts_S3x64x1x1_S3x64,
    binary main_v157 main_v155 main_v158 ((fun l r => Host.dotGeneral dot_S3x64_S4x64x224x224_S3x4x224x224_1_1_0_023_n_n none l r) : (⟨S3x64, .f32⟩ : BufTy).Contents (Elt F) → (⟨S4x64x224x224, .f32⟩ : BufTy).Contents (Elt F) → (⟨S3x4x224x224, .f32⟩ : BufTy).Contents (Elt F)),
    unary main_v158 main_v159 ((transpose S4x3x224x224 [1, 0, 2, 3] · transposes_S3x4x224x224_S4x3x224x224_1_0_2_3) : (⟨S3x4x224x224, .f32⟩ : BufTy).Contents (Elt F) → (⟨S4x3x224x224, .f32⟩ : BufTy).Contents (Elt F)),
    binary main_v154 main_v159 main_v160 (addf : (⟨S4x3x224x224, .f32⟩ : BufTy).Contents (Elt F) → (⟨S4x3x224x224, .f32⟩ : BufTy).Contents (Elt F) → (⟨S4x3x224x224, .f32⟩ : BufTy).Contents (Elt F)),
    unary main_v111 main_v161 ((extractStridedSlice S4x64x224x224 ![0, 0, 2, 2] · slices_S4x64x226x226_S4x64x224x224_0_0_2_2) : (⟨S4x64x226x226, .f32⟩ : BufTy).Contents (Elt F) → (⟨S4x64x224x224, .f32⟩ : BufTy).Contents (Elt F)),
    unary main_arg6 main_v162 ((extractStridedSlice S3x64x1x1 ![0, 0, 2, 2] · slices_S3x64x3x3_S3x64x1x1_0_0_2_2) : (⟨S3x64x3x3, .f32⟩ : BufTy).Contents (Elt F) → (⟨S3x64x1x1, .f32⟩ : BufTy).Contents (Elt F)),
    reshape main_v162 main_v163 (rfl : (.f32 : EltTy) = .f32) shapeCasts_S3x64x1x1_S3x64,
    binary main_v163 main_v161 main_v164 ((fun l r => Host.dotGeneral dot_S3x64_S4x64x224x224_S3x4x224x224_1_1_0_023_n_n none l r) : (⟨S3x64, .f32⟩ : BufTy).Contents (Elt F) → (⟨S4x64x224x224, .f32⟩ : BufTy).Contents (Elt F) → (⟨S3x4x224x224, .f32⟩ : BufTy).Contents (Elt F)) ]

/-- The reference's operations that compute the last tap added, and the bias. -/
abbrev c13 : List (HloOp τ sig (Elt F)) :=
  [ unary main_v164 main_v165 ((transpose S4x3x224x224 [1, 0, 2, 3] · transposes_S3x4x224x224_S4x3x224x224_1_0_2_3) : (⟨S3x4x224x224, .f32⟩ : BufTy).Contents (Elt F) → (⟨S4x3x224x224, .f32⟩ : BufTy).Contents (Elt F)),
    binary main_v160 main_v165 main_v166 (addf : (⟨S4x3x224x224, .f32⟩ : BufTy).Contents (Elt F) → (⟨S4x3x224x224, .f32⟩ : BufTy).Contents (Elt F) → (⟨S4x3x224x224, .f32⟩ : BufTy).Contents (Elt F)),
    reshape main_arg7 main_v167 (rfl : (.f32 : EltTy) = .f32) shapeCasts_S3_S1x3x1x1,
    unary main_v167 main_v168 (broadcastInDim S4x3x224x224 ![0, 1, 2, 3] bcast_S1x3x1x1_S4x3x224x224_0_1_2_3 : (⟨S1x3x1x1, .f32⟩ : BufTy).Contents (Elt F) → (⟨S4x3x224x224, .f32⟩ : BufTy).Contents (Elt F)),
    binary main_v166 main_v168 main_v169 (addf : (⟨S4x3x224x224, .f32⟩ : BufTy).Contents (Elt F) → (⟨S4x3x224x224, .f32⟩ : BufTy).Contents (Elt F) → (⟨S4x3x224x224, .f32⟩ : BufTy).Contents (Elt F)) ]

/-- The reference's operations that compute mean and variance of the second normalisation. -/
abbrev c14 : List (HloOp τ sig (Elt F)) :=
  [ nullary main_cst_13 (constant S_ .f32 0x00000000#32),
    binary main_v169 main_cst_13 main_v170 ((fun x v => Host.reduceAdd x v reducesTo_S4x3x224x224_S3_d0_2_3 h_S_) : (⟨S4x3x224x224, .f32⟩ : BufTy).Contents (Elt F) → (⟨S_, .f32⟩ : BufTy).Contents (Elt F) → (⟨S3, .f32⟩ : BufTy).Contents (Elt F)),
    unary main_v170 main_v171 (broadcastInDim S1x3x1x1 ![1] bcast_S3_S1x3x1x1_1 : (⟨S3, .f32⟩ : BufTy).Contents (Elt F) → (⟨S1x3x1x1, .f32⟩ : BufTy).Contents (Elt F)),
    nullary main_cst_14 (constant S_ .f32 0x48440000#32),
    unary main_cst_14 main_v172 (broadcastInDim S1x3x1x1 ![] bcast_S_S1x3x1x1 : (⟨S_, .f32⟩ : BufTy).Contents (Elt F) → (⟨S1x3x1x1, .f32⟩ : BufTy).Contents (Elt F)),
    binary main_v171 main_v172 main_v173 (Host.divf : (⟨S1x3x1x1, .f32⟩ : BufTy).Contents (Elt F) → (⟨S1x3x1x1, .f32⟩ : BufTy).Contents (Elt F) → (⟨S1x3x1x1, .f32⟩ : BufTy).Contents (Elt F)),
    nullary main_c_15 (constantI S_ 32 0#32),
    TRef.nullary (TRef.of (T := ⟨S_, .f32⟩) main_call6_cst) (constant S_ .f32 0x00000000#32),
    TRef.binary (TRef.of (T := ⟨S4x3x224x224, .f32⟩) main_v169) (TRef.of (T := ⟨S_, .f32⟩) main_call6_cst) (TRef.of (T := ⟨S3, .f32⟩) main_call6_v0) (fun x v => Host.reduceAdd x v reducesTo_S4x3x224x224_S3_d0_2_3 h_S_),
    TRef.unary (TRef.of (T := ⟨S3, .f32⟩) main_call6_v0) (TRef.of (T := ⟨S1x3x1x1, .f32⟩) main_call6_v1) (broadcastInDim S1x3x1x1 ![1] bcast_S3_S1x3x1x1_1),
    TRef.nullary (TRef.of (T := ⟨S_, .f32⟩) main_call6_cst_0) (constant S_ .f32 0x48440000#32),
    TRef.unary (TRef.of (T := ⟨S_, .f32⟩) main_call6_cst_0) (TRef.of (T := ⟨S1x3x1x1, .f32⟩) main_call6_v2) (broadcastInDim S1x3x1x1 ![] bcast_S_S1x3x1x1),
    TRef.binary (TRef.of (T := ⟨S1x3x1x1, .f32⟩) main_call6_v1) (TRef.of (T := ⟨S1x3x1x1, .f32⟩) main_call6_v2) (TRef.of (T := ⟨S1x3x1x1, .f32⟩) main_call6_v3) Host.divf,
    TRef.unary (TRef.of (T := ⟨S1x3x1x1, .f32⟩) main_call6_v3) (TRef.of (T := ⟨S4x3x224x224, .f32⟩) main_call6_v4) (broadcastInDim S4x3x224x224 ![0, 1, 2, 3] bcast_S1x3x1x1_S4x3x224x224_0_1_2_3),
    TRef.binary (TRef.of (T := ⟨S4x3x224x224, .f32⟩) main_v169) (TRef.of (T := ⟨S4x3x224x224, .f32⟩) main_call6_v4) (TRef.of (T := ⟨S4x3x224x224, .f32⟩) main_call6_v5) subf,
    TRef.binary (TRef.of (T := ⟨S4x3x224x224, .f32⟩) main_call6_v5) (TRef.of (T := ⟨S4x3x224x224, .f32⟩) main_call6_v5) (TRef.of (T := ⟨S4x3x224x224, .f32⟩) main_call6_v6) mulf,
    TRef.unary (TRef.of (T := ⟨S_, .i32⟩) main_c_15) (TRef.of (T := ⟨S_, .f32⟩) main_call6_v7) (sitofp .f32),
    TRef.nullary (TRef.of (T := ⟨S_, .f32⟩) main_call6_cst_1) (constant S_ .f32 0x48440000#32),
    TRef.binary (TRef.of (T := ⟨S_, .f32⟩) main_call6_cst_1) (TRef.of (T := ⟨S_, .f32⟩) main_call6_v7) (TRef.of (T := ⟨S_, .f32⟩) main_call6_v8) subf,
    TRef.nullary (TRef.of (T := ⟨S_, .f32⟩) main_call6_cst_2) (constant S_ .f32 0x00000000#32),
    TRef.binary (TRef.of (T := ⟨S4x3x224x224, .f32⟩) main_call6_v6) (TRef.of (T := ⟨S_, .f32⟩) main_call6_cst_2) (TRef.of (T := ⟨S3, .f32⟩) main_call6_v9) (fun x v => Host.reduceAdd x v reducesTo_S4x3x224x224_S3_d0_2_3 h_S_),
    TRef.unary (TRef.of (T := ⟨S3, .f32⟩) main_call6_v9) (TRef.of (T := ⟨S1x3x1x1, .f32⟩) main_call6_v10) (broadcastInDim S1x3x1x1 ![1] bcast_S3_S1x3x1x1_1),
    TRef.unary (TRef.of (T := ⟨S_, .f32⟩) main_call6_v8) (TRef.of (T := ⟨S1x3x1x1, .f32⟩) main_call6_v11) (broadcastInDim S1x3x1x1 ![] bcast_S_S1x3x1x1),
    TRef.binary (TRef.of (T := ⟨S1x3x1x1, .f32⟩) main_call6_v10) (TRef.of (T := ⟨S1x3x1x1, .f32⟩) main_call6_v11) (TRef.of (T := ⟨S1x3x1x1, .f32⟩) main_call6_v12) Host.divf,
    TRef.nullary (TRef.of (T := ⟨S_, .f32⟩) main_call6_cst_3) (constant S_ .f32 0x00000000#32),
    TRef.binary (TRef.of (T := ⟨S_, .f32⟩) main_call6_v8) (TRef.of (T := ⟨S_, .f32⟩) main_call6_cst_3) (TRef.of (T := ⟨S_, .i1⟩) main_call6_v13) (cmpf .ogt),
    TRef.nullary (TRef.of (T := ⟨S_, .f32⟩) main_call6_cst_4) (constant S_ .f32 0x7FC00000#32),
    TRef.unary (TRef.of (T := ⟨S_, .f32⟩) main_call6_cst_4) (TRef.of (T := ⟨S_, .f32⟩) main_call6_call0_v0) id,
    TRef.unary (TRef.of (T := ⟨S_, .f32⟩) main_call6_call0_v0) (TRef.of (T := ⟨S1x3x1x1, .f32⟩) main_call6_call0_v1) (broadcastInDim S1x3x1x1 ![] bcast_S_S1x3x1x1) ]

/-- The reference's operations that compute the second normalisation, the hyperbolic tangent and the indices as an image. -/
abbrev c15 : List (HloOp τ sig (Elt F)) :=
  [ TRef.ternary (TRef.of (T := ⟨S_, .i1⟩) main_call6_v13) (TRef.of (T := ⟨S1x3x1x1, .f32⟩) main_call6_v12) (TRef.of (T := ⟨S1x3x1x1, .f32⟩) main_call6_call0_v1) (TRef.of (T := ⟨S1x3x1x1, .f32⟩) main_v174) (fun p a b => select (broadcastInDim S1x3x1x1 ![] bcast_S_S1x3x1x1 p) a b),
    unary main_v173 main_v175 (broadcastInDim S4x3x224x224 ![0, 1, 2, 3] bcast_S1x3x1x1_S4x3x224x224_0_1_2_3 : (⟨S1x3x1x1, .f32⟩ : BufTy).Contents (Elt F) → (⟨S4x3x224x224, .f32⟩ : BufTy).Contents (Elt F)),
    binary main_v169 main_v175 main_v176 (subf : (⟨S4x3x224x224, .f32⟩ : BufTy).Contents (Elt F) → (⟨S4x3x224x224, .f32⟩ : BufTy).Contents (Elt F) → (⟨S4x3x224x224, .f32⟩ : BufTy).Contents (Elt F)),
    nullary main_cst_16 (constant S_ .f32 0x3727C5AC#32),
    unary main_cst_16 main_v177 (broadcastInDim S1x3x1x1 ![] bcast_S_S1x3x1x1 : (⟨S_, .f32⟩ : BufTy).Contents (Elt F) → (⟨S1x3x1x1, .f32⟩ : BufTy).Contents (Elt F)),
    binary main_v174 main_v177 main_v178 (addf : (⟨S1x3x1x1, .f32⟩ : BufTy).Contents (Elt F) → (⟨S1x3x1x1, .f32⟩ : BufTy).Contents (Elt F) → (⟨S1x3x1x1, .f32⟩ : BufTy).Contents (Elt F)),
    unary main_v178 main_v179 (Host.sqrt : (⟨S1x3x1x1, .f32⟩ : BufTy).Contents (Elt F) → (⟨S1x3x1x1, .f32⟩ : BufTy).Contents (Elt F)),
    unary main_v179 main_v180 (broadcastInDim S4x3x224x224 ![0, 1, 2, 3] bcast_S1x3x1x1_S4x3x224x224_0_1_2_3 : (⟨S1x3x1x1, .f32⟩ : BufTy).Contents (Elt F) → (⟨S4x3x224x224, .f32⟩ : BufTy).Contents (Elt F)),
    binary main_v176 main_v180 main_v181 (Host.divf : (⟨S4x3x224x224, .f32⟩ : BufTy).Contents (Elt F) → (⟨S4x3x224x224, .f32⟩ : BufTy).Contents (Elt F) → (⟨S4x3x224x224, .f32⟩ : BufTy).Contents (Elt F)),
    reshape main_arg8 main_v182 (rfl : (.f32 : EltTy) = .f32) shapeCasts_S3_S1x3x1x1,
    unary main_v182 main_v183 (broadcastInDim S4x3x224x224 ![0, 1, 2, 3] bcast_S1x3x1x1_S4x3x224x224_0_1_2_3 : (⟨S1x3x1x1, .f32⟩ : BufTy).Contents (Elt F) → (⟨S4x3x224x224, .f32⟩ : BufTy).Contents (Elt F)),
    binary main_v181 main_v183 main_v184 (mulf : (⟨S4x3x224x224, .f32⟩ : BufTy).Contents (Elt F) → (⟨S4x3x224x224, .f32⟩ : BufTy).Contents (Elt F) → (⟨S4x3x224x224, .f32⟩ : BufTy).Contents (Elt F)),
    reshape main_arg9 main_v185 (rfl : (.f32 : EltTy) = .f32) shapeCasts_S3_S1x3x1x1,
    unary main_v185 main_v186 (broadcastInDim S4x3x224x224 ![0, 1, 2, 3] bcast_S1x3x1x1_S4x3x224x224_0_1_2_3 : (⟨S1x3x1x1, .f32⟩ : BufTy).Contents (Elt F) → (⟨S4x3x224x224, .f32⟩ : BufTy).Contents (Elt F)),
    binary main_v184 main_v186 main_v187 (addf : (⟨S4x3x224x224, .f32⟩ : BufTy).Contents (Elt F) → (⟨S4x3x224x224, .f32⟩ : BufTy).Contents (Elt F) → (⟨S4x3x224x224, .f32⟩ : BufTy).Contents (Elt F)),
    unary main_v187 main_v188 (Host.tanh : (⟨S4x3x224x224, .f32⟩ : BufTy).Contents (Elt F) → (⟨S4x3x224x224, .f32⟩ : BufTy).Contents (Elt F)),
    reshape main_v96 main_v189 (rfl : (.i32 : EltTy) = .i32) shapeCasts_S50176_S4x112x112 ]

/-- Every operation of the reference, in order. -/
abbrev ops : List (HloOp τ sig (Elt F)) :=
  c1 ++ (c2 ++ (c3 ++ (c4 ++ (c5 ++ (c6 ++ (c7 ++ (c8 ++ (c9 ++ (c10 ++ (c11 ++ (c12 ++ (c13 ++ (c14 ++ (c15))))))))))))))

set_option maxRecDepth 8192 in
set_option maxHeartbeats 4000000 in
theorem main_part0_eq (c : Dev nD) : main_part0 (F := F) c = seq (c1 ++ (c2)) := rfl

set_option maxRecDepth 8192 in
set_option maxHeartbeats 4000000 in
theorem main_part1_eq (c : Dev nD) : main_part1 (F := F) c = seq (c3 ++ (c4 ++ (c5 ++ (c6 ++ (c7 ++ (c8 ++ (c9))))))) := rfl

set_option maxRecDepth 8192 in
set_option maxHeartbeats 4000000 in
theorem main_part2_eq (c : Dev nD) : main_part2 (F := F) c = seq (c10 ++ (c11 ++ (c12))) := rfl

set_option maxRecDepth 8192 in
set_option maxHeartbeats 4000000 in
theorem main_part3_eq (c : Dev nD) : main_part3 (F := F) c = seq (c13 ++ (c14 ++ (c15))) := rfl

set_option maxRecDepth 8192 in
theorem main_eq (c : Dev nD) : main (F := F) c = seq ops := by
  have h : (ops : List (HloOp τ sig (Elt F))) = (c1 ++ c2) ++ ((c3 ++ (c4 ++ (c5 ++ (c6 ++ (c7 ++ (c8 ++ c9)))))) ++ ((c10 ++ (c11 ++ c12)) ++ (c13 ++ (c14 ++ c15)))) := by
    simp only [ops, List.append_assoc]
  rw [h, seq_append (c1 ++ c2), seq_append (c3 ++ (c4 ++ (c5 ++ (c6 ++ (c7 ++ (c8 ++ c9)))))), seq_append (c10 ++ (c11 ++ c12)), ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem c1_sub : (c1 : List (HloOp τ sig (Elt F))).Forall fun op => op.bufs ⊆ tcRefs τ sig :=
  ⟨nullary_bufs_sub .., unary_bufs_sub .., binary_bufs_sub .., unary_bufs_sub .., unary_bufs_sub .., reshape_bufs_sub .., binary_bufs_sub .., unary_bufs_sub .., nullary_bufs_sub .., unary_bufs_sub .., binary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub ..⟩
set_option maxRecDepth 8192 in
theorem c1_fresh : (c1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl⟩
/-- The buffers `c1` writes. -/
abbrev c1_W : List (Ref sig .tc) :=
  [main_c, main_call0_v0, main_v0, main_v1, main_v2, main_v3, main_v4, main_v5, main_cst, main_v6, main_v7, main_v8, main_v9, main_v10, main_v11, main_v12, main_v13, main_v14, main_v15, main_v16, main_v17, main_v18, main_v19, main_v20, main_v21, main_v22, main_v23, main_v24, main_v25]
set_option maxRecDepth 8192 in
theorem c1_writes : (c1 : List (HloOp τ sig (Elt F))).Forall fun op => op.writes ⊆ (c1_W.map (Proc.devRef (τ := τ) .tc)).toFinset := by
  simp only [List.Forall, TRef.nullary, TRef.unary, TRef.binary, TRef.ternary, TRef.quaternary, nullary_writes, unary_writes, binary_writes, ternary_writes, quaternary_writes, reshape_writes, Finset.singleton_subset_iff, List.mem_toFinset]
  (repeat' apply And.intro) <;> exact List.mem_map_of_mem (by decide)

set_option maxRecDepth 8192 in
theorem c2_sub : (c2 : List (HloOp τ sig (Elt F))).Forall fun op => op.bufs ⊆ tcRefs τ sig :=
  ⟨unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub .., reshape_bufs_sub .., unary_bufs_sub ..⟩
set_option maxRecDepth 8192 in
theorem c2_fresh : (c2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- The buffers `c2` writes. -/
abbrev c2_W : List (Ref sig .tc) :=
  [main_v26, main_v27, main_v28, main_v29, main_v30, main_v31, main_v32, main_v33, main_v34, main_v35, main_v36, main_v37, main_v38, main_v39, main_v40, main_v41, main_v42, main_v43, main_v44, main_v45, main_v46, main_v47, main_v48, main_v49, main_v50, main_v51, main_v52, main_v53, main_v54, main_v55, main_v56, main_v57]
set_option maxRecDepth 8192 in
theorem c2_writes : (c2 : List (HloOp τ sig (Elt F))).Forall fun op => op.writes ⊆ (c2_W.map (Proc.devRef (τ := τ) .tc)).toFinset := by
  simp only [List.Forall, TRef.nullary, TRef.unary, TRef.binary, TRef.ternary, TRef.quaternary, nullary_writes, unary_writes, binary_writes, ternary_writes, quaternary_writes, reshape_writes, Finset.singleton_subset_iff, List.mem_toFinset]
  (repeat' apply And.intro) <;> exact List.mem_map_of_mem (by decide)

set_option maxRecDepth 8192 in
theorem c3_sub : (c3 : List (HloOp τ sig (Elt F))).Forall fun op => op.bufs ⊆ tcRefs τ sig :=
  ⟨binary_bufs_sub .., nullary_bufs_sub .., binary_bufs_sub ..⟩
set_option maxRecDepth 8192 in
theorem c3_fresh : (c3 : List (HloOp τ sig (Elt F))).Forall fun op => op.fresh = ∅ :=
  ⟨rfl, rfl, rfl⟩
/-- The buffers `c3` writes. -/
abbrev c3_W : List (Ref sig .tc) :=
  [main_v58, main_cst_0, main_v59]
set_option maxRecDepth 8192 in
theorem c3_writes : (c3 : List (HloOp τ sig (Elt F))).Forall fun op => op.writes ⊆ (c3_W.map (Proc.devRef (τ := τ) .tc)).toFinset := by
  simp only [List.Forall, TRef.nullary, TRef.unary, TRef.binary, TRef.ternary, TRef.quaternary, nullary_writes, unary_writes, binary_writes, ternary_writes, quaternary_writes, reshape_writes, Finset.singleton_subset_iff, List.mem_toFinset]
  (repeat' apply And.intro) <;> exact List.mem_map_of_mem (by decide)

set_option maxRecDepth 8192 in
theorem c4_sub : (c4 : List (HloOp τ sig (Elt F))).Forall fun op => op.bufs ⊆ tcRefs τ sig :=
  ⟨unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub ..⟩
set_option maxRecDepth 8192 in
theorem c4_fresh : (c4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl⟩
/-- The buffers `c4` writes. -/
abbrev c4_W : List (Ref sig .tc) :=
  [main_v60, main_cst_1, main_v61, main_v62, main_c_2, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_v12, main_call1_cst_3, main_call1_v13, main_call1_cst_4, main_call1_call0_v0, main_call1_call0_v1, main_v63]
set_option maxRecDepth 8192 in
theorem c4_writes : (c4 : List (HloOp τ sig (Elt F))).Forall fun op => op.writes ⊆ (c4_W.map (Proc.devRef (τ := τ) .tc)).toFinset := by
  simp only [List.Forall, TRef.nullary, TRef.unary, TRef.binary, TRef.ternary, TRef.quaternary, nullary_writes, unary_writes, binary_writes, ternary_writes, quaternary_writes, reshape_writes, Finset.singleton_subset_iff, List.mem_toFinset]
  (repeat' apply And.intro) <;> exact List.mem_map_of_mem (by decide)

set_option maxRecDepth 8192 in
theorem c5_sub : (c5 : List (HloOp τ sig (Elt F))).Forall fun op => op.bufs ⊆ tcRefs τ sig :=
  ⟨unary_bufs_sub .., binary_bufs_sub .., nullary_bufs_sub .., unary_bufs_sub .., binary_bufs_sub .., unary_bufs_sub .., unary_bufs_sub .., binary_bufs_sub .., reshape_bufs_sub .., unary_bufs_sub .., binary_bufs_sub .., reshape_bufs_sub .., unary_bufs_sub .., binary_bufs_sub .., nullary_bufs_sub .., unary_bufs_sub .., binary_bufs_sub .., nullary_bufs_sub .., unary_bufs_sub .., binary_bufs_sub .., unary_bufs_sub .., reshape_bufs_sub ..⟩
set_option maxRecDepth 8192 in
theorem c5_fresh : (c5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩
/-- The buffers `c5` writes. -/
abbrev c5_W : List (Ref sig .tc) :=
  [main_v64, main_v65, main_cst_3, main_v66, main_v67, main_v68, main_v69, main_v70, main_v71, main_v72, main_v73, main_v74, main_v75, main_v76, main_call2_cst, main_call2_v0, main_v77, main_cst_4, main_v78, main_v79, main_v80, main_v81]
set_option maxRecDepth 8192 in
theorem c5_writes : (c5 : List (HloOp τ sig (Elt F))).Forall fun op => op.writes ⊆ (c5_W.map (Proc.devRef (τ := τ) .tc)).toFinset := by
  simp only [List.Forall, TRef.nullary, TRef.unary, TRef.binary, TRef.ternary, TRef.quaternary, nullary_writes, unary_writes, binary_writes, ternary_writes, quaternary_writes, reshape_writes, Finset.singleton_subset_iff, List.mem_toFinset]
  (repeat' apply And.intro) <;> exact List.mem_map_of_mem (by decide)

set_option maxRecDepth 8192 in
theorem c6_sub : (c6 : List (HloOp τ sig (Elt F))).Forall fun op => op.bufs ⊆ tcRefs τ sig :=
  ⟨binary_bufs_sub .., nullary_bufs_sub .., binary_bufs_sub .., unary_bufs_sub .., unary_bufs_sub .., binary_bufs_sub .., nullary_bufs_sub .., unary_bufs_sub .., binary_bufs_sub .., unary_bufs_sub .., binary_bufs_sub .., binary_bufs_sub .., nullary_bufs_sub .., binary_bufs_sub .., unary_bufs_sub .., unary_bufs_sub .., binary_bufs_sub ..⟩
set_option maxRecDepth 8192 in
theorem c6_fresh : (c6 : List (HloOp τ sig (Elt F))).Forall fun op => op.fresh = ∅ :=
  ⟨rfl, rfl, rfl, rfl, rfl, rfl, rfl, rfl, rfl, rfl, rfl, rfl, rfl, rfl, rfl, rfl, rfl⟩
/-- The buffers `c6` writes. -/
abbrev c6_W : List (Ref sig .tc) :=
  [main_v82, main_cst_5, main_v83, main_v84, main_v85, main_v86, main_cst_6, main_v87, main_v88, main_v89, main_v90, main_v91, main_cst_7, main_v92, main_v93, main_v94, main_v95]
set_option maxRecDepth 8192 in
theorem c6_writes : (c6 : List (HloOp τ sig (Elt F))).Forall fun op => op.writes ⊆ (c6_W.map (Proc.devRef (τ := τ) .tc)).toFinset := by
  simp only [List.Forall, TRef.nullary, TRef.unary, TRef.binary, TRef.ternary, TRef.quaternary, nullary_writes, unary_writes, binary_writes, ternary_writes, quaternary_writes, reshape_writes, Finset.singleton_subset_iff, List.mem_toFinset]
  (repeat' apply And.intro) <;> exact List.mem_map_of_mem (by decide)

set_option maxRecDepth 8192 in
theorem c7_sub : (c7 : List (HloOp τ sig (Elt F))).Forall fun op => op.bufs ⊆ tcRefs τ sig :=
  ⟨nullary_bufs_sub .., nullary_bufs_sub .., nullary_bufs_sub .., quaternary_bufs_sub .., quaternary_bufs_sub ..⟩
set_option maxRecDepth 8192 in
theorem c7_fresh : (c7 : List (HloOp τ sig (Elt F))).Forall fun op => op.fresh = ∅ :=
  ⟨rfl, rfl, rfl, rfl, rfl⟩
/-- The buffers `c7` writes. -/
abbrev c7_W : List (Ref sig .tc) :=
  [main_call3_v0, main_call3_cst, main_call3_c, main_call3_v1_0, main_v96]
set_option maxRecDepth 8192 in
theorem c7_writes : (c7 : List (HloOp τ sig (Elt F))).Forall fun op => op.writes ⊆ (c7_W.map (Proc.devRef (τ := τ) .tc)).toFinset := by
  simp only [List.Forall, TRef.nullary, TRef.unary, TRef.binary, TRef.ternary, TRef.quaternary, nullary_writes, unary_writes, binary_writes, ternary_writes, quaternary_writes, reshape_writes, Finset.singleton_subset_iff, List.mem_toFinset]
  (repeat' apply And.intro) <;> exact List.mem_map_of_mem (by decide)

set_option maxRecDepth 8192 in
theorem c8_sub : (c8 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
set_option maxRecDepth 8192 in
theorem c8_fresh : (c8 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩
/-- The buffers `c8` writes. -/
abbrev c8_W : List (Ref sig .tc) :=
  [main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_v14, main_call4_cst, main_call4_v15, main_v97]
set_option maxRecDepth 8192 in
theorem c8_writes : (c8 : List (HloOp τ sig (Elt F))).Forall fun op => op.writes ⊆ (c8_W.map (Proc.devRef (τ := τ) .tc)).toFinset := by
  simp only [List.Forall, TRef.nullary, TRef.unary, TRef.binary, TRef.ternary, TRef.quaternary, nullary_writes, unary_writes, binary_writes, ternary_writes, quaternary_writes, reshape_writes, Finset.singleton_subset_iff, List.mem_toFinset]
  (repeat' apply And.intro) <;> exact List.mem_map_of_mem (by decide)

set_option maxRecDepth 8192 in
theorem c9_sub : (c9 : List (HloOp τ sig (Elt F))).Forall fun op => op.bufs ⊆ tcRefs τ sig :=
  ⟨binary_bufs_sub .., binary_bufs_sub .., nullary_bufs_sub .., binary_bufs_sub .., nullary_bufs_sub .., binary_bufs_sub .., nullary_bufs_sub .., binary_bufs_sub .., binary_bufs_sub .., binary_bufs_sub .., reshape_bufs_sub .., unary_bufs_sub ..⟩
set_option maxRecDepth 8192 in
theorem c9_fresh : (c9 : List (HloOp τ sig (Elt F))).Forall fun op => op.fresh = ∅ :=
  ⟨rfl, rfl, rfl, rfl, rfl, rfl, rfl, rfl, rfl, rfl, rfl, rfl⟩
/-- The buffers `c9` writes. -/
abbrev c9_W : List (Ref sig .tc) :=
  [main_v98, main_v99, main_cst_8, main_v100, main_cst_9, main_v101, main_cst_10, main_v102, main_v103, main_v104, main_v105, main_v106]
set_option maxRecDepth 8192 in
theorem c9_writes : (c9 : List (HloOp τ sig (Elt F))).Forall fun op => op.writes ⊆ (c9_W.map (Proc.devRef (τ := τ) .tc)).toFinset := by
  simp only [List.Forall, TRef.nullary, TRef.unary, TRef.binary, TRef.ternary, TRef.quaternary, nullary_writes, unary_writes, binary_writes, ternary_writes, quaternary_writes, reshape_writes, Finset.singleton_subset_iff, List.mem_toFinset]
  (repeat' apply And.intro) <;> exact List.mem_map_of_mem (by decide)

set_option maxRecDepth 8192 in
theorem c10_sub : (c10 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub ..⟩
set_option maxRecDepth 8192 in
theorem c10_fresh : (c10 : List (HloOp τ sig (Elt F))).Forall fun op => op.fresh = ∅ :=
  ⟨rfl, rfl, rfl, rfl, rfl, rfl, rfl⟩
/-- The buffers `c10` writes. -/
abbrev c10_W : List (Ref sig .tc) :=
  [main_v107, main_v108, main_v109, main_v110, main_c_11, main_call5_v0, main_v111]
set_option maxRecDepth 8192 in
theorem c10_writes : (c10 : List (HloOp τ sig (Elt F))).Forall fun op => op.writes ⊆ (c10_W.map (Proc.devRef (τ := τ) .tc)).toFinset := by
  simp only [List.Forall, TRef.nullary, TRef.unary, TRef.binary, TRef.ternary, TRef.quaternary, nullary_writes, unary_writes, binary_writes, ternary_writes, quaternary_writes, reshape_writes, Finset.singleton_subset_iff, List.mem_toFinset]
  (repeat' apply And.intro) <;> exact List.mem_map_of_mem (by decide)

set_option maxRecDepth 8192 in
theorem c11_sub : (c11 : List (HloOp τ sig (Elt F))).Forall fun op => op.bufs ⊆ tcRefs τ sig :=
  ⟨unary_bufs_sub .., unary_bufs_sub .., reshape_bufs_sub .., binary_bufs_sub .., unary_bufs_sub .., nullary_bufs_sub .., unary_bufs_sub .., binary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub ..⟩
set_option maxRecDepth 8192 in
theorem c11_fresh : (c11 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- The buffers `c11` writes. -/
abbrev c11_W : List (Ref sig .tc) :=
  [main_v112, main_v113, main_v114, main_v115, main_v116, main_cst_12, main_v117, main_v118, main_v119, main_v120, main_v121, main_v122, main_v123, main_v124, main_v125, main_v126, main_v127, main_v128, main_v129, main_v130, main_v131, main_v132, main_v133, main_v134, main_v135, main_v136, main_v137, main_v138, main_v139, main_v140, main_v141]
set_option maxRecDepth 8192 in
theorem c11_writes : (c11 : List (HloOp τ sig (Elt F))).Forall fun op => op.writes ⊆ (c11_W.map (Proc.devRef (τ := τ) .tc)).toFinset := by
  simp only [List.Forall, TRef.nullary, TRef.unary, TRef.binary, TRef.ternary, TRef.quaternary, nullary_writes, unary_writes, binary_writes, ternary_writes, quaternary_writes, reshape_writes, Finset.singleton_subset_iff, List.mem_toFinset]
  (repeat' apply And.intro) <;> exact List.mem_map_of_mem (by decide)

set_option maxRecDepth 8192 in
theorem c12_sub : (c12 : List (HloOp τ sig (Elt F))).Forall fun op => op.bufs ⊆ tcRefs τ sig :=
  ⟨binary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub .., unary_bufs_sub .., unary_bufs_sub .., reshape_bufs_sub .., binary_bufs_sub ..⟩
set_option maxRecDepth 8192 in
theorem c12_fresh : (c12 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩
/-- The buffers `c12` writes. -/
abbrev c12_W : List (Ref sig .tc) :=
  [main_v142, main_v143, main_v144, main_v145, main_v146, main_v147, main_v148, main_v149, main_v150, main_v151, main_v152, main_v153, main_v154, main_v155, main_v156, main_v157, main_v158, main_v159, main_v160, main_v161, main_v162, main_v163, main_v164]
set_option maxRecDepth 8192 in
theorem c12_writes : (c12 : List (HloOp τ sig (Elt F))).Forall fun op => op.writes ⊆ (c12_W.map (Proc.devRef (τ := τ) .tc)).toFinset := by
  simp only [List.Forall, TRef.nullary, TRef.unary, TRef.binary, TRef.ternary, TRef.quaternary, nullary_writes, unary_writes, binary_writes, ternary_writes, quaternary_writes, reshape_writes, Finset.singleton_subset_iff, List.mem_toFinset]
  (repeat' apply And.intro) <;> exact List.mem_map_of_mem (by decide)

set_option maxRecDepth 8192 in
theorem c13_sub : (c13 : List (HloOp τ sig (Elt F))).Forall fun op => op.bufs ⊆ tcRefs τ sig :=
  ⟨unary_bufs_sub .., binary_bufs_sub .., reshape_bufs_sub .., unary_bufs_sub .., binary_bufs_sub ..⟩
set_option maxRecDepth 8192 in
theorem c13_fresh : (c13 : List (HloOp τ sig (Elt F))).Forall fun op => op.fresh = ∅ :=
  ⟨rfl, rfl, rfl, rfl, rfl⟩
/-- The buffers `c13` writes. -/
abbrev c13_W : List (Ref sig .tc) :=
  [main_v165, main_v166, main_v167, main_v168, main_v169]
set_option maxRecDepth 8192 in
theorem c13_writes : (c13 : List (HloOp τ sig (Elt F))).Forall fun op => op.writes ⊆ (c13_W.map (Proc.devRef (τ := τ) .tc)).toFinset := by
  simp only [List.Forall, TRef.nullary, TRef.unary, TRef.binary, TRef.ternary, TRef.quaternary, nullary_writes, unary_writes, binary_writes, ternary_writes, quaternary_writes, reshape_writes, Finset.singleton_subset_iff, List.mem_toFinset]
  (repeat' apply And.intro) <;> exact List.mem_map_of_mem (by decide)

set_option maxRecDepth 8192 in
theorem c14_sub : (c14 : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub ..⟩
set_option maxRecDepth 8192 in
theorem c14_fresh : (c14 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl⟩
/-- The buffers `c14` writes. -/
abbrev c14_W : List (Ref sig .tc) :=
  [main_cst_13, main_v170, main_v171, main_cst_14, main_v172, main_v173, main_c_15, main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_v12, main_call6_cst_3, main_call6_v13, main_call6_cst_4, main_call6_call0_v0, main_call6_call0_v1]
set_option maxRecDepth 8192 in
theorem c14_writes : (c14 : List (HloOp τ sig (Elt F))).Forall fun op => op.writes ⊆ (c14_W.map (Proc.devRef (τ := τ) .tc)).toFinset := by
  simp only [List.Forall, TRef.nullary, TRef.unary, TRef.binary, TRef.ternary, TRef.quaternary, nullary_writes, unary_writes, binary_writes, ternary_writes, quaternary_writes, reshape_writes, Finset.singleton_subset_iff, List.mem_toFinset]
  (repeat' apply And.intro) <;> exact List.mem_map_of_mem (by decide)

set_option maxRecDepth 8192 in
theorem c15_sub : (c15 : List (HloOp τ sig (Elt F))).Forall fun op => op.bufs ⊆ tcRefs τ sig :=
  ⟨ternary_bufs_sub .., unary_bufs_sub .., binary_bufs_sub .., nullary_bufs_sub .., unary_bufs_sub .., binary_bufs_sub .., unary_bufs_sub .., unary_bufs_sub .., binary_bufs_sub .., reshape_bufs_sub .., unary_bufs_sub .., binary_bufs_sub .., reshape_bufs_sub .., unary_bufs_sub .., binary_bufs_sub .., unary_bufs_sub .., reshape_bufs_sub ..⟩
set_option maxRecDepth 8192 in
theorem c15_fresh : (c15 : List (HloOp τ sig (Elt F))).Forall fun op => op.fresh = ∅ :=
  ⟨rfl, rfl, rfl, rfl, rfl, rfl, rfl, rfl, rfl, rfl, rfl, rfl, rfl, rfl, rfl, rfl, rfl⟩
/-- The buffers `c15` writes. -/
abbrev c15_W : List (Ref sig .tc) :=
  [main_v174, main_v175, main_v176, main_cst_16, main_v177, main_v178, main_v179, main_v180, main_v181, main_v182, main_v183, main_v184, main_v185, main_v186, main_v187, main_v188, main_v189]
set_option maxRecDepth 8192 in
theorem c15_writes : (c15 : List (HloOp τ sig (Elt F))).Forall fun op => op.writes ⊆ (c15_W.map (Proc.devRef (τ := τ) .tc)).toFinset := by
  simp only [List.Forall, TRef.nullary, TRef.unary, TRef.binary, TRef.ternary, TRef.quaternary, nullary_writes, unary_writes, binary_writes, ternary_writes, quaternary_writes, reshape_writes, Finset.singleton_subset_iff, List.mem_toFinset]
  (repeat' apply And.intro) <;> exact List.mem_map_of_mem (by decide)

theorem forall_app {α : Type} {p : α → Prop} {a b : List α} (ha : a.Forall p) (hb : b.Forall p) : (a ++ b).Forall p := by
  rw [List.forall_iff_forall_mem] at *
  intro x hx
  rcases List.mem_append.1 hx with h | h
  exacts [ha x h, hb x h]

theorem ops_sub : (ops : List (HloOp τ sig (Elt F))).Forall fun op => op.bufs ⊆ tcRefs τ sig :=
  forall_app c1_sub (forall_app c2_sub (forall_app c3_sub (forall_app c4_sub (forall_app c5_sub (forall_app c6_sub (forall_app c7_sub (forall_app c8_sub (forall_app c9_sub (forall_app c10_sub (forall_app c11_sub (forall_app c12_sub (forall_app c13_sub (forall_app c14_sub (c15_sub))))))))))))))

theorem ops_fresh : ∀ op ∈ (ops : List (HloOp τ sig (Elt F))), op.fresh = ∅ :=
  List.forall_iff_forall_mem.1 (forall_app c1_fresh (forall_app c2_fresh (forall_app c3_fresh (forall_app c4_fresh (forall_app c5_fresh (forall_app c6_fresh (forall_app c7_fresh (forall_app c8_fresh (forall_app c9_fresh (forall_app c10_fresh (forall_app c11_fresh (forall_app c12_fresh (forall_app c13_fresh (forall_app c14_fresh (c15_fresh)))))))))))))))

/-- The arguments and the results' buffers: what the claim speaks of. -/
abbrev Keeps (r : Ref sig .tc) : Prop :=
  r ∉ c1_W ∧ r ∉ c2_W ∧ r ∉ c3_W ∧ r ∉ c4_W ∧ r ∉ c5_W ∧ r ∉ c6_W ∧ r ∉ c7_W ∧ r ∉ c8_W ∧ r ∉ c9_W ∧ r ∉ c10_W ∧ r ∉ c11_W ∧ r ∉ c12_W ∧ r ∉ c13_W ∧ r ∉ c14_W ∧ r ∉ c15_W

/-- A buffer none of the stretches writes keeps its contents. -/
theorem ops_keep {r : Ref sig .tc} (h : Keeps r) (V : Valuation τ sig (Elt F)) :
    after ops V (Proc.devRef .tc r) = V (Proc.devRef .tc r) := by
  obtain ⟨h1, h2, h3, h4, h5, h6, h7, h8, h9, h10, h11, h12, h13, h14, h15⟩ := h
  simp only [ops, after_append]
  rw [after_of_writes_sub c15 _ c15_writes h15, after_of_writes_sub c14 _ c14_writes h14, after_of_writes_sub c13 _ c13_writes h13, after_of_writes_sub c12 _ c12_writes h12, after_of_writes_sub c11 _ c11_writes h11, after_of_writes_sub c10 _ c10_writes h10, after_of_writes_sub c9 _ c9_writes h9, after_of_writes_sub c8 _ c8_writes h8, after_of_writes_sub c7 _ c7_writes h7, after_of_writes_sub c6 _ c6_writes h6, after_of_writes_sub c5 _ c5_writes h5, after_of_writes_sub c4 _ c4_writes h4, after_of_writes_sub c3 _ c3_writes h3, after_of_writes_sub c2 _ c2_writes h2, after_of_writes_sub c1 _ c1_writes h1]

/-- Every execution of the reference ends with each buffer at what its operations leave there, and zero counters' worth
    of memory read at the arguments unchanged. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ fun _ => ops_fresh

end Cert.RefRun
-- ==== Proof.RefConv1.lean ====
module

public import proofs.«01_k».proof.Proof.RefRun
public import proofs.«01_k».proof.Proof.Spec
public import Idealize.ShloMosaic.Lib.Pointwise

@[expose] public section

noncomputable section

namespace Cert.RefVal

open Cert.ReferenceIdeal Cert.ReferenceIdeal.Gen Idealize.ShloMosaic Idealize.ShloMosaic.TcCoe Idealize.SL.Sem Idealize.ShloMosaic.StableHlo
open Cert.RefRun Cert.Spec

/-- The first convolution's input with its border of zeros. -/
theorem pad_img (x : S4x3x224x224.Idx → EReal) (f : ℕ → ℕ → ℕ → ℕ → ℝ)
    (hx : ∀ (b : Fin 4) (c : Fin 3) (y x' : Fin 224), x (ix4 b c y x') = ((f b c y x' : ℝ) : EReal))
    (b : Fin 4) (c : Fin 3) (y x' : Fin 226) :
    pad S4x3x226x226 ![0, 0, 1, 1] ![0, 0, 1, 1] ![0, 0, 0, 0] x (sitofp (F := Ideal) .f32 (constantI S_ 32 0#32)) pads_S4x3x224x224_S4x3x226x226_000_000_110_110 h_S_ (ix4 b c y x')
      = ((pad1 (f b c) y x' : ℝ) : EReal) := by
  pointwise
  unfold pad1
  split_ifs with h1 h2 h2
  · exact hx b c ⟨y - 1, _⟩ ⟨x' - 1, _⟩
  · omega
  · omega
  · show (((0#32 : BitVec 32).toInt : ℝ) : EReal) = _
    simp

theorem tap1 (p : S4x3x226x226.Idx → EReal) (w : S64x3x3x3.Idx → EReal) (P : ℕ → ℕ → ℕ → ℕ → ℝ) (W : ℕ → ℕ → ℕ → ℕ → ℝ)
    (hp : ∀ (b : Fin 4) (c : Fin 3) (y x : Fin 226), p (ix4 b c y x) = ((P b c y x : ℝ) : EReal))
    (hw : ∀ (o : Fin 64) (c : Fin 3) (y x : Fin 3), w (ix4 o c y x) = ((W o c y x : ℝ) : EReal))
    (ky kx : ℕ) (h1 : S4x3x226x226.Slices ![0, 0, ky, kx] S4x3x224x224) (h2 : S64x3x3x3.Slices ![0, 0, ky, kx] S64x3x1x1)
    (h3) (h4) (b : Fin 4) (o : Fin 64) (y x : Fin 224) :
    (transpose S4x64x224x224 [1, 0, 2, 3] (Host.dotGeneral (F := Ideal) (φ₁ := .f32) (φ₂ := .f32) dot_S64x3_S4x3x224x224_S64x4x224x224_1_1_0_023_n_n none
        (shapeCast S64x3 (extractStridedSlice S64x3x1x1 ![0, 0, ky, kx] w h2) h3) (extractStridedSlice S4x3x224x224 ![0, 0, ky, kx] p h1)) h4) (ix4 b o y x)
      = (((∑ c ∈ Finset.range 3, P b c (y + ky) (x + kx) * W o c ky kx : ℝ)) : EReal) := by
  pointwise
  rw [← coe_sum, ← Fin.sum_univ_eq_sum_range (fun c => (((P b c (y + ky) (x + kx) * W o c ky kx : ℝ)) : EReal)) 3]
  refine Finset.sum_congr rfl fun c _ => ?_
  rw [hw, hp, mul_comm, EReal.coe_mul]
  simp only [Nat.add_comm]

/-- One tap's term. -/
abbrev term (n : ℕ) (P W : ℕ → ℕ → ℕ → ℕ → ℝ) (b o y x ky kx : ℕ) : ℝ :=
  ∑ c ∈ Finset.range n, P b c (y + ky) (x + kx) * W o c ky kx

theorem c1_v0 (V : Valuation τ sig (Elt Ideal)) (f : ℕ → ℕ → ℕ → ℕ → ℝ)
    (hx : ∀ (b : Fin 4) (c : Fin 3) (y x : Fin 224), V (Proc.devRef .tc main_arg0) (ix4 b c y x) = ((f b c y x : ℝ) : EReal))
    (b : Fin 4) (c : Fin 3) (y x : Fin 226) :
    after c1 V (Proc.devRef .tc main_v0) (ix4 b c y x) = ((pad1 (f b c) y x : ℝ) : EReal) := by
  simp only [c1, TRef.binary, TRef.nullary, TRef.ternary, TRef.unary, TRef.toBuf, TRef.ofBuf, cast_eq]
  after_results_simp
  exact pad_img _ f hx b c y x

theorem c1_v25 (V : Valuation τ sig (Elt Ideal)) (f W : ℕ → ℕ → ℕ → ℕ → ℝ)
    (hx : ∀ (b : Fin 4) (c : Fin 3) (y x : Fin 224), V (Proc.devRef .tc main_arg0) (ix4 b c y x) = ((f b c y x : ℝ) : EReal))
    (hw : ∀ (o : Fin 64) (c : Fin 3) (y x : Fin 3), V (Proc.devRef .tc main_arg1) (ix4 o c y x) = ((W o c y x : ℝ) : EReal))
    (b : Fin 4) (o : Fin 64) (y x : Fin 224) :
    after c1 V (Proc.devRef .tc main_v25) (ix4 b o y x)
      = ((term 3 (fun b c => pad1 (f b c)) W b o y x 0 0 + term 3 (fun b c => pad1 (f b c)) W b o y x 0 1
          + term 3 (fun b c => pad1 (f b c)) W b o y x 0 2 + term 3 (fun b c => pad1 (f b c)) W b o y x 1 0 : ℝ) : EReal) := by
  simp only [c1, TRef.binary, TRef.nullary, TRef.ternary, TRef.unary, TRef.toBuf, TRef.ofBuf, cast_eq]
  after_results_simp
  have hp := pad_img _ f hx
  refine (Ideal.add_congr (Ideal.add_congr (Ideal.add_congr (Ideal.add_congr Ideal.ofBits_zero_f32
    (tap1 _ _ (fun b c => pad1 (f b c)) W hp hw 0 0 _ _ _ _ b o y x)) (tap1 _ _ (fun b c => pad1 (f b c)) W hp hw 0 1 _ _ _ _ b o y x)) (tap1 _ _ (fun b c => pad1 (f b c)) W hp hw 0 2 _ _ _ _ b o y x))
    (tap1 _ _ (fun b c => pad1 (f b c)) W hp hw 1 0 _ _ _ _ b o y x)).trans ?_
  rw [zero_add, ← EReal.coe_add, ← EReal.coe_add, ← EReal.coe_add]

theorem c2_v55 (V : Valuation τ sig (Elt Ideal)) (P W : ℕ → ℕ → ℕ → ℕ → ℝ) (G : ℕ → ℕ → ℕ → ℕ → ℝ)
    (hp : ∀ (b : Fin 4) (c : Fin 3) (y x : Fin 226), V (Proc.devRef .tc main_v0) (ix4 b c y x) = ((P b c y x : ℝ) : EReal))
    (hw : ∀ (o : Fin 64) (c : Fin 3) (y x : Fin 3), V (Proc.devRef .tc main_arg1) (ix4 o c y x) = ((W o c y x : ℝ) : EReal))
    (hg : ∀ (b : Fin 4) (o : Fin 64) (y x : Fin 224), V (Proc.devRef .tc main_v25) (ix4 b o y x) = ((G b o y x : ℝ) : EReal))
    (b : Fin 4) (o : Fin 64) (y x : Fin 224) :
    after c2 V (Proc.devRef .tc main_v55) (ix4 b o y x)
      = ((G b o y x + term 3 P W b o y x 1 1 + term 3 P W b o y x 1 2 + term 3 P W b o y x 2 0 + term 3 P W b o y x 2 1
          + term 3 P W b o y x 2 2 : ℝ) : EReal) := by
  simp only [c2, TRef.binary, TRef.nullary, TRef.ternary, TRef.unary, TRef.toBuf, TRef.ofBuf, cast_eq]
  after_results_simp
  refine (Ideal.add_congr (Ideal.add_congr (Ideal.add_congr (Ideal.add_congr (Ideal.add_congr (hg b o y x)
    (tap1 _ _ _ W hp hw 1 1 _ _ _ _ b o y x)) (tap1 _ _ _ W hp hw 1 2 _ _ _ _ b o y x)) (tap1 _ _ _ W hp hw 2 0 _ _ _ _ b o y x))
    (tap1 _ _ _ W hp hw 2 1 _ _ _ _ b o y x)) (tap1 _ _ _ W hp hw 2 2 _ _ _ _ b o y x)).trans ?_
  rw [← EReal.coe_add, ← EReal.coe_add, ← EReal.coe_add, ← EReal.coe_add, ← EReal.coe_add]

theorem c2_v57 (V : Valuation τ sig (Elt Ideal)) (c : ℕ → ℝ)
    (hc : ∀ o : Fin 64, V (Proc.devRef .tc main_arg2) (ix1 o) = ((c o : ℝ) : EReal)) (b : Fin 4) (o : Fin 64) (y x : Fin 224) :
    after c2 V (Proc.devRef .tc main_v57) (ix4 b o y x) = ((c o : ℝ) : EReal) := by
  simp only [c2, TRef.binary, TRef.nullary, TRef.ternary, TRef.unary, TRef.toBuf, TRef.ofBuf, cast_eq]
  after_results_simp
  pointwise
  exact hc o

theorem term_sum (n : ℕ) (img : ℕ → ℕ → ℕ → ℕ → ℝ) (W : ℕ → ℕ → ℕ → ℕ → ℝ) (b o y x : ℕ) :
    term n (fun b c => pad1 (img b c)) W b o y x 0 0 + term n (fun b c => pad1 (img b c)) W b o y x 0 1
        + term n (fun b c => pad1 (img b c)) W b o y x 0 2 + term n (fun b c => pad1 (img b c)) W b o y x 1 0
        + term n (fun b c => pad1 (img b c)) W b o y x 1 1 + term n (fun b c => pad1 (img b c)) W b o y x 1 2
        + term n (fun b c => pad1 (img b c)) W b o y x 2 0 + term n (fun b c => pad1 (img b c)) W b o y x 2 1
        + term n (fun b c => pad1 (img b c)) W b o y x 2 2
      = conv n (img b) (W o) y x := by
  simp only [conv, Finset.sum_range_succ, Finset.sum_range_zero (fun _ => _), Finset.range_zero, Finset.sum_empty, zero_add]
  simp only [term, add_assoc]

end Cert.RefVal
-- ==== Proof.RefOps.lean ====
/- Operations of the reference read at an index: sums over an image's pixels, the 2 × 2 maximum, the position of the
   first smallest element. -/
module

public import proofs.«01_k».proof.Proof.RefRun
public import proofs.«01_k».proof.Proof.Spec
public import Idealize.ShloMosaic.Lib.Pointwise

@[expose] public section

noncomputable section

namespace Cert.RefVal

open Idealize.ShloMosaic Idealize.ShloMosaic.TcCoe Idealize.SL.Sem Idealize.ShloMosaic.StableHlo
open Cert.Spec

theorem sum_pixels (f : ℕ → ℕ → ℕ → ℝ) :
    ∑ k : Fin 4 × Fin 224 × Fin 224, ((f k.1 k.2.1 k.2.2 : ℝ) : EReal) = ((tot f : ℝ) : EReal) := by
  rw [coe_sum]
  simp only [tot, Finset.sum_range, Fintype.sum_prod_type]

/-- The sum of one channel over all images and pixels. -/
theorem sum_channel {C : ℕ} (h : (⟨4, ![4, C, 224, 224]⟩ : Shape).ReducesTo [0, 2, 3] ⟨1, ![C]⟩)
    (x : (⟨4, ![4, C, 224, 224]⟩ : Shape).Idx → EReal) (f : ℕ → ℕ → ℕ → ℝ) (o : Fin C)
    (hx : ∀ (b : Fin 4) (y x' : Fin 224), x (ix4 b o y x') = ((f b y x' : ℝ) : EReal)) :
    Ideal.hostReduceAdd h x 0 (ix1 o) = ((tot f : ℝ) : EReal) := by
  unfold Ideal.hostReduceAdd
  rw [zero_add, ← sum_pixels]
  refine (Finset.sum_filter_eq_sum_of_fiber (fun i => h.drop i = ix1 o)
    (fun k : Fin 4 × Fin 224 × Fin 224 => (ix4 k.1 o k.2.1 k.2.2 : (⟨4, ![4, C, 224, 224]⟩ : Shape).Idx)) ?_ ?_ x).trans ?_
  · rintro ⟨a, b, c⟩ ⟨a', b', c'⟩ e
    exact Prod.ext (congrFun e 0) (Prod.ext (congrFun e 2) (congrFun e 3))
  · intro i
    constructor
    · intro e
      refine ⟨(i 0, i 2, i 3), ?_⟩
      funext a; apply Fin.ext
      match a with
      | ⟨0, _⟩ => rfl
      | ⟨1, _⟩ => exact (congrArg Fin.val (congrFun e ⟨0, Nat.one_pos⟩)).symm
      | ⟨2, _⟩ => rfl
      | ⟨3, _⟩ => rfl
    · rintro ⟨k, rfl⟩
      funext b
      apply Fin.ext
      match b with
      | ⟨0, _⟩ => rfl
  · exact Finset.sum_congr rfl fun k _ => hx _ _ _

theorem win_at (n : Fin (⟨4, ![1, 1, 2, 2]⟩ : Shape).numel) :
    ((⟨4, ![1, 1, 2, 2]⟩ : Shape).rowMajor.symm n 0).val = 0 ∧ ((⟨4, ![1, 1, 2, 2]⟩ : Shape).rowMajor.symm n 1).val = 0
      ∧ ((⟨4, ![1, 1, 2, 2]⟩ : Shape).rowMajor.symm n 2).val = n.val / 2 ∧ ((⟨4, ![1, 1, 2, 2]⟩ : Shape).rowMajor.symm n 3).val = n.val % 2 := by
  revert n
  decide

theorem fold_four (g : ℕ → EReal) (N : ℕ) (hN : N = 4) :
    List.foldl (fun r (n : Fin N) => max r (g n.val)) ⊥ (List.finRange N) = max (max (max (g 0) (g 1)) (g 2)) (g 3) := by
  subst hN
  show max (max (max (max ⊥ (g 0)) (g 1)) (g 2)) (g 3) = _
  rw [max_eq_right bot_le]

/-- The maximum of 2 × 2 pixels. -/
theorem max_window (x : (⟨4, ![4, 64, 224, 224]⟩ : Shape).Idx → EReal) (f : ℕ → ℕ → ℕ → ℝ) (b : Fin 4) (o : Fin 64)
    (hx : ∀ (y x' : Fin 224), x (ix4 b o y x') = ((f b y x' : ℝ) : EReal)) {u : Shape} (init : u.Idx → EReal)
    (hi : ∀ i, init i = ⊥) (h : (⟨4, ![4, 64, 224, 224]⟩ : Shape).ReduceWindows ![1, 1, 2, 2] ![1, 1, 2, 2] ![0, 0, 0, 0] ![0, 0, 0, 0] ⟨4, ![4, 64, 112, 112]⟩)
    (hu : 0 < u.numel) (py px : Fin 112) :
    Host.reduceWindow max ![1, 1, 2, 2] ![1, 1, 2, 2] ![0, 0, 0, 0] ![0, 0, 0, 0] x init h hu (ix4 b o py px)
      = ((pool (f b) py px : ℝ) : EReal) := by
  have hy := py.isLt
  have hx' := px.isLt
  unfold Host.reduceWindow
  refine (List.foldl_ext _ (fun r n => max r ((f b (2 * py + n.val / 2) (2 * px + n.val % 2) : ℝ) : EReal)) _ (fun r n _ => ?_)).trans ?_
  · obtain ⟨h0, h1, h2, h3⟩ := win_at n
    have hn : n.val < 4 := n.isLt
    dsimp only
    congr 1
    rw [dif_pos]
    · refine (congrArg x (funext fun a => Fin.ext ?_)).trans (hx ⟨2 * py + n.val / 2, by omega⟩ ⟨2 * px + n.val % 2, by omega⟩)
      match a with
      | ⟨0, _⟩ =>
        show b.val * 1 + ((⟨4, ![1, 1, 2, 2]⟩ : Shape).rowMajor.symm n 0).val - 0 = b.val
        omega
      | ⟨1, _⟩ =>
        show o.val * 1 + ((⟨4, ![1, 1, 2, 2]⟩ : Shape).rowMajor.symm n 1).val - 0 = o.val
        omega
      | ⟨2, _⟩ =>
        show py.val * 2 + ((⟨4, ![1, 1, 2, 2]⟩ : Shape).rowMajor.symm n 2).val - 0 = 2 * py.val + n.val / 2
        omega
      | ⟨3, _⟩ =>
        show px.val * 2 + ((⟨4, ![1, 1, 2, 2]⟩ : Shape).rowMajor.symm n 3).val - 0 = 2 * px.val + n.val % 2
        omega
    · intro a
      have hb := b.isLt
      have ho := o.isLt
      match a with
      | ⟨0, _⟩ =>
        show 0 ≤ b.val * 1 + ((⟨4, ![1, 1, 2, 2]⟩ : Shape).rowMajor.symm n 0).val ∧ b.val * 1 + ((⟨4, ![1, 1, 2, 2]⟩ : Shape).rowMajor.symm n 0).val - 0 < 4
        omega
      | ⟨1, _⟩ =>
        show 0 ≤ o.val * 1 + ((⟨4, ![1, 1, 2, 2]⟩ : Shape).rowMajor.symm n 1).val ∧ o.val * 1 + ((⟨4, ![1, 1, 2, 2]⟩ : Shape).rowMajor.symm n 1).val - 0 < 64
        omega
      | ⟨2, _⟩ =>
        show 0 ≤ py.val * 2 + ((⟨4, ![1, 1, 2, 2]⟩ : Shape).rowMajor.symm n 2).val ∧ py.val * 2 + ((⟨4, ![1, 1, 2, 2]⟩ : Shape).rowMajor.symm n 2).val - 0 < 224
        omega
      | ⟨3, _⟩ =>
        show 0 ≤ px.val * 2 + ((⟨4, ![1, 1, 2, 2]⟩ : Shape).rowMajor.symm n 3).val ∧ px.val * 2 + ((⟨4, ![1, 1, 2, 2]⟩ : Shape).rowMajor.symm n 3).val - 0 < 224
        omega
  · rw [hi]
    refine (fold_four (fun n => ((f b (2 * py + n / 2) (2 * px + n % 2) : ℝ) : EReal)) _ (by decide)).trans ?_
    show max (max (max ((f b (2 * py + 0) (2 * px + 0) : ℝ) : EReal) ((f b (2 * py + 0) (2 * px + 1) : ℝ) : EReal))
      ((f b (2 * py + 1) (2 * px + 0) : ℝ) : EReal)) ((f b (2 * py + 1) (2 * px + 1) : ℝ) : EReal) = _
    unfold Spec.pool
    rw [coe_max, coe_max, coe_max, max_assoc (max _ _)]
    rfl

/-- One step of the search for the first smallest. -/
abbrev step := Cert.ReferenceIdeal.reducer_argmin_f32_i32 (F := Ideal)

theorem step_start (a : ℝ) (i : BitVec 32) : step (⊤, 0#32) (((a : ℝ) : EReal), i) = (((a : ℝ) : EReal), i) := by
  have h1 : ¬ ((⊤ : EReal) < (a : EReal)) := not_lt.2 le_top
  have h2 : ¬ ((⊤ : EReal) = (a : EReal)) := (EReal.coe_ne_top a).symm
  simp [step, Cert.ReferenceIdeal.reducer_argmin_f32_i32, Ideal.cmpf_def, Ideal.cmp, h1, h2, Scalar.select, IntOp.ori, IntOp.andi, IntOp.cmpi]

theorem toInt_small (i : ℕ) (hi : i < 1024) : (BitVec.ofNat 32 i).toInt = i := by
  have h : (BitVec.ofNat 32 i).toNat = i := by rw [BitVec.toNat_ofNat]; omega
  rw [BitVec.toInt_eq_toNat_of_lt (by omega), h]

theorem step_coe (a b : ℝ) (i j : ℕ) (hi : i < 1024) (hj : j < 1024) :
    step (((a : ℝ) : EReal), BitVec.ofNat 32 i) (((b : ℝ) : EReal), BitVec.ofNat 32 j)
      = if a < b ∨ a = b ∧ i < j then (((a : ℝ) : EReal), BitVec.ofNat 32 i) else if a = b then (((a : ℝ) : EReal), BitVec.ofNat 32 j) else (((b : ℝ) : EReal), BitVec.ofNat 32 j) := by
  have hlt : (BitVec.ofNat 32 i).slt (BitVec.ofNat 32 j) = decide (i < j) := by
    rw [BitVec.slt_eq_decide, toInt_small i hi, toInt_small j hj]
    simp
  rcases lt_trichotomy a b with h | h | h
  · simp [step, Cert.ReferenceIdeal.reducer_argmin_f32_i32, Ideal.cmpf_def, Ideal.cmp, Scalar.select, IntOp.ori, IntOp.andi, IntOp.cmpi, hlt, h, h.ne]
  · subst h
    by_cases hij : i < j
    · simp [step, Cert.ReferenceIdeal.reducer_argmin_f32_i32, Ideal.cmpf_def, Ideal.cmp, Scalar.select, IntOp.ori, IntOp.andi, IntOp.cmpi, hlt, hij]
    · simp [step, Cert.ReferenceIdeal.reducer_argmin_f32_i32, Ideal.cmpf_def, Ideal.cmp, Scalar.select, IntOp.ori, IntOp.andi, IntOp.cmpi, hlt, hij]
  · simp [step, Cert.ReferenceIdeal.reducer_argmin_f32_i32, Ideal.cmpf_def, Ideal.cmp, Scalar.select, IntOp.ori, IntOp.andi, IntOp.cmpi, hlt, h.not_gt, h.ne']

theorem fold_step (d : ℕ → ℝ) (k : ℕ) (hk : IsFirstMin d 1024 k) (L : List (EReal × BitVec 32))
    (hL : ∀ p ∈ L, ∃ j < 1024, p = (((d j : ℝ) : EReal), BitVec.ofNat 32 j)) (acc : EReal × BitVec 32)
    (ha : acc = (⊤, 0#32) ∨ ∃ j < 1024, acc = (((d j : ℝ) : EReal), BitVec.ofNat 32 j))
    (hm : acc = (((d k : ℝ) : EReal), BitVec.ofNat 32 k) ∨ (((d k : ℝ) : EReal), BitVec.ofNat 32 k) ∈ L) :
    L.foldl step acc = (((d k : ℝ) : EReal), BitVec.ofNat 32 k) := by
  induction L generalizing acc with
  | nil => simpa using hm
  | cons p L ih =>
    obtain ⟨j, hj, rfl⟩ := hL p List.mem_cons_self
    have hL' := fun q hq => hL q (List.mem_cons_of_mem _ hq)
    rw [List.foldl_cons]
    have hle : ∀ i < 1024, ¬ (d i < d k) := fun i hi => not_lt.2 (hk.le i hi)
    rcases ha with rfl | ⟨i, hi, rfl⟩
    · rw [step_start]
      refine ih hL' _ (Or.inr ⟨j, hj, rfl⟩) ?_
      rcases hm with hm | hm
      · exact absurd (congrArg Prod.fst hm) (EReal.coe_ne_top _).symm
      · rcases List.mem_cons.1 hm with e | e
        · exact Or.inl e.symm
        · exact Or.inr e
    · rw [step_coe _ _ _ _ hi hj]
      have inj : ∀ {i j : ℕ}, i < 1024 → j < 1024 → (((d i : ℝ) : EReal), BitVec.ofNat 32 i) = (((d j : ℝ) : EReal), BitVec.ofNat 32 j) → i = j := by
        intro i j hi hj e
        have e := congrArg BitVec.toNat (congrArg Prod.snd e)
        simpa [Nat.mod_eq_of_lt (show i < 4294967296 by omega), Nat.mod_eq_of_lt (show j < 4294967296 by omega)] using e
      refine ih hL' _ (Or.inr ?_) ?_
      · split_ifs with h1 h2
        · exact ⟨i, hi, rfl⟩
        · exact ⟨j, hj, by rw [h2]⟩
        · exact ⟨j, hj, rfl⟩
      · rcases hm with hm | hm
        · obtain rfl := inj hi hk.lt hm
          left
          split_ifs with h1 h2
          · rfl
          · have : j < i ∨ j = i := by
              rcases Nat.lt_trichotomy i j with h | h | h
              · exact absurd (Or.inr ⟨h2, h⟩) h1
              · exact Or.inr h.symm
              · exact Or.inl h
            rcases this with h | rfl
            · exact absurd h2 (hk.first j h).ne
            · rfl
          · have := lt_of_le_of_ne (hk.le j hj) h2
            exact absurd (Or.inl this) h1
        · rcases List.mem_cons.1 hm with e | e
          · obtain rfl := inj hk.lt hj e
            left
            split_ifs with h1 h2
            · rcases h1 with h1 | ⟨h1, h3⟩
              · exact absurd h1 (hle i hi)
              · exact absurd h1.symm (hk.first i h3).ne
            · rw [h2]
            · rfl
          · exact Or.inr e

/-- The position of the first smallest element of a row. -/
theorem argmin_row (x : (⟨2, ![50176, 1024]⟩ : Shape).Idx → EReal) (d : ℕ → ℝ) (t : Fin 50176)
    (hx : ∀ k : Fin 1024, x (ix2 t k) = ((d k : ℝ) : EReal)) (k : ℕ) (hk : IsFirstMin d 1024 k) {u : Shape} (ix : u.Idx → EReal)
    (hix : ∀ i, ix i = ⊤) (iy : u.Idx → BitVec 32) (hiy : ∀ i, iy i = 0#32)
    (h : (⟨2, ![50176, 1024]⟩ : Shape).ReducesTo [1] ⟨1, ![50176]⟩) (hu : 0 < u.numel) :
    (Host.argReduce (F := Ideal) (φ := .f32) Cert.ReferenceIdeal.reducer_argmin_f32_i32 x (iotaInDim ⟨2, ![50176, 1024]⟩ 32 1) ix iy h hu (ix1 t)).2
      = BitVec.ofNat 32 k := by
  rw [Ideal.argReduce_eq_reduce2, Host.reduce2_eq_foldl_fiber, hix, hiy]
  have hrow : ∀ i, h.drop i = ix1 t ↔ ∃ k : Fin 1024, ix2 t k = i := fun i => h.fiber_r2_a1 (ix1 t) i
  have := fold_step d k hk (Host.argReduceFiber x (iotaInDim ⟨2, ![50176, 1024]⟩ 32 1) h (ix1 t)) ?_ (⊤, 0#32) (Or.inl rfl) (Or.inr ?_)
  · exact congrArg Prod.snd this
  · intro p hp
    obtain ⟨n, hn, rfl⟩ := List.mem_map.1 hp
    obtain ⟨j, hj⟩ := (hrow _).1 (of_decide_eq_true (List.mem_filter.1 hn).2)
    refine ⟨j, j.isLt, ?_⟩
    rw [← hj, hx]
    rfl
  · refine List.mem_map.2 ⟨(⟨2, ![50176, 1024]⟩ : Shape).rowMajor (ix2 t ⟨k, hk.lt⟩), List.mem_filter.2 ⟨List.mem_finRange _, decide_eq_true ?_⟩, ?_⟩
    · rw [Equiv.symm_apply_apply]
      exact (hrow _).2 ⟨_, rfl⟩
    · rw [Equiv.symm_apply_apply, hx]
      rfl

end Cert.RefVal
-- ==== Proof.RefBn1.lean ====
/- The first normalisation of the reference, the rectifier, the pooling and the tokens. -/
module

public import proofs.«01_k».proof.Proof.RefConv1
public import proofs.«01_k».proof.Proof.RefOps

@[expose] public section

noncomputable section

namespace Cert.RefVal

open Cert.ReferenceIdeal Cert.ReferenceIdeal.Gen Idealize.ShloMosaic Idealize.ShloMosaic.TcCoe Idealize.SL.Sem Idealize.ShloMosaic.StableHlo
open Cert.RefRun Cert.Spec

theorem c3_v58 (V : Valuation τ sig (Elt Ideal)) (b : Fin 4) (o : Fin 64) (y x : Fin 224) (h a : ℝ)
    (h55 : V (Proc.devRef .tc main_v55) (ix4 b o y x) = ((h : ℝ) : EReal)) (h57 : V (Proc.devRef .tc main_v57) (ix4 b o y x) = ((a : ℝ) : EReal)) :
    after c3 V (Proc.devRef .tc main_v58) (ix4 b o y x) = ((h + a : ℝ) : EReal) := by
  simp only [c3, TRef.binary, TRef.nullary, TRef.ternary, TRef.unary, TRef.quaternary, TRef.toBuf, TRef.ofBuf, cast_eq]
  after_results_simp
  pointwise
  exact (Ideal.add_congr h55 h57).trans (EReal.coe_add _ _).symm

theorem c3_v59 (V : Valuation τ sig (Elt Ideal)) (o : Fin 64) (h : ℕ → ℕ → ℕ → ℝ) (a : ℝ)
    (h55 : ∀ (b : Fin 4) (y x : Fin 224), V (Proc.devRef .tc main_v55) (ix4 b o y x) = ((h b y x : ℝ) : EReal))
    (h57 : ∀ (b : Fin 4) (y x : Fin 224), V (Proc.devRef .tc main_v57) (ix4 b o y x) = ((a : ℝ) : EReal)) :
    after c3 V (Proc.devRef .tc main_v59) (ix1 o) = ((tot (fun b y x => h b y x + a) : ℝ) : EReal) := by
  simp only [c3, TRef.binary, TRef.nullary, TRef.ternary, TRef.unary, TRef.quaternary, TRef.toBuf, TRef.ofBuf, cast_eq]
  after_results_simp
  pointwise
  exact sum_channel _ _ (fun b y x => h b y x + a) o fun b y x => (Ideal.add_congr (h55 b y x) (h57 b y x)).trans (EReal.coe_add _ _).symm

theorem c4_v62 (V : Valuation τ sig (Elt Ideal)) (o : Fin 64) (f : ℕ → ℕ → ℕ → ℝ) (a : ℝ)
    (h59 : V (Proc.devRef .tc main_v59) (ix1 o) = ((tot (fun b y x => f b y x + a) : ℝ) : EReal)) :
    after c4 V (Proc.devRef .tc main_v62) (ix4 0 o 0 0) = ((mu f + a : ℝ) : EReal) := by
  simp only [c4, TRef.binary, TRef.nullary, TRef.ternary, TRef.unary, TRef.quaternary, TRef.toBuf, TRef.ofBuf, cast_eq]
  after_results_simp
  pointwise
  rw [ofBits_npix, h59]
  refine (div_coe_coe _ _ (by norm_num)).trans ?_
  rw [mu_add]

theorem c4_v63 (V : Valuation τ sig (Elt Ideal)) (o : Fin 64) (f : ℕ → ℕ → ℕ → ℝ) (a : ℝ)
    (h58 : ∀ (b : Fin 4) (y x : Fin 224), V (Proc.devRef .tc main_v58) (ix4 b o y x) = ((f b y x + a : ℝ) : EReal)) :
    after c4 V (Proc.devRef .tc main_v63) (ix4 0 o 0 0) = ((var f : ℝ) : EReal) := by
  simp only [c4, TRef.binary, TRef.nullary, TRef.ternary, TRef.unary, TRef.quaternary, TRef.toBuf, TRef.ofBuf, cast_eq]
  after_results_simp
  pointwise
  have hz : (FloatOps.sitofp (F := Ideal) .f32 (0#32 : BitVec 32) : EReal) = ((0 : ℝ) : EReal) := by
    show (((0#32 : BitVec 32).toInt : ℝ) : EReal) = _
    simp
  have hs := sum_channel reducesTo_S4x64x224x224_S64_d0_2_3 (V (Proc.devRef .tc main_v58)) (fun b y x => f b y x + a) o h58
  rw [hz, ofBits_npix, ← EReal.coe_sub, sub_zero, if_pos (EReal.coe_pos.2 (by norm_num))]
  rw [sum_channel _ _ (fun b y x => (f b y x + a - (mu f + a)) * (f b y x + a - (mu f + a))) o]
  · refine (div_coe_coe _ _ (by norm_num)).trans ?_
    rw [var_centred]
  · intro b y x
    pointwise
    rw [hs, ofBits_npix, h58, div_coe_coe _ _ (by norm_num), mu_add, ← EReal.coe_sub, ← EReal.coe_mul]

theorem bn_term (b : Fin 4) (y x : Fin 224) (f : ℕ → ℕ → ℕ → ℝ) (a g c : ℝ) (X M W G B : EReal)
    (hX : X = ((f b y x + a : ℝ) : EReal)) (hM : M = ((mu f + a : ℝ) : EReal)) (hW : W = ((var f : ℝ) : EReal)) (hG : G = ((g : ℝ) : EReal)) (hB : B = ((c : ℝ) : EReal)) :
    Ideal.div (X - M) (Ideal.sqrt (W + Ideal.ofBits .f32 0x3727C5AC#32)) * G + B = ((bn f g c b y x : ℝ) : EReal) := by
  have hs : Ideal.sqrt (((var f + eps : ℝ)) : EReal) = ((Real.sqrt (var f + eps) : ℝ) : EReal) := by
    show (if var f + eps < 0 then (⊥ : EReal) else _) = _
    rw [if_neg (not_lt.2 (var_eps_pos f).le)]
  rw [hX, hM, hW, hG, hB, ofBits_eps, ← EReal.coe_sub, ← EReal.coe_add, hs, div_coe_coe _ _ (sqrt_pos f).ne', ← EReal.coe_mul, ← EReal.coe_add, bn_div]

theorem c5_v81 (V : Valuation τ sig (Elt Ideal)) (t : Fin 50176) (o : Fin 64) (f : ℕ → ℕ → ℕ → ℝ) (a g c : ℝ)
    (h58 : ∀ (b : Fin 4) (y x : Fin 224), V (Proc.devRef .tc main_v58) (ix4 b o y x) = ((f b y x + a : ℝ) : EReal))
    (h62 : V (Proc.devRef .tc main_v62) (ix4 0 o 0 0) = ((mu f + a : ℝ) : EReal)) (h63 : V (Proc.devRef .tc main_v63) (ix4 0 o 0 0) = ((var f : ℝ) : EReal))
    (hg : V (Proc.devRef .tc main_arg3) (ix1 o) = ((g : ℝ) : EReal)) (hb : V (Proc.devRef .tc main_arg4) (ix1 o) = ((c : ℝ) : EReal)) :
    after c5 V (Proc.devRef .tc main_v81) (ix2 t o) = ((pool (fun y x => max (bn f g c (t.val / 12544) y x) 0) (t.val % 12544 / 112) (t.val % 112) : ℝ) : EReal) := by
  simp only [c5, TRef.binary, TRef.nullary, TRef.ternary, TRef.unary, TRef.quaternary, TRef.toBuf, TRef.ofBuf, cast_eq]
  after_results_simp
  pointwise
  refine (max_window _ (fun b y x => max (bn f g c b y x) 0) ⟨t.val / 12544, _⟩ o ?_ _ ?_ _ _ ⟨t.val / 112 % 112, _⟩ ⟨t.val % 112, _⟩).trans ?_
  · intro y x
    pointwise
    rw [bn_term ⟨t.val / 12544, by have := t.isLt; omega⟩ y x f a g c _ _ _ _ _ (h58 _ _ _) h62 h63 hg hb, ← coe_max, EReal.coe_zero]
  · intro i
    exact ofBits_bot
  · show ((pool (fun y x => max (bn f g c (t.val / 12544) y x) 0) (t.val / 112 % 112) (t.val % 112) : ℝ) : EReal) = _
    rw [show t.val / 112 % 112 = t.val % 12544 / 112 by omega]

end Cert.RefVal
-- ==== Proof.RefConv2.lean ====
/- The second convolution of the reference, its normalisation and the output. -/
module

public import proofs.«01_k».proof.Proof.RefConv1
public import proofs.«01_k».proof.Proof.RefBn1

@[expose] public section

noncomputable section

namespace Cert.RefVal

open Cert.ReferenceIdeal Cert.ReferenceIdeal.Gen Idealize.ShloMosaic Idealize.ShloMosaic.TcCoe Idealize.SL.Sem Idealize.ShloMosaic.StableHlo
open Cert.RefRun Cert.Spec

/-- The image of doubled size with its border of zeros. -/
theorem c10_v111 (V : Valuation τ sig (Elt Ideal)) (q : ℕ → ℕ → ℕ → ℕ → ℝ)
    (hq : ∀ (b : Fin 4) (d : Fin 64) (py px : Fin 112), V (Proc.devRef .tc main_v106) (ix4 b d py px) = ((q b d py px : ℝ) : EReal))
    (b : Fin 4) (d : Fin 64) (y x : Fin 226) :
    after c10 V (Proc.devRef .tc main_v111) (ix4 b d y x) = ((pad1 (fun y x => q b d (y / 2) (x / 2)) y x : ℝ) : EReal) := by
  simp only [c10, TRef.binary, TRef.nullary, TRef.ternary, TRef.unary, TRef.quaternary, TRef.toBuf, TRef.ofBuf, cast_eq]
  after_results_simp
  pointwise
  by_cases hc : 1 ≤ y.val ∧ y.val ≤ 224 ∧ 1 ≤ x.val ∧ x.val ≤ 224
  · have e : pad1 (fun y x => q b d (y / 2) (x / 2)) y x = q b d ((y.val - 1) / 2) ((x.val - 1) / 2) := if_pos hc
    have h : (1 ≤ y.val ∧ y.val - 1 < 224) ∧ 1 ≤ x.val ∧ x.val - 1 < 224 := by omega
    refine (dif_pos h).trans (Eq.trans ?_ (congrArg (fun r : ℝ => (r : EReal)) e.symm))
    exact hq b d ⟨(y.val - 1) / 2, by omega⟩ ⟨(x.val - 1) / 2, by omega⟩
  · have e : pad1 (fun y x => q b d (y / 2) (x / 2)) y x = 0 := if_neg hc
    have h : ¬ ((1 ≤ y.val ∧ y.val - 1 < 224) ∧ 1 ≤ x.val ∧ x.val - 1 < 224) := by omega
    refine (dif_neg h).trans (Eq.trans ?_ (congrArg (fun r : ℝ => (r : EReal)) e.symm))
    show (((0#32 : BitVec 32).toInt : ℝ) : EReal) = ((0 : ℝ) : EReal)
    simp

theorem tap2 (p : S4x64x226x226.Idx → EReal) (w : S3x64x3x3.Idx → EReal) (P : ℕ → ℕ → ℕ → ℕ → ℝ) (W : ℕ → ℕ → ℕ → ℕ → ℝ)
    (hp : ∀ (b : Fin 4) (c : Fin 64) (y x : Fin 226), p (ix4 b c y x) = ((P b c y x : ℝ) : EReal))
    (hw : ∀ (o : Fin 3) (c : Fin 64) (y x : Fin 3), w (ix4 o c y x) = ((W o c y x : ℝ) : EReal))
    (ky kx : ℕ) (h1 : S4x64x226x226.Slices ![0, 0, ky, kx] S4x64x224x224) (h2 : S3x64x3x3.Slices ![0, 0, ky, kx] S3x64x1x1)
    (h3) (h4) (b : Fin 4) (o : Fin 3) (y x : Fin 224) :
    (transpose S4x3x224x224 [1, 0, 2, 3] (Host.dotGeneral (F := Ideal) (φ₁ := .f32) (φ₂ := .f32) dot_S3x64_S4x64x224x224_S3x4x224x224_1_1_0_023_n_n none
        (shapeCast S3x64 (extractStridedSlice S3x64x1x1 ![0, 0, ky, kx] w h2) h3) (extractStridedSlice S4x64x224x224 ![0, 0, ky, kx] p h1)) h4) (ix4 b o y x)
      = ((term 64 P W b o y x ky kx : ℝ) : EReal) := by
  pointwise
  rw [← coe_sum, ← Fin.sum_univ_eq_sum_range (fun c => (((P b c (y + ky) (x + kx) * W o c ky kx : ℝ)) : EReal)) 64]
  refine Finset.sum_congr rfl fun c _ => ?_
  rw [hw, hp, mul_comm, EReal.coe_mul]
  simp only [Nat.add_comm]

section
variable (V : Valuation τ sig (Elt Ideal)) (P W : ℕ → ℕ → ℕ → ℕ → ℝ)
  (hp : ∀ (b : Fin 4) (c : Fin 64) (y x : Fin 226), V (Proc.devRef .tc main_v111) (ix4 b c y x) = ((P b c y x : ℝ) : EReal))
  (hw : ∀ (o : Fin 3) (c : Fin 64) (y x : Fin 3), V (Proc.devRef .tc main_arg6) (ix4 o c y x) = ((W o c y x : ℝ) : EReal))
include hp hw

theorem c11_v136 (b : Fin 4) (o : Fin 3) (y x : Fin 224) :
    after c11 V (Proc.devRef .tc main_v136) (ix4 b o y x)
      = ((term 64 P W b o y x 0 0 + term 64 P W b o y x 0 1 + term 64 P W b o y x 0 2 + term 64 P W b o y x 1 0 : ℝ) : EReal) := by
  simp only [c11, TRef.binary, TRef.nullary, TRef.ternary, TRef.unary, TRef.quaternary, TRef.toBuf, TRef.ofBuf, cast_eq]
  after_results_simp
  refine (Ideal.add_congr (Ideal.add_congr (Ideal.add_congr (Ideal.add_congr Ideal.ofBits_zero_f32
    (tap2 _ _ P W hp hw 0 0 _ _ _ _ b o y x)) (tap2 _ _ P W hp hw 0 1 _ _ _ _ b o y x)) (tap2 _ _ P W hp hw 0 2 _ _ _ _ b o y x))
    (tap2 _ _ P W hp hw 1 0 _ _ _ _ b o y x)).trans ?_
  rw [zero_add, ← EReal.coe_add, ← EReal.coe_add, ← EReal.coe_add]

theorem c11_v141 (b : Fin 4) (o : Fin 3) (y x : Fin 224) :
    after c11 V (Proc.devRef .tc main_v141) (ix4 b o y x) = ((term 64 P W b o y x 1 1 : ℝ) : EReal) := by
  simp only [c11, TRef.binary, TRef.nullary, TRef.ternary, TRef.unary, TRef.quaternary, TRef.toBuf, TRef.ofBuf, cast_eq]
  after_results_simp
  exact tap2 _ _ P W hp hw 1 1 _ _ _ _ b o y x

theorem c12_v160 (G H : ℕ → ℕ → ℕ → ℕ → ℝ)
    (hg : ∀ (b : Fin 4) (o : Fin 3) (y x : Fin 224), V (Proc.devRef .tc main_v136) (ix4 b o y x) = ((G b o y x : ℝ) : EReal))
    (hh : ∀ (b : Fin 4) (o : Fin 3) (y x : Fin 224), V (Proc.devRef .tc main_v141) (ix4 b o y x) = ((H b o y x : ℝ) : EReal))
    (b : Fin 4) (o : Fin 3) (y x : Fin 224) :
    after c12 V (Proc.devRef .tc main_v160) (ix4 b o y x)
      = ((G b o y x + H b o y x + term 64 P W b o y x 1 2 + term 64 P W b o y x 2 0 + term 64 P W b o y x 2 1 : ℝ) : EReal) := by
  simp only [c12, TRef.binary, TRef.nullary, TRef.ternary, TRef.unary, TRef.quaternary, TRef.toBuf, TRef.ofBuf, cast_eq]
  after_results_simp
  refine (Ideal.add_congr (Ideal.add_congr (Ideal.add_congr (Ideal.add_congr (hg b o y x) (hh b o y x))
    (tap2 _ _ P W hp hw 1 2 _ _ _ _ b o y x)) (tap2 _ _ P W hp hw 2 0 _ _ _ _ b o y x)) (tap2 _ _ P W hp hw 2 1 _ _ _ _ b o y x)).trans ?_
  rw [← EReal.coe_add, ← EReal.coe_add, ← EReal.coe_add, ← EReal.coe_add]

/-- The last tap, before its channel axis moves into place. -/
theorem c12_v164 (b : Fin 4) (o : Fin 3) (y x : Fin 224) :
    after c12 V (Proc.devRef .tc main_v164) (ix4 o b y x) = ((term 64 P W b o y x 2 2 : ℝ) : EReal) := by
  simp only [c12, TRef.binary, TRef.nullary, TRef.ternary, TRef.unary, TRef.quaternary, TRef.toBuf, TRef.ofBuf, cast_eq]
  after_results_simp
  refine Eq.trans ?_ (tap2 _ _ P W hp hw 2 2 slices_S4x64x226x226_S4x64x224x224_0_0_2_2 slices_S3x64x3x3_S3x64x1x1_0_0_2_2
    shapeCasts_S3x64x1x1_S3x64 transposes_S3x4x224x224_S4x3x224x224_1_0_2_3 b o y x)
  pointwise

end

theorem c13_v169 (V : Valuation τ sig (Elt Ideal)) (b : Fin 4) (o : Fin 3) (y x : Fin 224) (g t a : ℝ)
    (h160 : V (Proc.devRef .tc main_v160) (ix4 b o y x) = ((g : ℝ) : EReal)) (h164 : V (Proc.devRef .tc main_v164) (ix4 o b y x) = ((t : ℝ) : EReal))
    (h7 : V (Proc.devRef .tc main_arg7) (ix1 o) = ((a : ℝ) : EReal)) :
    after c13 V (Proc.devRef .tc main_v169) (ix4 b o y x) = ((g + t + a : ℝ) : EReal) := by
  simp only [c13, TRef.binary, TRef.nullary, TRef.ternary, TRef.unary, TRef.quaternary, TRef.toBuf, TRef.ofBuf, cast_eq]
  after_results_simp
  pointwise
  rw [h160, h164, h7, ← EReal.coe_add, ← EReal.coe_add]

section
variable (V : Valuation τ sig (Elt Ideal)) (o : Fin 3) (f : ℕ → ℕ → ℕ → ℝ) (a : ℝ)
  (h169 : ∀ (b : Fin 4) (y x : Fin 224), V (Proc.devRef .tc main_v169) (ix4 b o y x) = ((f b y x + a : ℝ) : EReal))
include h169

theorem c14_v173 : after c14 V (Proc.devRef .tc main_v173) (ix4 0 o 0 0) = ((mu f + a : ℝ) : EReal) := by
  simp only [c14, TRef.binary, TRef.nullary, TRef.ternary, TRef.unary, TRef.quaternary, TRef.toBuf, TRef.ofBuf, cast_eq]
  after_results_simp
  pointwise
  rw [sum_channel _ _ (fun b y x => f b y x + a) o h169, ofBits_npix]
  refine (div_coe_coe _ _ (by norm_num)).trans ?_
  rw [mu_add]

theorem c14_v12 : after c14 V (Proc.devRef .tc main_call6_v12) (ix4 0 o 0 0) = ((var f : ℝ) : EReal) := by
  simp only [c14, TRef.binary, TRef.nullary, TRef.ternary, TRef.unary, TRef.quaternary, TRef.toBuf, TRef.ofBuf, cast_eq]
  after_results_simp
  pointwise
  have hz : (FloatOps.sitofp (F := Ideal) .f32 (0#32 : BitVec 32) : EReal) = ((0 : ℝ) : EReal) := by
    show (((0#32 : BitVec 32).toInt : ℝ) : EReal) = _
    simp
  have hs := sum_channel reducesTo_S4x3x224x224_S3_d0_2_3 (V (Proc.devRef .tc main_v169)) (fun b y x => f b y x + a) o h169
  rw [hz, ofBits_npix, ← EReal.coe_sub, sub_zero]
  rw [sum_channel _ _ (fun b y x => (f b y x + a - (mu f + a)) * (f b y x + a - (mu f + a))) o]
  · refine (div_coe_coe _ _ (by norm_num)).trans ?_
    rw [var_centred]
  · intro b y x
    pointwise
    rw [hs, ofBits_npix, h169, div_coe_coe _ _ (by norm_num), mu_add, ← EReal.coe_sub, ← EReal.coe_mul]

omit h169 in
theorem c14_v13 : after c14 V (Proc.devRef .tc main_call6_v13) ix0 = 1#1 := by
  simp only [c14, TRef.binary, TRef.nullary, TRef.ternary, TRef.unary, TRef.quaternary, TRef.toBuf, TRef.ofBuf, cast_eq]
  after_results_simp
  pointwise
  have hz : (FloatOps.sitofp (F := Ideal) .f32 (0#32 : BitVec 32) : EReal) = ((0 : ℝ) : EReal) := by
    show (((0#32 : BitVec 32).toInt : ℝ) : EReal) = _
    simp
  rw [hz, ofBits_npix, ← EReal.coe_sub, sub_zero]
  have h : (0 : EReal) < ((200704 : ℝ) : EReal) := EReal.coe_pos.2 (by norm_num)
  rw [decide_eq_true h]
  rfl

end

theorem c15_v188 (V : Valuation τ sig (Elt Ideal)) (b : Fin 4) (o : Fin 3) (y x : Fin 224) (f : ℕ → ℕ → ℕ → ℝ) (a g c : ℝ)
    (h169 : V (Proc.devRef .tc main_v169) (ix4 b o y x) = ((f b y x + a : ℝ) : EReal))
    (h173 : V (Proc.devRef .tc main_v173) (ix4 0 o 0 0) = ((mu f + a : ℝ) : EReal))
    (h12 : V (Proc.devRef .tc main_call6_v12) (ix4 0 o 0 0) = ((var f : ℝ) : EReal)) (h13 : V (Proc.devRef .tc main_call6_v13) ix0 = 1#1)
    (hg : V (Proc.devRef .tc main_arg8) (ix1 o) = ((g : ℝ) : EReal)) (hb : V (Proc.devRef .tc main_arg9) (ix1 o) = ((c : ℝ) : EReal)) :
    after c15 V (Proc.devRef .tc main_v188) (ix4 b o y x) = ((Real.tanh (bn f g c b y x) : ℝ) : EReal) := by
  simp only [c15, TRef.binary, TRef.nullary, TRef.ternary, TRef.unary, TRef.quaternary, TRef.toBuf, TRef.ofBuf, cast_eq]
  after_results_simp
  pointwise
  have hs : ∀ a b : EReal, Scalar.select (1#1) a b = a := fun _ _ => rfl
  rw [h13, hs, bn_term b y x f a g c _ _ _ _ _ h169 h173 h12 hg hb]
  rfl

theorem c15_v189 (V : Valuation τ sig (Elt Ideal)) (b : Fin 4) (y x : Fin 112) (n : ℕ → BitVec 32)
    (h : ∀ t : Fin 50176, V (Proc.devRef .tc main_v96) (ix1 t) = n t) :
    after c15 V (Proc.devRef .tc main_v189) (ix3 b y x) = n (b * 12544 + y * 112 + x) := by
  simp only [c15, TRef.binary, TRef.nullary, TRef.ternary, TRef.unary, TRef.quaternary, TRef.toBuf, TRef.ofBuf, cast_eq]
  after_results_simp
  pointwise
  exact h _

end Cert.RefVal
-- ==== Proof.RefVq.lean ====
/- The reference's nearest codeword, its index, and the loss. -/
module

public import proofs.«01_k».proof.Proof.RefOps
public import Idealize.ShloMosaic.Lib.Routing.Ops

@[expose] public section

noncomputable section

namespace Cert.RefVal

open Cert.ReferenceIdeal Cert.ReferenceIdeal.Gen Idealize.ShloMosaic Idealize.ShloMosaic.TcCoe Idealize.SL.Sem Idealize.ShloMosaic.StableHlo
open Cert.RefRun Cert.Spec

theorem c6_v95 (V : Valuation τ sig (Elt Ideal)) (t : Fin 50176) (k : Fin 1024) (q : ℕ → ℝ) (c : ℕ → ℕ → ℝ)
    (h81 : ∀ d : Fin 64, V (Proc.devRef .tc main_v81) (ix2 t d) = ((q d : ℝ) : EReal))
    (hc : ∀ (k : Fin 1024) (d : Fin 64), V (Proc.devRef .tc main_arg5) (ix2 k d) = ((c k d : ℝ) : EReal)) :
    after c6 V (Proc.devRef .tc main_v95) (ix2 t k) = ((∑ d ∈ Finset.range 64, q d * q d - 2 * ∑ d ∈ Finset.range 64, q d * c k d
      + ∑ d ∈ Finset.range 64, c k d * c k d : ℝ) : EReal) := by
  simp only [c6, TRef.binary, TRef.nullary, TRef.ternary, TRef.unary, TRef.quaternary, TRef.toBuf, TRef.ofBuf, cast_eq]
  after_results_simp
  pointwise
  simp only [h81, hc, ofBits_two, ← EReal.coe_mul, coe_sum]
  rw [Finset.sum_range, Finset.sum_range, Finset.sum_range]
  exact (Ideal.add_congr (EReal.coe_sub _ _).symm rfl).trans (EReal.coe_add _ _).symm

theorem c7_v96 (V : Valuation τ sig (Elt Ideal)) (t : Fin 50176) (d : ℕ → ℝ) (k : ℕ) (hk : IsFirstMin d 1024 k)
    (h95 : ∀ k : Fin 1024, V (Proc.devRef .tc main_v95) (ix2 t k) = ((d k : ℝ) : EReal)) :
    after c7 V (Proc.devRef .tc main_v96) (ix1 t) = BitVec.ofNat 32 k := by
  simp only [c7, TRef.binary, TRef.nullary, TRef.ternary, TRef.unary, TRef.quaternary, TRef.toBuf, TRef.ofBuf, cast_eq]
  after_results_simp
  exact argmin_row _ d t h95 k hk _ (fun _ => ofBits_top) _ (fun _ => rfl) _ _

theorem c8_v97 (V : Valuation τ sig (Elt Ideal)) (t : Fin 50176) (o : Fin 64) (k : Fin 1024)
    (h96 : V (Proc.devRef .tc main_v96) (ix1 t) = BitVec.ofNat 32 k) :
    after c8 V (Proc.devRef .tc main_v97) (ix2 t o) = V (Proc.devRef .tc main_arg5) (ix2 k o) := by
  simp only [c8, TRef.binary, TRef.nullary, TRef.ternary, TRef.unary, TRef.quaternary, TRef.toBuf, TRef.ofBuf, cast_eq]
  after_results_simp
  pointwise
  have hk := k.isLt
  have e := toInt_small k.val hk
  have h0 : IntOp.cmpi .slt (BitVec.ofNat 32 k.val) 0#32 = 0#1 := by
    have : ¬ ((k.val : ℤ) < 0) := by omega
    simp only [IntOp.cmpi, BitVec.slt_eq_decide, e]
    exact congrArg BitVec.ofBool (decide_eq_false this)
  have h1 : IntOp.cmpi .sge (BitVec.ofNat 32 k.val) 0#32 = 1#1 := by
    have : (0 : ℤ) ≤ (k.val : ℤ) := by omega
    simp only [IntOp.cmpi, BitVec.sle_eq_decide, e]
    exact congrArg BitVec.ofBool (decide_eq_true this)
  have h2 : IntOp.cmpi .sle (BitVec.ofNat 32 k.val) 1023#32 = 1#1 := by
    have : (k.val : ℤ) ≤ 1023 := by omega
    simp only [IntOp.cmpi, BitVec.sle_eq_decide, e]
    exact congrArg BitVec.ofBool (decide_eq_true this)
  have hs : ∀ a b : BitVec 32, Scalar.select (0#1) a b = b := fun _ _ => rfl
  refine (show Scalar.select _ _ _ = _ from if_pos ?_).trans
    (Routing.gather_row gather_S1024x64_S50176x1_S50176x64_1_0_n_n_0_1_164 rfl rfl rfl rfl rfl _ _ t o k ?_ (by norm_num))
  · rw [h96, h0, hs, h1, h2]
    rfl
  · pointwise
    rw [h96, h0, hs]

theorem c9_v102 (V : Valuation τ sig (Elt Ideal)) (q p : ℕ → ℕ → ℝ)
    (h81 : ∀ (t : Fin 50176) (d : Fin 64), V (Proc.devRef .tc main_v81) (ix2 t d) = ((q t d : ℝ) : EReal))
    (h97 : ∀ (t : Fin 50176) (d : Fin 64), V (Proc.devRef .tc main_v97) (ix2 t d) = ((p t d : ℝ) : EReal)) :
    after c9 V (Proc.devRef .tc main_v102) ix0 = ((((∑ t ∈ Finset.range 50176, ∑ d ∈ Finset.range 64, (p t d - q t d) * (p t d - q t d)) / 3211264) : ℝ) : EReal) := by
  simp only [c9, TRef.binary, TRef.nullary, TRef.ternary, TRef.unary, TRef.quaternary, TRef.toBuf, TRef.ofBuf, cast_eq]
  after_results_simp
  pointwise
  simp only [h81, h97, ofBits_ntok, ← EReal.coe_mul, ← EReal.coe_sub, coe_sum]
  rw [div_coe_coe _ _ (by norm_num)]
  simp only [Finset.sum_range]

theorem c9_v106 (V : Valuation τ sig (Elt Ideal)) (b : Fin 4) (d : Fin 64) (py px : Fin 112) (q p : ℕ → ℝ)
    (h81 : ∀ t : Fin 50176, V (Proc.devRef .tc main_v81) (ix2 t d) = ((q t : ℝ) : EReal))
    (h97 : ∀ t : Fin 50176, V (Proc.devRef .tc main_v97) (ix2 t d) = ((p t : ℝ) : EReal)) :
    after c9 V (Proc.devRef .tc main_v106) (ix4 b d py px) = ((p (b * 12544 + py * 112 + px) : ℝ) : EReal) := by
  simp only [c9, TRef.binary, TRef.nullary, TRef.ternary, TRef.unary, TRef.quaternary, TRef.toBuf, TRef.ofBuf, cast_eq]
  after_results_simp
  pointwise
  rw [h81, h97, ← EReal.coe_sub, ← EReal.coe_add, add_sub_cancel]

end Cert.RefVal
-- ==== Proof.RefChain.lean ====
/- The reference's stretches put together: what its three results hold. -/
module

public import proofs.«01_k».proof.Proof.RefConv2
public import proofs.«01_k».proof.Proof.RefVq

@[expose] public section

noncomputable section

namespace Cert.RefVal

open Cert.ReferenceIdeal Cert.ReferenceIdeal.Gen Idealize.ShloMosaic Idealize.ShloMosaic.TcCoe Idealize.SL.Sem Idealize.ShloMosaic.StableHlo
open Cert.RefRun Cert.Spec

/-- The first four taps' sum. -/
abbrev four (n : ℕ) (P W : ℕ → ℕ → ℕ → ℕ → ℝ) (b o y x : ℕ) : ℝ :=
  term n P W b o y x 0 0 + term n P W b o y x 0 1 + term n P W b o y x 0 2 + term n P W b o y x 1 0

/-- The arguments' buffers hold the real numbers of `D`. -/
structure Holds (D : Args) (V : Valuation τ sig (Elt Ideal)) : Prop where
  x : ∀ (b : Fin 4) (c : Fin 3) (y x : Fin 224), V (Proc.devRef .tc main_arg0) (ix4 b c y x) = ((D.x b c y x : ℝ) : EReal)
  w1 : ∀ (o : Fin 64) (c : Fin 3) (y x : Fin 3), V (Proc.devRef .tc main_arg1) (ix4 o c y x) = ((D.w1 o c y x : ℝ) : EReal)
  c1 : ∀ o : Fin 64, V (Proc.devRef .tc main_arg2) (ix1 o) = ((D.c1 o : ℝ) : EReal)
  g1 : ∀ o : Fin 64, V (Proc.devRef .tc main_arg3) (ix1 o) = ((D.g1 o : ℝ) : EReal)
  b1 : ∀ o : Fin 64, V (Proc.devRef .tc main_arg4) (ix1 o) = ((D.b1 o : ℝ) : EReal)
  cb : ∀ (k : Fin 1024) (d : Fin 64), V (Proc.devRef .tc main_arg5) (ix2 k d) = ((D.cb k d : ℝ) : EReal)
  w2 : ∀ (o : Fin 3) (c : Fin 64) (y x : Fin 3), V (Proc.devRef .tc main_arg6) (ix4 o c y x) = ((D.w2 o c y x : ℝ) : EReal)
  c2 : ∀ o : Fin 3, V (Proc.devRef .tc main_arg7) (ix1 o) = ((D.c2 o : ℝ) : EReal)
  g2 : ∀ o : Fin 3, V (Proc.devRef .tc main_arg8) (ix1 o) = ((D.g2 o : ℝ) : EReal)
  b2 : ∀ o : Fin 3, V (Proc.devRef .tc main_arg9) (ix1 o) = ((D.b2 o : ℝ) : EReal)

variable (D : Args) (V : Valuation τ sig (Elt Ideal))

def st1 : Valuation τ sig (Elt Ideal) := after c1 V
def st2 : Valuation τ sig (Elt Ideal) := after c2 (st1 V)
def st3 : Valuation τ sig (Elt Ideal) := after c3 (st2 V)
def st4 : Valuation τ sig (Elt Ideal) := after c4 (st3 V)
def st5 : Valuation τ sig (Elt Ideal) := after c5 (st4 V)
def st6 : Valuation τ sig (Elt Ideal) := after c6 (st5 V)
def st7 : Valuation τ sig (Elt Ideal) := after c7 (st6 V)
def st8 : Valuation τ sig (Elt Ideal) := after c8 (st7 V)
def st9 : Valuation τ sig (Elt Ideal) := after c9 (st8 V)
def st10 : Valuation τ sig (Elt Ideal) := after c10 (st9 V)
def st11 : Valuation τ sig (Elt Ideal) := after c11 (st10 V)
def st12 : Valuation τ sig (Elt Ideal) := after c12 (st11 V)
def st13 : Valuation τ sig (Elt Ideal) := after c13 (st12 V)
def st14 : Valuation τ sig (Elt Ideal) := after c14 (st13 V)
def st15 : Valuation τ sig (Elt Ideal) := after c15 (st14 V)

theorem after_ops : after ops V = st15 V := by
  simp only [ops, after_append]
  rfl

/-- A buffer no stretch writes keeps its contents throughout. -/
theorem st_keep {r : Ref sig .tc} (h : Keeps r) :
    st1 V (Proc.devRef .tc r) = V (Proc.devRef .tc r) ∧ st2 V (Proc.devRef .tc r) = V (Proc.devRef .tc r) ∧ st3 V (Proc.devRef .tc r) = V (Proc.devRef .tc r) ∧ st4 V (Proc.devRef .tc r) = V (Proc.devRef .tc r) ∧ st5 V (Proc.devRef .tc r) = V (Proc.devRef .tc r) ∧ st6 V (Proc.devRef .tc r) = V (Proc.devRef .tc r) ∧ st7 V (Proc.devRef .tc r) = V (Proc.devRef .tc r) ∧ st8 V (Proc.devRef .tc r) = V (Proc.devRef .tc r) ∧ st9 V (Proc.devRef .tc r) = V (Proc.devRef .tc r) ∧ st10 V (Proc.devRef .tc r) = V (Proc.devRef .tc r) ∧ st11 V (Proc.devRef .tc r) = V (Proc.devRef .tc r) ∧ st12 V (Proc.devRef .tc r) = V (Proc.devRef .tc r) ∧ st13 V (Proc.devRef .tc r) = V (Proc.devRef .tc r) ∧ st14 V (Proc.devRef .tc r) = V (Proc.devRef .tc r) := by
  obtain ⟨h1, h2, h3, h4, h5, h6, h7, h8, h9, h10, h11, h12, h13, h14, -⟩ := h
  have e1 : st1 V (Proc.devRef .tc r) = V (Proc.devRef .tc r) := after_of_writes_sub c1 _ c1_writes h1
  have e2 : st2 V (Proc.devRef .tc r) = V (Proc.devRef .tc r) := (after_of_writes_sub c2 _ c2_writes h2).trans e1
  have e3 : st3 V (Proc.devRef .tc r) = V (Proc.devRef .tc r) := (after_of_writes_sub c3 _ c3_writes h3).trans e2
  have e4 : st4 V (Proc.devRef .tc r) = V (Proc.devRef .tc r) := (after_of_writes_sub c4 _ c4_writes h4).trans e3
  have e5 : st5 V (Proc.devRef .tc r) = V (Proc.devRef .tc r) := (after_of_writes_sub c5 _ c5_writes h5).trans e4
  have e6 : st6 V (Proc.devRef .tc r) = V (Proc.devRef .tc r) := (after_of_writes_sub c6 _ c6_writes h6).trans e5
  have e7 : st7 V (Proc.devRef .tc r) = V (Proc.devRef .tc r) := (after_of_writes_sub c7 _ c7_writes h7).trans e6
  have e8 : st8 V (Proc.devRef .tc r) = V (Proc.devRef .tc r) := (after_of_writes_sub c8 _ c8_writes h8).trans e7
  have e9 : st9 V (Proc.devRef .tc r) = V (Proc.devRef .tc r) := (after_of_writes_sub c9 _ c9_writes h9).trans e8
  have e10 : st10 V (Proc.devRef .tc r) = V (Proc.devRef .tc r) := (after_of_writes_sub c10 _ c10_writes h10).trans e9
  have e11 : st11 V (Proc.devRef .tc r) = V (Proc.devRef .tc r) := (after_of_writes_sub c11 _ c11_writes h11).trans e10
  have e12 : st12 V (Proc.devRef .tc r) = V (Proc.devRef .tc r) := (after_of_writes_sub c12 _ c12_writes h12).trans e11
  have e13 : st13 V (Proc.devRef .tc r) = V (Proc.devRef .tc r) := (after_of_writes_sub c13 _ c13_writes h13).trans e12
  have e14 : st14 V (Proc.devRef .tc r) = V (Proc.devRef .tc r) := (after_of_writes_sub c14 _ c14_writes h14).trans e13
  exact ⟨e1, e2, e3, e4, e5, e6, e7, e8, e9, e10, e11, e12, e13, e14⟩

variable (h : Holds D V)
include h

theorem st3_v58 (b : Fin 4) (o : Fin 64) (y x : Fin 224) :
    st3 V (Proc.devRef .tc main_v58) (ix4 b o y x) = ((h1 D o b y x + D.c1 o : ℝ) : EReal) := by
  refine (c3_v58 (st2 V) b o y x _ _ (c2_v55 (st1 V) (fun b c => pad1 (D.x b c)) D.w1 (four 3 (fun b c => pad1 (D.x b c)) D.w1) (c1_v0 V D.x h.x) (fun o c y x => ?_)
    (c1_v25 V D.x D.w1 h.x h.w1) b o y x) (c2_v57 (st1 V) D.c1 (fun o => ?_) b o y x)).trans ?_
  · exact (congrFun (st_keep V (r := main_arg1) (by decide)).1 _).trans (h.w1 o c y x)
  · exact (congrFun (st_keep V (r := main_arg2) (by decide)).1 _).trans (h.c1 o)
  · exact congrArg (fun r : ℝ => ((r + D.c1 o : ℝ) : EReal)) (term_sum 3 D.x D.w1 b o y x)

theorem st3_v59 (o : Fin 64) :
    st3 V (Proc.devRef .tc main_v59) (ix1 o) = ((tot (fun b y x => h1 D o b y x + D.c1 o) : ℝ) : EReal) := by
  refine c3_v59 (st2 V) o (h1 D o) (D.c1 o) (fun b y x => ?_) (fun b y x => ?_)
  · refine (c2_v55 (st1 V) (fun b c => pad1 (D.x b c)) D.w1 (four 3 (fun b c => pad1 (D.x b c)) D.w1) (c1_v0 V D.x h.x) (fun o c y x => ?_) (c1_v25 V D.x D.w1 h.x h.w1) b o y x).trans ?_
    · exact (congrFun (st_keep V (r := main_arg1) (by decide)).1 _).trans (h.w1 o c y x)
    · exact congrArg (fun r : ℝ => (r : EReal)) (term_sum 3 D.x D.w1 b o y x)
  · exact c2_v57 (st1 V) D.c1 (fun o => (congrFun (st_keep V (r := main_arg2) (by decide)).1 _).trans (h.c1 o)) b o y x

theorem st5_v81 (t : Fin 50176) (o : Fin 64) : st5 V (Proc.devRef .tc main_v81) (ix2 t o) = ((tok D t o : ℝ) : EReal) := by
  refine c5_v81 (st4 V) t o (h1 D o) (D.c1 o) (D.g1 o) (D.b1 o) (fun b y x => ?_) (c4_v62 (st3 V) o (h1 D o) (D.c1 o) (st3_v59 D V h o))
    (c4_v63 (st3 V) o (h1 D o) (D.c1 o) fun b y x => st3_v58 D V h b o y x) ?_ ?_
  · exact (congrFun (after_of_writes_sub c4 _ c4_writes (by decide)) _).trans (st3_v58 D V h b o y x)
  · exact (congrFun (st_keep V (r := main_arg3) (by decide)).2.2.2.1 _).trans (h.g1 o)
  · exact (congrFun (st_keep V (r := main_arg4) (by decide)).2.2.2.1 _).trans (h.b1 o)

theorem st6_v95 (t : Fin 50176) (k : Fin 1024) : st6 V (Proc.devRef .tc main_v95) (ix2 t k) = ((dist D t k : ℝ) : EReal) :=
  c6_v95 (st5 V) t k (tok D t) D.cb (st5_v81 D V h t)
    fun k d => (congrFun (st_keep V (r := main_arg5) (by decide)).2.2.2.2.1 _).trans (h.cb k d)

theorem st7_v96 (t : Fin 50176) : st7 V (Proc.devRef .tc main_v96) (ix1 t) = BitVec.ofNat 32 (near D t) :=
  c7_v96 (st6 V) t (dist D t) (near D t) (near_spec D t) (st6_v95 D V h t)

theorem st8_v97 (t : Fin 50176) (o : Fin 64) : st8 V (Proc.devRef .tc main_v97) (ix2 t o) = ((D.cb (near D t) o : ℝ) : EReal) :=
  (c8_v97 (st7 V) t o ⟨near D t, near_lt D t⟩ (st7_v96 D V h t)).trans
    ((congrFun (st_keep V (r := main_arg5) (by decide)).2.2.2.2.2.2.1 _).trans (h.cb ⟨near D t, near_lt D t⟩ o))

theorem st8_v81 (t : Fin 50176) (o : Fin 64) : st8 V (Proc.devRef .tc main_v81) (ix2 t o) = ((tok D t o : ℝ) : EReal) :=
  (congrFun ((after_of_writes_sub c8 _ c8_writes (by decide)).trans ((after_of_writes_sub c7 _ c7_writes (by decide)).trans
    (after_of_writes_sub c6 _ c6_writes (by decide)))) _).trans (st5_v81 D V h t o)

/-- The third result: the loss. -/
theorem st15_v102 : st15 V (Proc.devRef .tc main_v102) ix0 = ((loss D : ℝ) : EReal) := by
  refine (congrFun ((after_of_writes_sub c15 _ c15_writes (by decide)).trans ((after_of_writes_sub c14 _ c14_writes (by decide)).trans
    ((after_of_writes_sub c13 _ c13_writes (by decide)).trans ((after_of_writes_sub c12 _ c12_writes (by decide)).trans
    ((after_of_writes_sub c11 _ c11_writes (by decide)).trans (after_of_writes_sub c10 _ c10_writes (by decide))))))) _).trans
    ((c9_v102 (st8 V) (tok D) (fun t d => D.cb (near D t) d) (st8_v81 D V h) (st8_v97 D V h)).trans ?_)
  unfold loss
  simp only [dist_eq]

/-- The second result: the indices of the nearest codewords. -/
theorem st15_v189 (b : Fin 4) (y x : Fin 112) :
    st15 V (Proc.devRef .tc main_v189) (ix3 b y x) = BitVec.ofNat 32 (near D (b * 12544 + y * 112 + x)) :=
  c15_v189 (st14 V) b y x (fun t => BitVec.ofNat 32 (near D t)) fun t =>
    (congrFun ((after_of_writes_sub c14 _ c14_writes (by decide)).trans
    ((after_of_writes_sub c13 _ c13_writes (by decide)).trans ((after_of_writes_sub c12 _ c12_writes (by decide)).trans
    ((after_of_writes_sub c11 _ c11_writes (by decide)).trans ((after_of_writes_sub c10 _ c10_writes (by decide)).trans
    ((after_of_writes_sub c9 _ c9_writes (by decide)).trans (after_of_writes_sub c8 _ c8_writes (by decide)))))))) _).trans (st7_v96 D V h t)

theorem st10_v111 (b : Fin 4) (d : Fin 64) (y x : Fin 226) :
    st10 V (Proc.devRef .tc main_v111) (ix4 b d y x) = ((pad1 (up D b d) y x : ℝ) : EReal) :=
  c10_v111 (st9 V) (fun b d py px => D.cb (near D (b * 12544 + py * 112 + px)) d)
    (fun b d py px => c9_v106 (st8 V) b d py px (fun t => tok D t d) (fun t => D.cb (near D t) d) (fun t => st8_v81 D V h t d)
      fun t => st8_v97 D V h t d) b d y x

theorem st13_v169 (b : Fin 4) (o : Fin 3) (y x : Fin 224) :
    st13 V (Proc.devRef .tc main_v169) (ix4 b o y x) = ((h2 D o b y x + D.c2 o : ℝ) : EReal) := by
  have hk := st_keep V (r := main_arg6) (by decide)
  have hw10 : ∀ (o : Fin 3) (c : Fin 64) (y x : Fin 3), st10 V (Proc.devRef .tc main_arg6) (ix4 o c y x) = ((D.w2 o c y x : ℝ) : EReal) :=
    fun o c y x => (congrFun hk.2.2.2.2.2.2.2.2.2.1 _).trans (h.w2 o c y x)
  have hw11 : ∀ (o : Fin 3) (c : Fin 64) (y x : Fin 3), st11 V (Proc.devRef .tc main_arg6) (ix4 o c y x) = ((D.w2 o c y x : ℝ) : EReal) :=
    fun o c y x => (congrFun hk.2.2.2.2.2.2.2.2.2.2.1 _).trans (h.w2 o c y x)
  have hp11 : ∀ (b : Fin 4) (d : Fin 64) (y x : Fin 226), st11 V (Proc.devRef .tc main_v111) (ix4 b d y x) = ((pad1 (up D b d) y x : ℝ) : EReal) :=
    fun b d y x => (congrFun (after_of_writes_sub c11 _ c11_writes (by decide)) _).trans (st10_v111 D V h b d y x)
  refine (c13_v169 (st12 V) b o y x _ _ (D.c2 o)
    (c12_v160 (st11 V) (fun b d => pad1 (up D b d)) D.w2 hp11 hw11 (four 64 (fun b d => pad1 (up D b d)) D.w2)
      (fun b o y x => term 64 (fun b d => pad1 (up D b d)) D.w2 b o y x 1 1) (c11_v136 (st10 V) (fun b d => pad1 (up D b d)) D.w2 (st10_v111 D V h) hw10)
      (c11_v141 (st10 V) (fun b d => pad1 (up D b d)) D.w2 (st10_v111 D V h) hw10) b o y x)
    (c12_v164 (st11 V) (fun b d => pad1 (up D b d)) D.w2 hp11 hw11 b o y x) ?_).trans ?_
  · exact (congrFun (st_keep V (r := main_arg7) (by decide)).2.2.2.2.2.2.2.2.2.2.2.1 _).trans (h.c2 o)
  · exact congrArg (fun r : ℝ => ((r + D.c2 o : ℝ) : EReal)) (term_sum 64 (up D) D.w2 b o y x)

/-- The first result: the image. -/
theorem st15_v188 (b : Fin 4) (o : Fin 3) (y x : Fin 224) :
    st15 V (Proc.devRef .tc main_v188) (ix4 b o y x) = ((out D b o y x : ℝ) : EReal) := by
  refine c15_v188 (st14 V) b o y x (h2 D o) (D.c2 o) (D.g2 o) (D.b2 o) ?_
    (c14_v173 (st13 V) o (h2 D o) (D.c2 o) fun b y x => st13_v169 D V h b o y x)
    (c14_v12 (st13 V) o (h2 D o) (D.c2 o) fun b y x => st13_v169 D V h b o y x) (c14_v13 (st13 V)) ?_ ?_
  · exact (congrFun (after_of_writes_sub c14 _ c14_writes (by decide)) _).trans (st13_v169 D V h b o y x)
  · exact (congrFun (st_keep V (r := main_arg8) (by decide)).2.2.2.2.2.2.2.2.2.2.2.2.2 _).trans (h.g2 o)
  · exact (congrFun (st_keep V (r := main_arg9) (by decide)).2.2.2.2.2.2.2.2.2.2.2.2.2 _).trans (h.b2 o)

end Cert.RefVal
-- ==== Proof.Link.lean ====
/-
  The ten arguments as arrays of extended reals, the real numbers they hold when they are finite,
  and the two programs' memories holding them.
-/
module

public import proofs.«01_k».proof.Pre_finite
public import proofs.«01_k».proof.Proof.KerPrep
public import proofs.«01_k».proof.Proof.RefChain
public import Idealize.ShloMosaic.Lib.KernelVsHost

@[expose] public section

noncomputable section

open Idealize.ShloMosaic Idealize.ShloMosaic.TcCoe Idealize.SL.Sem Idealize.ShloMosaic.StableHlo
open Cert.Spec

namespace Cert.Link

/-- A real number. -/
def IsReal (e : EReal) : Prop := e ≠ ⊤ ∧ e ≠ ⊥

theorem IsReal.coe {e : EReal} (h : IsReal e) : e = ((e.toReal : ℝ) : EReal) := (EReal.coe_toReal h.1 h.2).symm

/-- An array whose absolute values all compare below infinity holds real numbers. -/
theorem isReal_of {s : Shape} (a : FVec Ideal s .f32) (hb : (⟨0, ![]⟩ : Shape).BroadcastsInDim s (![] : Fin 0 → Fin s.rank))
    (p : cmpf .olt (Host.absf a) (broadcastInDim s ![] hb (constant (F := Ideal) ⟨0, ![]⟩ .f32 0x7F800000#32)) = fun _ => 1#1) (i : s.Idx) : IsReal (a i) := by
  have q : Ideal.cmp .olt (max (a i : EReal) (-(a i : EReal))) (Ideal.ofBits .f32 0x7F800000#32) = 1#1 := congrFun p i
  have q' := (Ideal.cmp_olt_eq_one _ _).1 q
  rw [ofBits_top] at q'
  constructor
  · intro e
    rw [e] at q'
    exact absurd q' (by simp)
  · intro e
    rw [e] at q'
    exact absurd q' (by simp)

def val1 {a : ℕ} (f : (⟨1, ![a]⟩ : Shape).Idx → EReal) (i : ℕ) : ℝ := if h : i < a then (f (ix1 ⟨i, h⟩)).toReal else 0

def val2 {a b : ℕ} (f : (⟨2, ![a, b]⟩ : Shape).Idx → EReal) (i j : ℕ) : ℝ :=
  if h : i < a ∧ j < b then (f (ix2 ⟨i, h.1⟩ ⟨j, h.2⟩)).toReal else 0

def val4 {a b c d : ℕ} (f : (⟨4, ![a, b, c, d]⟩ : Shape).Idx → EReal) (i j k l : ℕ) : ℝ :=
  if h : i < a ∧ j < b ∧ k < c ∧ l < d then (f (ix4 ⟨i, h.1⟩ ⟨j, h.2.1⟩ ⟨k, h.2.2.1⟩ ⟨l, h.2.2.2⟩)).toReal else 0

theorem val1_eq {a : ℕ} (f : (⟨1, ![a]⟩ : Shape).Idx → EReal) (h : ∀ i, IsReal (f i)) (i : Fin a) : f (ix1 i) = ((val1 f i : ℝ) : EReal) := by
  unfold val1
  rw [dif_pos i.isLt]
  exact (h _).coe

theorem val2_eq {a b : ℕ} (f : (⟨2, ![a, b]⟩ : Shape).Idx → EReal) (h : ∀ i, IsReal (f i)) (i : Fin a) (j : Fin b) :
    f (ix2 i j) = ((val2 f i j : ℝ) : EReal) := by
  unfold val2
  rw [dif_pos ⟨i.isLt, j.isLt⟩]
  exact (h _).coe

theorem val4_eq {a b c d : ℕ} (f : (⟨4, ![a, b, c, d]⟩ : Shape).Idx → EReal) (h : ∀ i, IsReal (f i)) (i : Fin a) (j : Fin b) (k : Fin c) (l : Fin d) :
    f (ix4 i j k l) = ((val4 f i j k l : ℝ) : EReal) := by
  unfold val4
  rw [dif_pos ⟨i.isLt, j.isLt, k.isLt, l.isLt⟩]
  exact (h _).coe

/-- The ten arguments. -/
structure Inputs where
  a0 : (⟨4, ![4, 3, 224, 224]⟩ : Shape).Idx → EReal
  a1 : (⟨4, ![64, 3, 3, 3]⟩ : Shape).Idx → EReal
  a2 : (⟨1, ![64]⟩ : Shape).Idx → EReal
  a3 : (⟨1, ![64]⟩ : Shape).Idx → EReal
  a4 : (⟨1, ![64]⟩ : Shape).Idx → EReal
  a5 : (⟨2, ![1024, 64]⟩ : Shape).Idx → EReal
  a6 : (⟨4, ![3, 64, 3, 3]⟩ : Shape).Idx → EReal
  a7 : (⟨1, ![3]⟩ : Shape).Idx → EReal
  a8 : (⟨1, ![3]⟩ : Shape).Idx → EReal
  a9 : (⟨1, ![3]⟩ : Shape).Idx → EReal

/-- They hold real numbers. -/
structure Inputs.Finite (I : Inputs) : Prop where
  f0 : ∀ i, IsReal (I.a0 i)
  f1 : ∀ i, IsReal (I.a1 i)
  f2 : ∀ i, IsReal (I.a2 i)
  f3 : ∀ i, IsReal (I.a3 i)
  f4 : ∀ i, IsReal (I.a4 i)
  f5 : ∀ i, IsReal (I.a5 i)
  f6 : ∀ i, IsReal (I.a6 i)
  f7 : ∀ i, IsReal (I.a7 i)
  f8 : ∀ i, IsReal (I.a8 i)
  f9 : ∀ i, IsReal (I.a9 i)

/-- The real numbers. -/
def Inputs.args (I : Inputs) : Args where
  x := val4 I.a0
  w1 := val4 I.a1
  c1 := val1 I.a2
  g1 := val1 I.a3
  b1 := val1 I.a4
  cb := val2 I.a5
  w2 := val4 I.a6
  c2 := val1 I.a7
  g2 := val1 I.a8
  b2 := val1 I.a9

theorem pre_facts : Cert.Pre_finite.Facts where
  bcast_S_S4x3x224x224 := by decide
  bcast_S_S64x3x3x3 := by decide
  bcast_S_S64 := by decide
  bcast_S_S1024x64 := by decide
  bcast_S_S3x64x3x3 := by decide
  bcast_S_S3 := by decide

/-- The kernel's arguments, on one device. -/
def inputs (m : (ℓ : Loc Cert.KernelIdeal.nD Cert.KernelIdeal.τ Cert.KernelIdeal.sig) → Buf (Elt Ideal) ℓ) (c : Dev Cert.KernelIdeal.nD) : Inputs where
  a0 := m ((c.tc : Thread Cert.KernelIdeal.nD Cert.KernelIdeal.τ).loc Cert.KernelIdeal.main_arg0)
  a1 := m ((c.tc : Thread Cert.KernelIdeal.nD Cert.KernelIdeal.τ).loc Cert.KernelIdeal.main_arg1)
  a2 := m ((c.tc : Thread Cert.KernelIdeal.nD Cert.KernelIdeal.τ).loc Cert.KernelIdeal.main_arg2)
  a3 := m ((c.tc : Thread Cert.KernelIdeal.nD Cert.KernelIdeal.τ).loc Cert.KernelIdeal.main_arg3)
  a4 := m ((c.tc : Thread Cert.KernelIdeal.nD Cert.KernelIdeal.τ).loc Cert.KernelIdeal.main_arg4)
  a5 := m ((c.tc : Thread Cert.KernelIdeal.nD Cert.KernelIdeal.τ).loc Cert.KernelIdeal.main_arg5)
  a6 := m ((c.tc : Thread Cert.KernelIdeal.nD Cert.KernelIdeal.τ).loc Cert.KernelIdeal.main_arg6)
  a7 := m ((c.tc : Thread Cert.KernelIdeal.nD Cert.KernelIdeal.τ).loc Cert.KernelIdeal.main_arg7)
  a8 := m ((c.tc : Thread Cert.KernelIdeal.nD Cert.KernelIdeal.τ).loc Cert.KernelIdeal.main_arg8)
  a9 := m ((c.tc : Thread Cert.KernelIdeal.nD Cert.KernelIdeal.τ).loc Cert.KernelIdeal.main_arg9)

theorem given (m : (ℓ : Loc Cert.KernelIdeal.nD Cert.KernelIdeal.τ Cert.KernelIdeal.sig) → Buf (Elt Ideal) ℓ) (c : Dev Cert.KernelIdeal.nD)
    (h : (inputs m c).Finite) : Cert.KerVal.Given (inputs m c).args m c where
  x := val4_eq _ h.f0
  w1 := val4_eq _ h.f1
  g1 := val1_eq _ h.f3
  b1 := val1_eq _ h.f4
  cb := val2_eq _ h.f5
  w2 := val4_eq _ h.f6
  g2 := val1_eq _ h.f8
  b2 := val1_eq _ h.f9

section
open Cert.ReferenceIdeal

theorem holds (I : Inputs) (h : I.Finite) (m' : (ℓ : Loc nD τ sig) → Buf (Elt Ideal) ℓ) (c : Dev nD)
    (h0 : m' ((c.tc : Thread nD τ).loc main_arg0) = I.a0) (h1 : m' ((c.tc : Thread nD τ).loc main_arg1) = I.a1)
    (h2 : m' ((c.tc : Thread nD τ).loc main_arg2) = I.a2) (h3 : m' ((c.tc : Thread nD τ).loc main_arg3) = I.a3)
    (h4 : m' ((c.tc : Thread nD τ).loc main_arg4) = I.a4) (h5 : m' ((c.tc : Thread nD τ).loc main_arg5) = I.a5)
    (h6 : m' ((c.tc : Thread nD τ).loc main_arg6) = I.a6) (h7 : m' ((c.tc : Thread nD τ).loc main_arg7) = I.a7)
    (h8 : m' ((c.tc : Thread nD τ).loc main_arg8) = I.a8) (h9 : m' ((c.tc : Thread nD τ).loc main_arg9) = I.a9) :
    Cert.RefVal.Holds I.args (launchContents m' c) where
  x b i y x := (congrFun h0 _).trans (val4_eq _ h.f0 b i y x)
  w1 b i y x := (congrFun h1 _).trans (val4_eq _ h.f1 b i y x)
  c1 o := (congrFun h2 _).trans (val1_eq _ h.f2 o)
  g1 o := (congrFun h3 _).trans (val1_eq _ h.f3 o)
  b1 o := (congrFun h4 _).trans (val1_eq _ h.f4 o)
  cb k d := (congrFun h5 _).trans (val2_eq _ h.f5 k d)
  w2 b i y x := (congrFun h6 _).trans (val4_eq _ h.f6 b i y x)
  c2 o := (congrFun h7 _).trans (val1_eq _ h.f7 o)
  g2 o := (congrFun h8 _).trans (val1_eq _ h.f8 o)
  b2 o := (congrFun h9 _).trans (val1_eq _ h.f9 o)

end

/-! ### Finiteness, from the precondition's ten components -/

section
variable [Cert.Pre_finite.Facts] (I : Inputs)

/-- The precondition, of ten arrays. -/
abbrev pre := Cert.Pre_finite.fn (F := Ideal) I.a0 I.a1 I.a2 I.a3 I.a4 I.a5 I.a6 I.a7 I.a8 I.a9

theorem finite (p0 : (pre I).1 = fun _ => 1#1) (p1 : (pre I).2.1 = fun _ => 1#1) (p2 : (pre I).2.2.1 = fun _ => 1#1) (p3 : (pre I).2.2.2.1 = fun _ => 1#1)
    (p4 : (pre I).2.2.2.2.1 = fun _ => 1#1) (p5 : (pre I).2.2.2.2.2.1 = fun _ => 1#1) (p6 : (pre I).2.2.2.2.2.2.1 = fun _ => 1#1)
    (p7 : (pre I).2.2.2.2.2.2.2.1 = fun _ => 1#1) (p8 : (pre I).2.2.2.2.2.2.2.2.1 = fun _ => 1#1) (p9 : (pre I).2.2.2.2.2.2.2.2.2 = fun _ => 1#1) :
    I.Finite where
  f0 := isReal_of I.a0 Cert.Pre_finite.Facts.bcast_S_S4x3x224x224 p0
  f1 := isReal_of I.a1 Cert.Pre_finite.Facts.bcast_S_S64x3x3x3 p1
  f2 := isReal_of I.a2 Cert.Pre_finite.Facts.bcast_S_S64 p2
  f3 := isReal_of I.a3 Cert.Pre_finite.Facts.bcast_S_S64 p3
  f4 := isReal_of I.a4 Cert.Pre_finite.Facts.bcast_S_S64 p4
  f5 := isReal_of I.a5 Cert.Pre_finite.Facts.bcast_S_S1024x64 p5
  f6 := isReal_of I.a6 Cert.Pre_finite.Facts.bcast_S_S3x64x3x3 p6
  f7 := isReal_of I.a7 Cert.Pre_finite.Facts.bcast_S_S3 p7
  f8 := isReal_of I.a8 Cert.Pre_finite.Facts.bcast_S_S3 p8
  f9 := isReal_of I.a9 Cert.Pre_finite.Facts.bcast_S_S3 p9

end

end Cert.Link
-- ==== Proof.KerRun.lean ====
/- The kernel's run: every buffer of a core that outlives the calls ends at what the program's segments leave in it. -/
module

public import proofs.«01_k».proof.Proof.Gen.KernelIdeal.Frame

@[expose] public section

set_option maxRecDepth 16384

noncomputable section

namespace Cert.KerRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with each core's buffers at the last segment's contents. -/
theorem run : θ_run defs (onTc (τ := τ) (main (F := F))) ⟨m, fun _ => 0, ρ⟩ (fun r => ∀ (c : Dev nD), ∀ b ∈ Pipeline.ucRefs τ sig, r.2.mem (((c : Thread nD τ)).1, b) = W17 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h _ => h)

end Cert.KerRun

end
-- ==== Proof.Decode.lean ====
/-
  The second convolution by the parity of the pixel: on the image of doubled size the nine products
  fall into four groups that meet the same codeword.
-/
module

public import proofs.«01_k».proof.Proof.Spec

@[expose] public section

noncomputable section

namespace Cert.Spec

variable (D : Args)

/-- The codewords as an image with a border of zeros one pixel wide. -/
def padq (b y x d : ℕ) : ℝ :=
  if 1 ≤ y ∧ y ≤ 112 ∧ 1 ≤ x ∧ x ≤ 112 then D.cb (near D (b * 12544 + (y - 1) * 112 + (x - 1))) d else 0

theorem pad_up (b d i j : ℕ) : pad1 (up D b d) i j = padq D b ((i + 1) / 2) ((j + 1) / 2) d := by
  unfold pad1 padq up
  by_cases h : 1 ≤ i ∧ i ≤ 224 ∧ 1 ≤ j ∧ j ≤ 224
  · rw [if_pos h, if_pos (by omega), show (i + 1) / 2 - 1 = (i - 1) / 2 by omega, show (j + 1) / 2 - 1 = (j - 1) / 2 by omega]
  · rw [if_neg h, if_neg (by omega)]

/-- The weights that meet one codeword, summed: `p`, `q` the parities of the pixel, `a`, `e` which of the two codewords. -/
def dw (w : ℕ → ℕ → ℝ) (p q a e : ℕ) : ℝ :=
  ∑ u ∈ Finset.range 3, ∑ v ∈ Finset.range 3, if (p + u + 1) / 2 = p + a ∧ (q + v + 1) / 2 = q + e then w u v else 0

/-- The convolution at a pixel of given parities. -/
def phase (o b p q y x : ℕ) : ℝ :=
  ∑ d ∈ Finset.range 64, padq D b (y + p) (x + q) d * dw (D.w2 o d) p q 0 0
    + ∑ d ∈ Finset.range 64, padq D b (y + p) (x + (q + 1)) d * dw (D.w2 o d) p q 0 1
    + ∑ d ∈ Finset.range 64, padq D b (y + (p + 1)) (x + q) d * dw (D.w2 o d) p q 1 0
    + ∑ d ∈ Finset.range 64, padq D b (y + (p + 1)) (x + (q + 1)) d * dw (D.w2 o d) p q 1 1

theorem phase_eq (o b p q y x : ℕ) (hp : p < 2) (hq : q < 2) : h2 D o b (2 * y + p) (2 * x + q) = phase D o b p q y x := by
  unfold h2 conv phase
  simp only [pad_up]
  rw [← Finset.sum_add_distrib, ← Finset.sum_add_distrib, ← Finset.sum_add_distrib]
  rw [Finset.sum_congr rfl fun u _ => Finset.sum_comm, Finset.sum_comm]
  refine Finset.sum_congr rfl fun d _ => ?_
  have half : ∀ k n : ℕ, n < 5 → (2 * k + n) / 2 = k + n / 2 := fun k n _ => by omega
  unfold dw
  simp only [Finset.sum_range_succ, Finset.sum_range_zero, zero_add, Nat.add_assoc]
  obtain rfl | rfl : p = 0 ∨ p = 1 := by omega
  all_goals obtain rfl | rfl : q = 0 ∨ q = 1 := by omega
  all_goals
    norm_num [half]
    ring

/-- The sum over all pixels, call by call and parity by parity. -/
theorem tot_phases (f : ℕ → ℕ → ℕ → ℝ) :
    tot f = ∑ s ∈ Finset.range 56, (∑ r ∈ Finset.range 896, f (s / 14) (2 * (8 * (s % 14) + r / 112) + 0) (2 * (r % 112) + 0)
      + ∑ r ∈ Finset.range 896, f (s / 14) (2 * (8 * (s % 14) + r / 112) + 0) (2 * (r % 112) + 1)
      + ∑ r ∈ Finset.range 896, f (s / 14) (2 * (8 * (s % 14) + r / 112) + 1) (2 * (r % 112) + 0)
      + ∑ r ∈ Finset.range 896, f (s / 14) (2 * (8 * (s % 14) + r / 112) + 1) (2 * (r % 112) + 1)) := by
  rw [show 56 = 4 * 14 from rfl, sum_range_mul]
  refine Finset.sum_congr rfl fun b _ => ?_
  rw [show (224 : ℕ) = 14 * 16 from rfl, sum_range_mul]
  refine Finset.sum_congr rfl fun i hi => ?_
  have hi' := Finset.mem_range.1 hi
  rw [show (16 : ℕ) = 8 * 2 from rfl, sum_range_mul, show (896 : ℕ) = 8 * 112 from rfl]
  simp only [sum_range_mul 8 112]
  rw [← Finset.sum_add_distrib, ← Finset.sum_add_distrib, ← Finset.sum_add_distrib]
  refine Finset.sum_congr rfl fun j _ => ?_
  rw [Finset.sum_range_succ, Finset.sum_range_one, show 14 * (8 * 2) = 112 * 2 from rfl, sum_range_mul 112 2, sum_range_mul 112 2]
  simp only [Finset.sum_range_succ _ 1, Finset.sum_range_one]
  rw [Finset.sum_add_distrib, Finset.sum_add_distrib, ← add_assoc]
  have e : ∀ p q : ℕ, ∑ k ∈ Finset.range 112, f b (i * (8 * 2) + (j * 2 + p)) (k * 2 + q)
      = ∑ k ∈ Finset.range 112, f ((b * 14 + i) / 14) (2 * (8 * ((b * 14 + i) % 14) + (j * 112 + k) / 112) + p) (2 * ((j * 112 + k) % 112) + q) := fun p q =>
    Finset.sum_congr rfl fun k hk => by
      have hk' := Finset.mem_range.1 hk
      rw [show (b * 14 + i) / 14 = b by omega, show 2 * (8 * ((b * 14 + i) % 14) + (j * 112 + k) / 112) + p = i * (8 * 2) + (j * 2 + p) by omega,
        show 2 * ((j * 112 + k) % 112) + q = k * 2 + q by omega]
  rw [e, e, e, e]

end Cert.Spec
-- ==== Proof.KerHost2.lean ====
/-
  What the host hands the decoding kernels and what it makes of their results: the summed weights,
  the normalisation's rows, and the four parities put together.
-/
module

public import proofs.«01_k».proof.Proof.KerHost
public import proofs.«01_k».proof.Proof.Decode

@[expose] public section

noncomputable section

open Idealize.ShloMosaic Idealize.ShloMosaic.TcCoe Idealize.SL.Sem Idealize.ShloMosaic.StableHlo
open Cert.KernelIdeal Cert.KernelIdeal.Gen Cert.Spec

namespace Cert.KerVal

theorem host_v9 (V : Valuation τ sig (Elt Ideal)) (w : ℕ → ℕ → ℕ → ℕ → ℝ)
    (hw : ∀ (o : Fin 3) (d : Fin 64) (u v : Fin 3), V (Proc.devRef .tc main_arg6) (ix4 o d u v) = ((w o d u v : ℝ) : EReal))
    (d : Fin 64) (u v o : Fin 3) :
    after hostOps0_4 V (Proc.devRef .tc main_v9) (ix4 d u v o) = ((w o d u v : ℝ) : EReal) := by
  simp only [hostOps0_4, TRef.binary, TRef.nullary, TRef.ternary, TRef.unary, TRef.quaternary, TRef.toBuf, TRef.ofBuf, cast_eq]
  after_results_simp
  pointwise
  exact hw o d u v

theorem host_v10 (V : Valuation τ sig (Elt Ideal)) (w : ℕ → ℕ → ℕ → ℕ → ℝ)
    (hw : ∀ (d : Fin 64) (u v o : Fin 3), V (Proc.devRef .tc main_v9) (ix4 d u v o) = ((w o d u v : ℝ) : EReal))
    (d : Fin 64) (u v : Fin 3) (o : Fin 4) (ho : o.val < 3) :
    after hostOps0_5 V (Proc.devRef .tc main_v10) (ix4 d u v o) = ((w o d u v : ℝ) : EReal) := by
  simp only [hostOps0_5, TRef.binary, TRef.nullary, TRef.ternary, TRef.unary, TRef.quaternary, TRef.toBuf, TRef.ofBuf, cast_eq]
  after_results_simp
  pointwise
  refine (dif_pos ho).trans ?_
  exact hw d u v ⟨o.val, _⟩

set_option maxRecDepth 100000 in
set_option maxHeartbeats 4000000 in
/-- The weights, summed in groups. -/
theorem host_v179 (V : Valuation τ sig (Elt Ideal)) (w : ℕ → ℕ → ℝ) (d : Fin 64) (o : Fin 4)
    (hw : ∀ u v : Fin 3, V (Proc.devRef .tc main_v10) (ix4 d u v o) = ((w u v : ℝ) : EReal)) :
    ∀ p q a e : Fin 2, after hostOps0_6 V (Proc.devRef .tc main_v179) (ix6 p q a e d o) = ((dw w p q a e : ℝ) : EReal) := by
  simp only [hostOps0_6, TRef.binary, TRef.nullary, TRef.ternary, TRef.unary, TRef.quaternary, TRef.toBuf, TRef.ofBuf, cast_eq]
  simp only [Fin.forall_fin_two]
  and_intros
  all_goals
    repeat (after_results_simp; pointwise)
    simp only [hw, ← EReal.coe_add]
    refine congrArg (fun r : ℝ => (r : EReal)) ?_
    simp [dw, Finset.sum_range_succ]
    try ring

theorem host_v183 (V : Valuation τ sig (Elt Ideal)) (g : ℕ → ℝ)
    (hw : ∀ o : Fin 3, V (Proc.devRef .tc main_arg8) (ix1 o) = ((g o : ℝ) : EReal)) (o : Fin 4) (ho : o.val < 3) :
    after hostOps0_7 V (Proc.devRef .tc main_v183) (ix1 o) = ((g o : ℝ) : EReal) := by
  simp only [hostOps0_7, TRef.binary, TRef.nullary, TRef.ternary, TRef.unary, TRef.quaternary, TRef.toBuf, TRef.ofBuf, cast_eq]
  after_results_simp
  pointwise
  refine (dif_pos ho).trans ?_
  exact hw ⟨o.val, _⟩

theorem host_v184 (V : Valuation τ sig (Elt Ideal)) (o : Fin 4) :
    after hostOps0_8 V (Proc.devRef .tc main_v184) (ix2 0 o) = V (Proc.devRef .tc main_v183) (ix1 o) := by
  simp only [hostOps0_8, TRef.binary, TRef.nullary, TRef.ternary, TRef.unary, TRef.quaternary, TRef.toBuf, TRef.ofBuf, cast_eq]
  after_results_simp
  pointwise

theorem host_v185 (V : Valuation τ sig (Elt Ideal)) (g : ℕ → ℝ)
    (hw : ∀ o : Fin 3, V (Proc.devRef .tc main_arg9) (ix1 o) = ((g o : ℝ) : EReal)) (o : Fin 4) (ho : o.val < 3) :
    after hostOps0_9 V (Proc.devRef .tc main_v185) (ix1 o) = ((g o : ℝ) : EReal) := by
  simp only [hostOps0_9, TRef.binary, TRef.nullary, TRef.ternary, TRef.unary, TRef.quaternary, TRef.toBuf, TRef.ofBuf, cast_eq]
  after_results_simp
  pointwise
  refine (dif_pos ho).trans ?_
  exact hw ⟨o.val, _⟩

theorem host_v186 (V : Valuation τ sig (Elt Ideal)) (o : Fin 4) :
    after hostOps0_10 V (Proc.devRef .tc main_v186) (ix2 0 o) = V (Proc.devRef .tc main_v185) (ix1 o) := by
  simp only [hostOps0_10, TRef.binary, TRef.nullary, TRef.ternary, TRef.unary, TRef.quaternary, TRef.toBuf, TRef.ofBuf, cast_eq]
  after_results_simp
  pointwise

/-- The four parities put together. -/
theorem host_v203 (V : Valuation τ sig (Elt Ideal)) (f : ℕ → ℕ → ℕ → ℕ → ℝ)
    (h00 : ∀ (b : Fin 4) (y x : Fin 112) (o : Fin 4), o.val < 3 → V (Proc.devRef .tc main_v194_0) (ix4 b y x o) = ((f b o (2 * y + 0) (2 * x + 0) : ℝ) : EReal))
    (h01 : ∀ (b : Fin 4) (y x : Fin 112) (o : Fin 4), o.val < 3 → V (Proc.devRef .tc main_v194_1) (ix4 b y x o) = ((f b o (2 * y + 0) (2 * x + 1) : ℝ) : EReal))
    (h10 : ∀ (b : Fin 4) (y x : Fin 112) (o : Fin 4), o.val < 3 → V (Proc.devRef .tc main_v194_2) (ix4 b y x o) = ((f b o (2 * y + 1) (2 * x + 0) : ℝ) : EReal))
    (h11 : ∀ (b : Fin 4) (y x : Fin 112) (o : Fin 4), o.val < 3 → V (Proc.devRef .tc main_v194_3) (ix4 b y x o) = ((f b o (2 * y + 1) (2 * x + 1) : ℝ) : EReal))
    (b : Fin 4) (o : Fin 3) (y x : Fin 224) :
    after hostOps4 V (Proc.devRef .tc main_v203) (ix4 b o y x) = ((f b o y x : ℝ) : EReal) := by
  simp only [hostOps4, TRef.binary, TRef.nullary, TRef.ternary, TRef.unary, TRef.quaternary, TRef.toBuf, TRef.ofBuf, cast_eq]
  repeat (after_results_simp; pointwise)
  have go : ∀ p q : ℕ, y.val % 2 = p → x.val % 2 = q → f b o (2 * (y.val / 2) + p) (2 * (x.val / 2) + q) = f b o y x := fun p q hp hq => by
    rw [show 2 * (y.val / 2) + p = y.val by omega, show 2 * (x.val / 2) + q = x.val by omega]
  have ho : o.val < 3 := o.isLt
  split
  · exact (h00 b _ _ ⟨o.val, _⟩ ho).trans (congrArg _ (go 0 0 (by omega) (by omega)))
  split
  · exact (h01 b _ _ ⟨o.val, _⟩ ho).trans (congrArg _ (go 0 1 (by omega) (by omega)))
  split
  · exact (h10 b _ _ ⟨o.val, _⟩ ho).trans (congrArg _ (go 1 0 (by omega) (by omega)))
  · exact (h11 b _ _ ⟨o.val, _⟩ ho).trans (congrArg _ (go 1 1 (by omega) (by omega)))

end Cert.KerVal
-- ==== Proof.KerPay2.lean ====
/-
  The decoding kernels' arithmetic read at an index, over the reals: the margins round the codeword
  rows, the four parities of the second convolution, its sums, the last normalisation.
-/
module

public import proofs.«01_k».proof.Proof.KerPay
public import proofs.«01_k».proof.Proof.Decode

@[expose] public section

noncomputable section

open Idealize.ShloMosaic Idealize.ShloMosaic.TcCoe Idealize.SL.Sem
open Cert.KernelIdeal Cert.KernelIdeal.Gen Cert.Spec

namespace Cert.KerVal

/-- One parity of the second convolution over rows `P`, weights `W`. -/
def four (P : ℕ → ℕ → ℕ → ℝ) (W : ℕ → ℕ → ℕ → ℝ) (p q r : ℕ) : ℝ :=
  ∑ d ∈ Finset.range 64, P (r / 112 + p) (r % 112 + q) d * W 0 0 d
    + ∑ d ∈ Finset.range 64, P (r / 112 + p) (r % 112 + (q + 1)) d * W 0 1 d
    + ∑ d ∈ Finset.range 64, P (r / 112 + (p + 1)) (r % 112 + q) d * W 1 0 d
    + ∑ d ∈ Finset.range 64, P (r / 112 + (p + 1)) (r % 112 + (q + 1)) d * W 1 1 d

theorem sum64 (f g : Fin 64 → EReal) (a b : ℕ → ℝ) (hf : ∀ d, f d = ((a d : ℝ) : EReal)) (hg : ∀ d, g d = ((b d : ℝ) : EReal)) :
    ∑ d, f d * g d = ((∑ d ∈ Finset.range 64, a d * b d : ℝ) : EReal) := by
  simp only [hf, hg, ← EReal.coe_mul]
  rw [coe_sum, Finset.sum_range]

theorem rows_eq (P : ℕ → ℕ → ℕ → ℝ) {a a' b b' c : ℕ} (ha : a = a') (hb : b = b') :
    ((P a b c : ℝ) : EReal) = ((P a' b' c : ℝ) : EReal) := by subst ha; subst hb; rfl

theorem four_coe (P : ℕ → ℕ → ℕ → ℝ) (W : ℕ → ℕ → ℕ → ℝ) (p q r : ℕ) (x00 x01 x10 x11 w00 w01 w10 w11 : Fin 64 → EReal)
    (f00 : ∀ d : Fin 64, x00 d = ((P (r / 112 + p) (r % 112 + q) d : ℝ) : EReal))
    (f01 : ∀ d : Fin 64, x01 d = ((P (r / 112 + p) (r % 112 + (q + 1)) d : ℝ) : EReal))
    (f10 : ∀ d : Fin 64, x10 d = ((P (r / 112 + (p + 1)) (r % 112 + q) d : ℝ) : EReal))
    (f11 : ∀ d : Fin 64, x11 d = ((P (r / 112 + (p + 1)) (r % 112 + (q + 1)) d : ℝ) : EReal))
    (h00 : ∀ d : Fin 64, w00 d = ((W 0 0 d : ℝ) : EReal)) (h01 : ∀ d : Fin 64, w01 d = ((W 0 1 d : ℝ) : EReal))
    (h10 : ∀ d : Fin 64, w10 d = ((W 1 0 d : ℝ) : EReal)) (h11 : ∀ d : Fin 64, w11 d = ((W 1 1 d : ℝ) : EReal)) :
    ∑ d, x00 d * w00 d + ∑ d, x01 d * w01 d + ∑ d, x10 d * w10 d + ∑ d, x11 d * w11 d = ((four P W p q r : ℝ) : EReal) := by
  rw [sum64 x00 w00 _ _ f00 h00, sum64 x01 w01 _ _ f01 h01, sum64 x10 w10 _ _ f10 h10, sum64 x11 w11 _ _ f11 h11]
  simp only [← EReal.coe_add]
  rfl

section
variable (v26 : FVec Ideal S10x114x64 .f32) (w00 w01 w10 w11 : Vec Ideal S1x1x1x1x64x4 .f32) (P : ℕ → ℕ → ℕ → ℝ) (W : ℕ → ℕ → ℕ → ℝ)
  (r : Fin 896) (o : Fin 4)
  (hP : ∀ (a : Fin 10) (b : Fin 114) (d : Fin 64), v26 (ix3 a b d) = ((P a b d : ℝ) : EReal))
  (h00 : ∀ d : Fin 64, w00 (ix6 0 0 0 0 d o) = ((W 0 0 d : ℝ) : EReal)) (h01 : ∀ d : Fin 64, w01 (ix6 0 0 0 0 d o) = ((W 0 1 d : ℝ) : EReal))
  (h10 : ∀ d : Fin 64, w10 (ix6 0 0 0 0 d o) = ((W 1 0 d : ℝ) : EReal)) (h11 : ∀ d : Fin 64, w11 (ix6 0 0 0 0 d o) = ((W 1 1 d : ℝ) : EReal))
include hP h00 h01 h10 h11

theorem plane00_pay : k2_pay10 v26 k2_pay8 (extractStridedSlice S8x112x64 ![0, 0, 0] v26 slices_S10x114x64_o0_0_0_S8x112x64) w00 w01 w10 w11 (ix2 r o)
    = ((four P W 0 0 r : ℝ) : EReal) := by
  pointwise [k2_pay10, k2_pay8]
  exact four_coe P W 0 0 r _ _ _ _ _ _ _ _ (fun d => (hP _ _ d).trans (rows_eq P (by (try dsimp only); omega) (by (try dsimp only); omega)))
    (fun d => (hP _ _ d).trans (rows_eq P (by (try dsimp only); omega) (by (try dsimp only); omega))) (fun d => (hP _ _ d).trans (rows_eq P (by (try dsimp only); omega) (by (try dsimp only); omega)))
    (fun d => (hP _ _ d).trans (rows_eq P (by (try dsimp only); omega) (by (try dsimp only); omega))) h00 h01 h10 h11

theorem plane01_pay : k2_pay16 v26 (k2_pay14 v26 w00 w01) (k2_pay15 v26) w10 w11 (ix2 r o)
    = ((four P W 0 1 r : ℝ) : EReal) := by
  pointwise [k2_pay14, k2_pay15, k2_pay16]
  exact four_coe P W 0 1 r _ _ _ _ _ _ _ _ (fun d => (hP _ _ d).trans (rows_eq P (by (try dsimp only); omega) (by (try dsimp only); omega)))
    (fun d => (hP _ _ d).trans (rows_eq P (by (try dsimp only); omega) (by (try dsimp only); omega))) (fun d => (hP _ _ d).trans (rows_eq P (by (try dsimp only); omega) (by (try dsimp only); omega)))
    (fun d => (hP _ _ d).trans (rows_eq P (by (try dsimp only); omega) (by (try dsimp only); omega))) h00 h01 h10 h11

theorem plane10_pay : k2_pay22 v26 k2_pay20 (k2_pay21 v26) w00 w01 w10 w11 (ix2 r o)
    = ((four P W 1 0 r : ℝ) : EReal) := by
  pointwise [k2_pay20, k2_pay21, k2_pay22]
  exact four_coe P W 1 0 r _ _ _ _ _ _ _ _ (fun d => (hP _ _ d).trans (rows_eq P (by (try dsimp only); omega) (by (try dsimp only); omega)))
    (fun d => (hP _ _ d).trans (rows_eq P (by (try dsimp only); omega) (by (try dsimp only); omega))) (fun d => (hP _ _ d).trans (rows_eq P (by (try dsimp only); omega) (by (try dsimp only); omega)))
    (fun d => (hP _ _ d).trans (rows_eq P (by (try dsimp only); omega) (by (try dsimp only); omega))) h00 h01 h10 h11

theorem plane11_pay : k2_pay1 (k2_pay26 v26 w00 w01 w10) (k2_pay27 v26) w11 (ix2 r o)
    = ((four P W 1 1 r : ℝ) : EReal) := by
  pointwise [k2_pay1, k2_pay26, k2_pay27]
  exact four_coe P W 1 1 r _ _ _ _ _ _ _ _ (fun d => (hP _ _ d).trans (rows_eq P (by (try dsimp only); omega) (by (try dsimp only); omega)))
    (fun d => (hP _ _ d).trans (rows_eq P (by (try dsimp only); omega) (by (try dsimp only); omega))) (fun d => (hP _ _ d).trans (rows_eq P (by (try dsimp only); omega) (by (try dsimp only); omega)))
    (fun d => (hP _ _ d).trans (rows_eq P (by (try dsimp only); omega) (by (try dsimp only); omega))) h00 h01 h10 h11

end

/-- The number of the call within its image, as the kernel computes it. -/
abbrev callOf (i : grid2.Coords) : BitVec 32 :=
  Scalar.select
    (Scalar.andi
      (Scalar.xori (Scalar.cmpi .slt (Scalar.remsi (BitVec.ofNat 32 (i 0).val) (Scalar.select (Scalar.cmpi .eq 14#32 0#32) 1#32 14#32)) 0#32)
        (Scalar.cmpi .slt (Scalar.select (Scalar.cmpi .eq 14#32 0#32) 1#32 14#32) 0#32))
      (Scalar.cmpi .ne (Scalar.remsi (BitVec.ofNat 32 (i 0).val) (Scalar.select (Scalar.cmpi .eq 14#32 0#32) 1#32 14#32)) 0#32))
    (Scalar.addi (Scalar.remsi (BitVec.ofNat 32 (i 0).val) (Scalar.select (Scalar.cmpi .eq 14#32 0#32) 1#32 14#32))
      (Scalar.select (Scalar.cmpi .eq 14#32 0#32) 1#32 14#32))
    (Scalar.remsi (BitVec.ofNat 32 (i 0).val) (Scalar.select (Scalar.cmpi .eq 14#32 0#32) 1#32 14#32))

theorem callOf_first : ∀ t : Fin cfg2.N, Scalar.cmpi .sgt (callOf (grid2.coords t)) 0#32 = if t.val % 14 = 0 then 0#1 else 1#1 := by
  decide +kernel
theorem callOf_last : ∀ t : Fin cfg2.N, Scalar.cmpi .slt (callOf (grid2.coords t)) 13#32 = if t.val % 14 = 13 then 0#1 else 1#1 := by
  decide +kernel

/-- The rows with their margins: one row above, eight rows, one row below, a column at either side. -/
theorem rows_pay (i : grid2.Coords) (v10 : Vec Ideal S1x8x112x64 .f32) (v13 v18 : Vec Ideal S1x1x112x64 .f32) (P : ℕ → ℕ → ℕ → ℝ)
    (hm : ∀ (a : Fin 8) (x : Fin 112) (d : Fin 64), v10 (ix4 0 a x d) = ((P (a + 1) (x + 1) d : ℝ) : EReal))
    (ht : ∀ (x : Fin 112) (d : Fin 64), Scalar.select (Scalar.cmpi .sgt (callOf i) 0#32) (v13 (ix4 0 0 x d)) (0 : EReal) = ((P 0 (x + 1) d : ℝ) : EReal))
    (hb : ∀ (x : Fin 112) (d : Fin 64), Scalar.select (Scalar.cmpi .slt (callOf i) 13#32) (v18 (ix4 0 0 x d)) (0 : EReal) = ((P 9 (x + 1) d : ℝ) : EReal))
    (hl : ∀ a d, P a 0 d = 0) (hr : ∀ a d, P a 113 d = 0) (a : Fin 10) (b : Fin 114) (d : Fin 64) :
    k2_pay5 i v10 v13 v18 (ix3 a b d) = ((P a b d : ℝ) : EReal) := by
  pointwise [k2_pay5]
  have ha' := a.isLt
  have hb' := b.isLt
  have z : (0 : EReal) = ((0 : ℝ) : EReal) := rfl
  by_cases h : b.val < 1
  · rw [dif_pos h]
    refine Eq.trans z (congrArg (fun r : ℝ => (r : EReal)) ?_)
    rw [show b.val = 0 by omega, hl]
  rw [dif_neg h]
  by_cases h' : b.val - 1 < 112
  · rw [dif_pos h']
    by_cases k : a.val < 1
    · rw [dif_pos k]
      exact (ht ⟨b.val - 1, h'⟩ d).trans (rows_eq P (by omega) (show b.val - 1 + 1 = b.val by omega))
    rw [dif_neg k]
    by_cases k' : a.val - 1 < 8
    · rw [dif_pos k']
      exact (hm ⟨a.val - 1, k'⟩ ⟨b.val - 1, h'⟩ d).trans (rows_eq P (show a.val - 1 + 1 = a.val by omega) (show b.val - 1 + 1 = b.val by omega))
    · rw [dif_neg k']
      exact (hb ⟨b.val - 1, h'⟩ d).trans (rows_eq P (by omega) (show b.val - 1 + 1 = b.val by omega))
  · rw [dif_neg h']
    refine Eq.trans z (congrArg (fun r : ℝ => (r : EReal)) ?_)
    rw [show b.val = 113 by omega, hr]

/-! ### The running sums: one plane's share -/

section
variable (f : ℕ → ℝ) (s : ℝ) (o : Fin 4) (p : Vec Ideal S1x4 .f32) (hp : p (ix2 0 o) = ((s : ℝ) : EReal))
include hp

theorem sum00_pay (v : FVec Ideal S896x4 .f32) (hf : ∀ r : Fin 896, v (ix2 r o) = ((f r : ℝ) : EReal)) :
    k2_pay12 v p (ix2 0 o) = ((s + ∑ r ∈ Finset.range 896, f r : ℝ) : EReal) := by
  pointwise [k2_pay12]
  simp only [hf, hp]
  rw [coe_sum, Finset.sum_range]
  exact (EReal.coe_add _ _).symm

theorem square00_pay (v : FVec Ideal S896x4 .f32) (hf : ∀ r : Fin 896, v (ix2 r o) = ((f r : ℝ) : EReal)) :
    k2_pay13 v p (ix2 0 o) = ((s + ∑ r ∈ Finset.range 896, f r * f r : ℝ) : EReal) := by
  pointwise [k2_pay13]
  simp only [hf, hp, ← EReal.coe_mul]
  rw [coe_sum, Finset.sum_range]
  exact (EReal.coe_add _ _).symm

end

/-! ### The last normalisation -/

/-- One plane normalised and squashed. -/
theorem squash_pay (s1 s2 g b : Vec Ideal S1x4 .f32) (v : Vec Ideal S1x8x112x4 .f32) (f : ℕ → ℕ → ℕ → ℝ) (G B : ℝ) (n y x : ℕ)
    (i : Fin 8) (j : Fin 112) (o : Fin 4)
    (h1 : s1 (ix2 0 o) = ((tot f : ℝ) : EReal)) (h2 : s2 (ix2 0 o) = ((tot (fun b y x => f b y x * f b y x) : ℝ) : EReal))
    (hg : g (ix2 0 o) = ((G : ℝ) : EReal)) (hb : b (ix2 0 o) = ((B : ℝ) : EReal)) (hf : v (ix4 0 i j o) = ((f n y x : ℝ) : EReal)) :
    k3_pay7 s1 s2 g b v (ix4 0 i j o) = ((Real.tanh (bn f G B n y x) : ℝ) : EReal) := by
  have e := congrArg Ideal.tanh (scale_shift f G B n y x _ _ _ _ _ h1 h2 hg hb hf)
  refine Eq.trans ?_ (e.trans (Ideal.tanh_coe _))
  pointwise [k3_pay7, k3_pay5, k3_pay6, k3_pay4]

end Cert.KerVal
-- ==== Proof.KerOut2.lean ====
/-
  What one call of the decoding kernel leaves: the four output planes of its rows, and the two
  running sums, over the blocks it read.
-/
module

public import proofs.«01_k».proof.Proof.KerOut0
public import proofs.«01_k».proof.Proof.Gen.KernelIdeal.Frame.Region2
public import Idealize.ShloMosaic.Lib.Pipeline.Value
public import Idealize.ShloMosaic.Lib.Tactic

@[expose] public section

noncomputable section

open Idealize.ShloMosaic Idealize.ShloMosaic.TcCoe Idealize.SL.Sem
open Cert.KernelIdeal Cert.KernelIdeal.Gen

namespace Cert.KerVal

variable {F : FTy → Type} [FloatOps F]
variable (V : (c : Dev nD) → (b : Ref sig .tc) → Buf (Elt F) ((c : Thread nD τ).loc b))

/-- The codeword rows of one call, with a margin of one pixel all round. -/
abbrev rows2 (c : Dev nD) (t : Fin cfg2.N) : FVec F S10x114x64 .f32 :=
  k2_pay5 (grid2.coords t) (iblk2 V c 0 t)
    (View.ld (iblk2 V c 1 t) (Rect.unit (s := S1x8x112x64) ![0, 7, 0, 0] S1x1x112x64.size inb_S1x8x112x64_S1x1x112x64_0_7_0_0))
    (View.ld (iblk2 V c 2 t) (Rect.unit (s := S1x8x112x64) ![0, 0, 0, 0] S1x1x112x64.size inb_S1x8x112x64_S1x1x112x64_0_0_0_0))

/-- The first corner of the rows of one call. -/
abbrev corner2 (c : Dev nD) (t : Fin cfg2.N) : FVec F S8x112x64 .f32 :=
  k2_pay9 (grid2.coords t) (iblk2 V c 0 t)
    (View.ld (iblk2 V c 1 t) (Rect.unit (s := S1x8x112x64) ![0, 7, 0, 0] S1x1x112x64.size inb_S1x8x112x64_S1x1x112x64_0_7_0_0))
    (View.ld (iblk2 V c 2 t) (Rect.unit (s := S1x8x112x64) ![0, 0, 0, 0] S1x1x112x64.size inb_S1x8x112x64_S1x1x112x64_0_0_0_0))

/-- The second convolution at the even rows and even columns of one call. -/
abbrev plane00 (c : Dev nD) (t : Fin cfg2.N) : FVec F S896x4 .f32 := k2_pay10 (rows2 V c t) (k2_pay8 (F := F)) (corner2 V c t) (View.ld (iblk2 V c 3 t) (Rect.unit (s := S2x2x2x2x64x4) ![0, 0, 0, 0, 0, 0] S1x1x1x1x64x4.size inb_S2x2x2x2x64x4_S1x1x1x1x64x4_0_0_0_0_0_0)) (View.ld (iblk2 V c 3 t) (Rect.unit (s := S2x2x2x2x64x4) ![0, 0, 0, 1, 0, 0] S1x1x1x1x64x4.size inb_S2x2x2x2x64x4_S1x1x1x1x64x4_0_0_0_1_0_0)) (View.ld (iblk2 V c 3 t) (Rect.unit (s := S2x2x2x2x64x4) ![0, 0, 1, 0, 0, 0] S1x1x1x1x64x4.size inb_S2x2x2x2x64x4_S1x1x1x1x64x4_0_0_1_0_0_0)) (View.ld (iblk2 V c 3 t) (Rect.unit (s := S2x2x2x2x64x4) ![0, 0, 1, 1, 0, 0] S1x1x1x1x64x4.size inb_S2x2x2x2x64x4_S1x1x1x1x64x4_0_0_1_1_0_0))

/-- The second convolution at the even rows and odd columns of one call. -/
abbrev plane01 (c : Dev nD) (t : Fin cfg2.N) : FVec F S896x4 .f32 := k2_pay16 (rows2 V c t) (k2_pay14 (rows2 V c t) (View.ld (iblk2 V c 3 t) (Rect.unit (s := S2x2x2x2x64x4) ![0, 1, 0, 0, 0, 0] S1x1x1x1x64x4.size inb_S2x2x2x2x64x4_S1x1x1x1x64x4_0_1_0_0_0_0)) (View.ld (iblk2 V c 3 t) (Rect.unit (s := S2x2x2x2x64x4) ![0, 1, 0, 1, 0, 0] S1x1x1x1x64x4.size inb_S2x2x2x2x64x4_S1x1x1x1x64x4_0_1_0_1_0_0))) (k2_pay15 (rows2 V c t)) (View.ld (iblk2 V c 3 t) (Rect.unit (s := S2x2x2x2x64x4) ![0, 1, 1, 0, 0, 0] S1x1x1x1x64x4.size inb_S2x2x2x2x64x4_S1x1x1x1x64x4_0_1_1_0_0_0)) (View.ld (iblk2 V c 3 t) (Rect.unit (s := S2x2x2x2x64x4) ![0, 1, 1, 1, 0, 0] S1x1x1x1x64x4.size inb_S2x2x2x2x64x4_S1x1x1x1x64x4_0_1_1_1_0_0))

/-- The second convolution at the odd rows and even columns of one call. -/
abbrev plane10 (c : Dev nD) (t : Fin cfg2.N) : FVec F S896x4 .f32 := k2_pay22 (rows2 V c t) (k2_pay20 (F := F)) (k2_pay21 (rows2 V c t)) (View.ld (iblk2 V c 3 t) (Rect.unit (s := S2x2x2x2x64x4) ![1, 0, 0, 0, 0, 0] S1x1x1x1x64x4.size inb_S2x2x2x2x64x4_S1x1x1x1x64x4_1_0_0_0_0_0)) (View.ld (iblk2 V c 3 t) (Rect.unit (s := S2x2x2x2x64x4) ![1, 0, 0, 1, 0, 0] S1x1x1x1x64x4.size inb_S2x2x2x2x64x4_S1x1x1x1x64x4_1_0_0_1_0_0)) (View.ld (iblk2 V c 3 t) (Rect.unit (s := S2x2x2x2x64x4) ![1, 0, 1, 0, 0, 0] S1x1x1x1x64x4.size inb_S2x2x2x2x64x4_S1x1x1x1x64x4_1_0_1_0_0_0)) (View.ld (iblk2 V c 3 t) (Rect.unit (s := S2x2x2x2x64x4) ![1, 0, 1, 1, 0, 0] S1x1x1x1x64x4.size inb_S2x2x2x2x64x4_S1x1x1x1x64x4_1_0_1_1_0_0))

/-- The second convolution at the odd rows and odd columns of one call. -/
abbrev plane11 (c : Dev nD) (t : Fin cfg2.N) : FVec F S896x4 .f32 := k2_pay1 (k2_pay26 (rows2 V c t) (View.ld (iblk2 V c 3 t) (Rect.unit (s := S2x2x2x2x64x4) ![1, 1, 0, 0, 0, 0] S1x1x1x1x64x4.size inb_S2x2x2x2x64x4_S1x1x1x1x64x4_1_1_0_0_0_0)) (View.ld (iblk2 V c 3 t) (Rect.unit (s := S2x2x2x2x64x4) ![1, 1, 0, 1, 0, 0] S1x1x1x1x64x4.size inb_S2x2x2x2x64x4_S1x1x1x1x64x4_1_1_0_1_0_0)) (View.ld (iblk2 V c 3 t) (Rect.unit (s := S2x2x2x2x64x4) ![1, 1, 1, 0, 0, 0] S1x1x1x1x64x4.size inb_S2x2x2x2x64x4_S1x1x1x1x64x4_1_1_1_0_0_0))) (k2_pay27 (rows2 V c t)) (View.ld (iblk2 V c 3 t) (Rect.unit (s := S2x2x2x2x64x4) ![1, 1, 1, 1, 0, 0] S1x1x1x1x64x4.size inb_S2x2x2x2x64x4_S1x1x1x1x64x4_1_1_1_1_0_0))

/-- The running sum after one call. -/
abbrev sum2 (c : Dev nD) (t : Fin cfg2.N) (s : Vec F S1x4 .f32) : FVec F S1x4 .f32 :=
  k2_pay3 (k2_pay26 (rows2 V c t) (View.ld (iblk2 V c 3 t) (Rect.unit (s := S2x2x2x2x64x4) ![1, 1, 0, 0, 0, 0] S1x1x1x1x64x4.size inb_S2x2x2x2x64x4_S1x1x1x1x64x4_1_1_0_0_0_0)) (View.ld (iblk2 V c 3 t) (Rect.unit (s := S2x2x2x2x64x4) ![1, 1, 0, 1, 0, 0] S1x1x1x1x64x4.size inb_S2x2x2x2x64x4_S1x1x1x1x64x4_1_1_0_1_0_0)) (View.ld (iblk2 V c 3 t) (Rect.unit (s := S2x2x2x2x64x4) ![1, 1, 1, 0, 0, 0] S1x1x1x1x64x4.size inb_S2x2x2x2x64x4_S1x1x1x1x64x4_1_1_1_0_0_0))) (k2_pay27 (rows2 V c t)) (View.ld (iblk2 V c 3 t) (Rect.unit (s := S2x2x2x2x64x4) ![1, 1, 1, 1, 0, 0] S1x1x1x1x64x4.size inb_S2x2x2x2x64x4_S1x1x1x1x64x4_1_1_1_1_0_0))
    (k2_pay24 (rows2 V c t) (k2_pay20 (F := F)) (k2_pay21 (rows2 V c t)) (View.ld (iblk2 V c 3 t) (Rect.unit (s := S2x2x2x2x64x4) ![1, 0, 0, 0, 0, 0] S1x1x1x1x64x4.size inb_S2x2x2x2x64x4_S1x1x1x1x64x4_1_0_0_0_0_0)) (View.ld (iblk2 V c 3 t) (Rect.unit (s := S2x2x2x2x64x4) ![1, 0, 0, 1, 0, 0] S1x1x1x1x64x4.size inb_S2x2x2x2x64x4_S1x1x1x1x64x4_1_0_0_1_0_0)) (View.ld (iblk2 V c 3 t) (Rect.unit (s := S2x2x2x2x64x4) ![1, 0, 1, 0, 0, 0] S1x1x1x1x64x4.size inb_S2x2x2x2x64x4_S1x1x1x1x64x4_1_0_1_0_0_0)) (View.ld (iblk2 V c 3 t) (Rect.unit (s := S2x2x2x2x64x4) ![1, 0, 1, 1, 0, 0] S1x1x1x1x64x4.size inb_S2x2x2x2x64x4_S1x1x1x1x64x4_1_0_1_1_0_0))
      (k2_pay18 (rows2 V c t) (k2_pay14 (rows2 V c t) (View.ld (iblk2 V c 3 t) (Rect.unit (s := S2x2x2x2x64x4) ![0, 1, 0, 0, 0, 0] S1x1x1x1x64x4.size inb_S2x2x2x2x64x4_S1x1x1x1x64x4_0_1_0_0_0_0)) (View.ld (iblk2 V c 3 t) (Rect.unit (s := S2x2x2x2x64x4) ![0, 1, 0, 1, 0, 0] S1x1x1x1x64x4.size inb_S2x2x2x2x64x4_S1x1x1x1x64x4_0_1_0_1_0_0))) (k2_pay15 (rows2 V c t)) (View.ld (iblk2 V c 3 t) (Rect.unit (s := S2x2x2x2x64x4) ![0, 1, 1, 0, 0, 0] S1x1x1x1x64x4.size inb_S2x2x2x2x64x4_S1x1x1x1x64x4_0_1_1_0_0_0)) (View.ld (iblk2 V c 3 t) (Rect.unit (s := S2x2x2x2x64x4) ![0, 1, 1, 1, 0, 0] S1x1x1x1x64x4.size inb_S2x2x2x2x64x4_S1x1x1x1x64x4_0_1_1_1_0_0))
        (k2_pay12 (plane00 V c t) s)))

/-- The running sum of squares after one call. -/
abbrev square2 (c : Dev nD) (t : Fin cfg2.N) (s : Vec F S1x4 .f32) : FVec F S1x4 .f32 :=
  k2_pay4 (k2_pay26 (rows2 V c t) (View.ld (iblk2 V c 3 t) (Rect.unit (s := S2x2x2x2x64x4) ![1, 1, 0, 0, 0, 0] S1x1x1x1x64x4.size inb_S2x2x2x2x64x4_S1x1x1x1x64x4_1_1_0_0_0_0)) (View.ld (iblk2 V c 3 t) (Rect.unit (s := S2x2x2x2x64x4) ![1, 1, 0, 1, 0, 0] S1x1x1x1x64x4.size inb_S2x2x2x2x64x4_S1x1x1x1x64x4_1_1_0_1_0_0)) (View.ld (iblk2 V c 3 t) (Rect.unit (s := S2x2x2x2x64x4) ![1, 1, 1, 0, 0, 0] S1x1x1x1x64x4.size inb_S2x2x2x2x64x4_S1x1x1x1x64x4_1_1_1_0_0_0))) (k2_pay27 (rows2 V c t)) (View.ld (iblk2 V c 3 t) (Rect.unit (s := S2x2x2x2x64x4) ![1, 1, 1, 1, 0, 0] S1x1x1x1x64x4.size inb_S2x2x2x2x64x4_S1x1x1x1x64x4_1_1_1_1_0_0))
    (k2_pay25 (plane10 V c t)
      (k2_pay19 (rows2 V c t) (k2_pay14 (rows2 V c t) (View.ld (iblk2 V c 3 t) (Rect.unit (s := S2x2x2x2x64x4) ![0, 1, 0, 0, 0, 0] S1x1x1x1x64x4.size inb_S2x2x2x2x64x4_S1x1x1x1x64x4_0_1_0_0_0_0)) (View.ld (iblk2 V c 3 t) (Rect.unit (s := S2x2x2x2x64x4) ![0, 1, 0, 1, 0, 0] S1x1x1x1x64x4.size inb_S2x2x2x2x64x4_S1x1x1x1x64x4_0_1_0_1_0_0))) (k2_pay15 (rows2 V c t)) (View.ld (iblk2 V c 3 t) (Rect.unit (s := S2x2x2x2x64x4) ![0, 1, 1, 0, 0, 0] S1x1x1x1x64x4.size inb_S2x2x2x2x64x4_S1x1x1x1x64x4_0_1_1_0_0_0)) (View.ld (iblk2 V c 3 t) (Rect.unit (s := S2x2x2x2x64x4) ![0, 1, 1, 1, 0, 0] S1x1x1x1x64x4.size inb_S2x2x2x2x64x4_S1x1x1x1x64x4_0_1_1_1_0_0))
        (k2_pay13 (plane00 V c t) s)))

/-- One plane laid out in rows and columns. -/
abbrev laid2 (a : FVec F S896x4 .f32) : FVec F S1x8x112x4 .f32 :=
  shapeCast S1x8x112x4 a shapeCasts_S896x4_S1x8x112x4

theorem outs2_start (c : Dev nD) (t : Fin cfg2.N) (h : t.val % 56 = 0) :
    outsAt2 V c t.val t.isLt
      = (laid2 (plane00 V c t), laid2 (plane01 V c t), laid2 (plane10 V c t), laid2 (plane11 V c t),
         sum2 V c t k2_pay6, square2 V c t k2_pay7) := by
  rw [outsAt2_A V c t h]
  refine Prod.ext ?_ (Prod.ext ?_ (Prod.ext ?_ (Prod.ext ?_ (Prod.ext ?_ ?_)))) <;> dsimp only
  · unfold out2_A_4
    rw [View.read_writes_eq_canon _ _ _ (cover2_A_4 c _ _ _ _ _ _ _ _ _ _ _ _ _ _ _ _ _ _ _ _ _ _ _ _ _ _)]
    unfold kernelRun2_A
    dsimp only
    sl_unfold_words
    rw [View.canon_unit_zero hz4]
    simp only [View.readAt_eq_ld, (hs2_0 t).read_unread, (hs2_1 t).read_unread, (hs2_2 t).read_unread, (hs2_3 t).read_unread, (hs2_8 t).read_unread, (hs2_9 t).read_unread, View.ld_unit_zero (S := S1x8x112x64) hz4, View.ld_unit_zero (S := S1x4) hz2]
    rfl
  · unfold out2_A_5
    rw [View.read_writes_eq_canon _ _ _ (cover2_A_5 c _ _ _ _ _ _ _ _ _ _ _ _ _ _ _ _ _ _ _ _ _ _ _ _ _ _)]
    unfold kernelRun2_A
    dsimp only
    sl_unfold_words
    rw [View.canon_unit_zero hz4]
    simp only [View.readAt_eq_ld, (hs2_0 t).read_unread, (hs2_1 t).read_unread, (hs2_2 t).read_unread, (hs2_3 t).read_unread, (hs2_8 t).read_unread, (hs2_9 t).read_unread, View.ld_unit_zero (S := S1x8x112x64) hz4, View.ld_unit_zero (S := S1x4) hz2]
    rfl
  · unfold out2_A_6
    rw [View.read_writes_eq_canon _ _ _ (cover2_A_6 c _ _ _ _ _ _ _ _ _ _ _ _ _ _ _ _ _ _ _ _ _ _ _ _ _ _)]
    unfold kernelRun2_A
    dsimp only
    sl_unfold_words
    rw [View.canon_unit_zero hz4]
    simp only [View.readAt_eq_ld, (hs2_0 t).read_unread, (hs2_1 t).read_unread, (hs2_2 t).read_unread, (hs2_3 t).read_unread, (hs2_8 t).read_unread, (hs2_9 t).read_unread, View.ld_unit_zero (S := S1x8x112x64) hz4, View.ld_unit_zero (S := S1x4) hz2]
    rfl
  · unfold out2_A_7
    rw [View.read_writes_eq_canon _ _ _ (cover2_A_7 c _ _ _ _ _ _ _ _ _ _ _ _ _ _ _ _ _ _ _ _ _ _ _ _ _ _)]
    unfold kernelRun2_A
    dsimp only
    sl_unfold_words
    rw [View.canon_unit_zero hz4]
    simp only [View.readAt_eq_ld, (hs2_0 t).read_unread, (hs2_1 t).read_unread, (hs2_2 t).read_unread, (hs2_3 t).read_unread, (hs2_8 t).read_unread, (hs2_9 t).read_unread, View.ld_unit_zero (S := S1x8x112x64) hz4, View.ld_unit_zero (S := S1x4) hz2]
    rfl
  · unfold out2_A_8
    rw [View.read_writes_eq_canon _ _ _ (cover2_A_8 c _ _ _ _ _ _ _ _ _ _ _ _ _ _ _ _ _ _ _ _ _ _ _ _ _ _)]
    unfold kernelRun2_A
    dsimp only
    sl_unfold_words
    rw [View.canon_cons_unit_zero (S := S1x4) hz2]
    simp only [View.readCov_cons_toLoadRect]
    simp only [View.readAt_eq_ld, (hs2_0 t).read_unread, (hs2_1 t).read_unread, (hs2_2 t).read_unread, (hs2_3 t).read_unread, (hs2_8 t).read_unread, (hs2_9 t).read_unread, View.ld_unit_zero (S := S1x8x112x64) hz4, View.ld_unit_zero (S := S1x4) hz2]
    rfl
  · unfold out2_A_9
    rw [View.read_writes_eq_canon _ _ _ (cover2_A_9 c _ _ _ _ _ _ _ _ _ _ _ _ _ _ _ _ _ _ _ _ _ _ _ _ _ _)]
    unfold kernelRun2_A
    dsimp only
    sl_unfold_words
    rw [View.canon_cons_unit_zero (S := S1x4) hz2]
    simp only [View.readCov_cons_toLoadRect]
    simp only [View.readAt_eq_ld, (hs2_0 t).read_unread, (hs2_1 t).read_unread, (hs2_2 t).read_unread, (hs2_3 t).read_unread, (hs2_8 t).read_unread, (hs2_9 t).read_unread, View.ld_unit_zero (S := S1x8x112x64) hz4, View.ld_unit_zero (S := S1x4) hz2]
    rfl

theorem outs2_step (c : Dev nD) (t : Fin cfg2.N) (h : ¬t.val % 56 = 0) :
    outsAt2 V c t.val t.isLt
      = (laid2 (plane00 V c t), laid2 (plane01 V c t), laid2 (plane10 V c t), laid2 (plane11 V c t),
         sum2 V c t (outsAt2 V c (t.val - 1) (Nat.lt_of_le_of_lt (Nat.sub_le _ _) t.isLt)).2.2.2.2.1,
         square2 V c t (outsAt2 V c (t.val - 1) (Nat.lt_of_le_of_lt (Nat.sub_le _ _) t.isLt)).2.2.2.2.2) := by
  rw [outsAt2_B V c t h]
  refine Prod.ext ?_ (Prod.ext ?_ (Prod.ext ?_ (Prod.ext ?_ (Prod.ext ?_ ?_)))) <;> dsimp only
  · unfold out2_B_4
    rw [View.read_writes_eq_canon _ _ _ (cover2_B_4 c _ _ _ _ _ _ _ _ _ _ _ _ _ _ _ _ _ _ _ _ _ _ _ _ _ _ _ _)]
    unfold kernelRun2_B
    dsimp only
    sl_unfold_words
    rw [View.canon_unit_zero hz4]
    simp only [View.readAt_eq_ld, (hs2_0 t).read_unread, (hs2_1 t).read_unread, (hs2_2 t).read_unread, (hs2_3 t).read_unread, (hs2_8 t).read_unread, (hs2_9 t).read_unread, View.ld_unit_zero (S := S1x8x112x64) hz4, View.ld_unit_zero (S := S1x4) hz2]
    rfl
  · unfold out2_B_5
    rw [View.read_writes_eq_canon _ _ _ (cover2_B_5 c _ _ _ _ _ _ _ _ _ _ _ _ _ _ _ _ _ _ _ _ _ _ _ _ _ _ _ _)]
    unfold kernelRun2_B
    dsimp only
    sl_unfold_words
    rw [View.canon_unit_zero hz4]
    simp only [View.readAt_eq_ld, (hs2_0 t).read_unread, (hs2_1 t).read_unread, (hs2_2 t).read_unread, (hs2_3 t).read_unread, (hs2_8 t).read_unread, (hs2_9 t).read_unread, View.ld_unit_zero (S := S1x8x112x64) hz4, View.ld_unit_zero (S := S1x4) hz2]
    rfl
  · unfold out2_B_6
    rw [View.read_writes_eq_canon _ _ _ (cover2_B_6 c _ _ _ _ _ _ _ _ _ _ _ _ _ _ _ _ _ _ _ _ _ _ _ _ _ _ _ _)]
    unfold kernelRun2_B
    dsimp only
    sl_unfold_words
    rw [View.canon_unit_zero hz4]
    simp only [View.readAt_eq_ld, (hs2_0 t).read_unread, (hs2_1 t).read_unread, (hs2_2 t).read_unread, (hs2_3 t).read_unread, (hs2_8 t).read_unread, (hs2_9 t).read_unread, View.ld_unit_zero (S := S1x8x112x64) hz4, View.ld_unit_zero (S := S1x4) hz2]
    rfl
  · unfold out2_B_7
    rw [View.read_writes_eq_canon _ _ _ (cover2_B_7 c _ _ _ _ _ _ _ _ _ _ _ _ _ _ _ _ _ _ _ _ _ _ _ _ _ _ _ _)]
    unfold kernelRun2_B
    dsimp only
    sl_unfold_words
    rw [View.canon_unit_zero hz4]
    simp only [View.readAt_eq_ld, (hs2_0 t).read_unread, (hs2_1 t).read_unread, (hs2_2 t).read_unread, (hs2_3 t).read_unread, (hs2_8 t).read_unread, (hs2_9 t).read_unread, View.ld_unit_zero (S := S1x8x112x64) hz4, View.ld_unit_zero (S := S1x4) hz2]
    rfl
  · unfold out2_B_8
    rw [View.read_writes_eq_canon _ _ _ (cover2_B_8 c _ _ _ _ _ _ _ _ _ _ _ _ _ _ _ _ _ _ _ _ _ _ _ _ _ _ _ _)]
    unfold kernelRun2_B
    dsimp only
    sl_unfold_words
    rw [View.canon_cons_unit_zero (S := S1x4) hz2]
    simp only [View.readCov_cons_toLoadRect]
    simp only [View.readAt_eq_ld, (hs2_0 t).read_unread, (hs2_1 t).read_unread, (hs2_2 t).read_unread, (hs2_3 t).read_unread, (hs2_8 t).read_unread, (hs2_9 t).read_unread, View.ld_unit_zero (S := S1x8x112x64) hz4, View.ld_unit_zero (S := S1x4) hz2]
    rfl
  · unfold out2_B_9
    rw [View.read_writes_eq_canon _ _ _ (cover2_B_9 c _ _ _ _ _ _ _ _ _ _ _ _ _ _ _ _ _ _ _ _ _ _ _ _ _ _ _ _)]
    unfold kernelRun2_B
    dsimp only
    sl_unfold_words
    rw [View.canon_cons_unit_zero (S := S1x4) hz2]
    simp only [View.readCov_cons_toLoadRect]
    simp only [View.readAt_eq_ld, (hs2_0 t).read_unread, (hs2_1 t).read_unread, (hs2_2 t).read_unread, (hs2_3 t).read_unread, (hs2_8 t).read_unread, (hs2_9 t).read_unread, View.ld_unit_zero (S := S1x8x112x64) hz4, View.ld_unit_zero (S := S1x4) hz2]
    rfl

end Cert.KerVal
-- ==== Proof.KerBlk2.lean ====
/-
  The blocks the decoding kernels are handed, as parts of the arrays they are cut from, and how
  their blocks of eight rows make up the planes: call `t` is image `t / 14`, rows `8 * (t % 14)` on.
-/
module

public import proofs.«01_k».proof.Proof.KerOut2
public import proofs.«01_k».proof.Proof.Gen.KernelIdeal.Frame
public import Idealize.ShloMosaic.Lib.Pipeline.Value
public import Idealize.ShloMosaic.Lib.Pointwise

@[expose] public section

noncomputable section

open Idealize.ShloMosaic Idealize.ShloMosaic.TcCoe Idealize.SL.Sem
open Cert.KernelIdeal Cert.KernelIdeal.Gen

namespace Cert.KerVal

variable {F : FTy → Type} [FloatOps F]
variable (V : (c : Dev nD) → (b : Ref sig .tc) → Buf (Elt F) ((c : Thread nD τ).loc b))

theorem index2_0 : ∀ t : Fin cfg2.N, win2_0.index t 0 = t.val ∧ win2_0.index t 1 = 0 ∧ win2_0.index t 2 = 0 ∧ win2_0.index t 3 = 0 := by
  decide +kernel
theorem index2_1 : ∀ t : Fin cfg2.N, win2_1.index t 0 = t.val - 1 ∧ win2_1.index t 1 = 0 ∧ win2_1.index t 2 = 0 ∧ win2_1.index t 3 = 0 := by
  decide +kernel
theorem index2_2 : ∀ t : Fin cfg2.N, win2_2.index t 0 = min (t.val + 1) 55 ∧ win2_2.index t 1 = 0 ∧ win2_2.index t 2 = 0 ∧ win2_2.index t 3 = 0 := by
  decide +kernel

theorem lt2 (t : Fin cfg2.N) : t.val < 56 := lt_of_lt_of_eq t.isLt (show cfg2.N = 56 from N_2)
theorem lt3 (t : Fin cfg3.N) : t.val < 56 := lt_of_lt_of_eq t.isLt (show cfg3.N = 56 from N_3)

theorem blk2_0 (c : Dev nD) (t : Fin cfg2.N) (y : Fin 8) (x : Fin 112) (d : Fin 64) :
    (iblk2 V c 0 t : Vec F S1x8x112x64 .f32) (ix4 0 y x d) = V c main_v192 (ix4 ⟨t.val, lt2 t⟩ y x d) := by
  have hi := index2_0 t
  unfold iblk2
  rw [View.read_apply]
  show V c main_v192 _ = V c main_v192 _
  congr 1
  funext a
  apply Fin.ext
  match a with
  | ⟨0, _⟩ => show win2_0.index t 0 * 1 + 1 * 0 = t.val; rw [hi.1]; omega
  | ⟨1, _⟩ => show win2_0.index t 1 * 8 + 1 * y.val = y.val; rw [hi.2.1]; omega
  | ⟨2, _⟩ => show win2_0.index t 2 * 112 + 1 * x.val = x.val; rw [hi.2.2.1]; omega
  | ⟨3, _⟩ => show win2_0.index t 3 * 64 + 1 * d.val = d.val; rw [hi.2.2.2]; omega

/-- The row above: the last row of the call before. -/
theorem blk2_1 (c : Dev nD) (t : Fin cfg2.N) (x : Fin 112) (d : Fin 64) :
    View.ld (iblk2 V c 1 t : Vec F S1x8x112x64 .f32) (Rect.unit (s := S1x8x112x64) ![0, 7, 0, 0] S1x1x112x64.size inb_S1x8x112x64_S1x1x112x64_0_7_0_0) (ix4 0 0 x d)
      = V c main_v192 (ix4 ⟨t.val - 1, by have := lt2 t; omega⟩ 7 x d) := by
  have hi := index2_1 t
  unfold iblk2
  show View.read (Elt F) _ _ _ = _
  rw [View.read_apply]
  show V c main_v192 _ = V c main_v192 _
  congr 1
  funext a
  apply Fin.ext
  match a with
  | ⟨0, _⟩ => show win2_1.index t 0 * 1 + 1 * (0 + 1 * 0) = t.val - 1; rw [hi.1]; omega
  | ⟨1, _⟩ => show win2_1.index t 1 * 8 + 1 * (7 + 1 * 0) = 7; rw [hi.2.1]
  | ⟨2, _⟩ => show win2_1.index t 2 * 112 + 1 * (0 + 1 * x.val) = x.val; rw [hi.2.2.1]; omega
  | ⟨3, _⟩ => show win2_1.index t 3 * 64 + 1 * (0 + 1 * d.val) = d.val; rw [hi.2.2.2]; omega

/-- The row below: the first row of the call after. -/
theorem blk2_2 (c : Dev nD) (t : Fin cfg2.N) (x : Fin 112) (d : Fin 64) :
    View.ld (iblk2 V c 2 t : Vec F S1x8x112x64 .f32) (Rect.unit (s := S1x8x112x64) ![0, 0, 0, 0] S1x1x112x64.size inb_S1x8x112x64_S1x1x112x64_0_0_0_0) (ix4 0 0 x d)
      = V c main_v192 (ix4 ⟨min (t.val + 1) 55, by omega⟩ 0 x d) := by
  have hi := index2_2 t
  unfold iblk2
  show View.read (Elt F) _ _ _ = _
  rw [View.read_apply]
  show V c main_v192 _ = V c main_v192 _
  congr 1
  funext a
  apply Fin.ext
  match a with
  | ⟨0, _⟩ => show win2_2.index t 0 * 1 + 1 * (0 + 1 * 0) = min (t.val + 1) 55; rw [hi.1]; omega
  | ⟨1, _⟩ => show win2_2.index t 1 * 8 + 1 * (0 + 1 * 0) = 0; rw [hi.2.1]
  | ⟨2, _⟩ => show win2_2.index t 2 * 112 + 1 * (0 + 1 * x.val) = x.val; rw [hi.2.2.1]; omega
  | ⟨3, _⟩ => show win2_2.index t 3 * 64 + 1 * (0 + 1 * d.val) = d.val; rw [hi.2.2.2]; omega

theorem blk2_3 (c : Dev nD) (t : Fin cfg2.N) : (iblk2 V c 3 t : Vec F S2x2x2x2x64x4 .f32) = V c main_v179 := by
  have hz' : (fun a => win2_3.index t a * main_v179.ty.shape.size a) = fun _ => 0 := funext fun a => by fin_cases a <;> exact Nat.zero_mul _
  exact Memref.read_access_unit_zero (Elt F) main_v179 hz' (fun a => by rw [congrFun hz' a]; simp) (V c main_v179)

/-- One group of the summed weights. -/
theorem ld_wts (v : Vec F S2x2x2x2x64x4 .f32) (p q a e : Fin 2) (inb : ∀ k, (![p.val, q.val, a.val, e.val, 0, 0] : Fin 6 → ℕ) k + S1x1x1x1x64x4.size k ≤ S2x2x2x2x64x4.size k)
    (d : Fin 64) (o : Fin 4) :
    View.ld v (Rect.unit (s := S2x2x2x2x64x4) ![p.val, q.val, a.val, e.val, 0, 0] S1x1x1x1x64x4.size inb) (ix6 0 0 0 0 d o) = v (ix6 p q a e d o) := by
  show v _ = v _
  congr 1
  funext k
  apply Fin.ext
  match k with
  | ⟨0, _⟩ => show p.val + 1 * 0 = p.val; omega
  | ⟨1, _⟩ => show q.val + 1 * 0 = q.val; omega
  | ⟨2, _⟩ => show a.val + 1 * 0 = a.val; omega
  | ⟨3, _⟩ => show e.val + 1 * 0 = e.val; omega
  | ⟨4, _⟩ => show 0 + 1 * d.val = d.val; omega
  | ⟨5, _⟩ => show 0 + 1 * o.val = o.val; omega

/-! ### Planes made of blocks of eight rows -/

/-- The plane whose rows `8 * (t % 14)` on of image `t / 14` are call `t`'s block. -/
def spread {α : Type} {N : ℕ} (hN : N = 56) (out : Fin N → S1x8x112x4.Idx → α) (i : S4x112x112x4.Idx) : α :=
  have h0 : (i 0 : ℕ) < 4 := (i 0).isLt
  have h1 : (i 1 : ℕ) < 112 := (i 1).isLt
  out ⟨(i 0).val * 14 + (i 1).val / 8, by omega⟩ (ix4 0 ⟨(i 1).val % 8, by omega⟩ (i 2) (i 3))

theorem spread_at {α : Type} {N : ℕ} (hN : N = 56) (out : Fin N → S1x8x112x4.Idx → α) (t : Fin N) (y : S1x8x112x4.Idx) (i : S4x112x112x4.Idx)
    (h0 : (i 0).val = t.val / 14) (h1 : (i 1).val = 8 * (t.val % 14) + (y 1).val) (h2 : (i 2).val = (y 2).val) (h3 : (i 3).val = (y 3).val) :
    spread hN out i = out t y := by
  have ht := t.isLt
  have y0 : (y 0).val < 1 := (y 0).isLt
  have y1 : (y 1).val < 8 := (y 1).isLt
  have e0 : (i 0).val * 14 + (i 1).val / 8 = t.val := by omega
  unfold spread
  refine congr (congrArg out (Fin.ext e0)) ?_
  funext a
  apply Fin.ext
  match a with
  | ⟨0, _⟩ => show 0 = (y 0).val; omega
  | ⟨1, _⟩ => show (i 1).val % 8 = (y 1).val; omega
  | ⟨2, _⟩ => exact h2
  | ⟨3, _⟩ => exact h3

theorem spread_ix {α : Type} {N : ℕ} (hN : N = 56) (out : Fin N → S1x8x112x4.Idx → α) (b : Fin 4) (y x : Fin 112) (o : Fin 4) :
    spread hN out (ix4 b y x o) = out ⟨b.val * 14 + y.val / 8, by omega⟩ (ix4 0 ⟨y.val % 8, by omega⟩ x o) := rfl

end Cert.KerVal
-- ==== Proof.KerVal2.lean ====
/-
  The decoding kernel's results: the four parities of the second convolution, and the sums of it and
  of its square over all pixels.
-/
module

public import proofs.«01_k».proof.Proof.KerPay2
public import proofs.«01_k».proof.Proof.KerBlk2

@[expose] public section

noncomputable section

open Idealize.ShloMosaic Idealize.ShloMosaic.TcCoe Idealize.SL.Sem
open Cert.KernelIdeal Cert.KernelIdeal.Gen Cert.Spec

namespace Cert.KerVal

variable (D : Args) (V : (c : Dev nD) → (b : Ref sig .tc) → Buf (Elt Ideal) ((c : Thread nD τ).loc b)) (c : Dev nD)

/-- What the decoding kernel is handed. -/
structure Prep2 : Prop where
  q : ∀ (s : Fin 56) (y : Fin 8) (x : Fin 112) (d : Fin 64), V c main_v192 (ix4 s y x d) = ((D.cb (near D (s * 896 + y * 112 + x)) d : ℝ) : EReal)
  w : ∀ (p q a e : Fin 2) (d : Fin 64) (o : Fin 4), o.val < 3 → V c main_v179 (ix6 p q a e d o) = ((dw (D.w2 o d) p q a e : ℝ) : EReal)

/-- The rows of codewords of call `t`, with their margins. -/
abbrev rowsOf (t a b d : ℕ) : ℝ := padq D (t / 14) (8 * (t % 14) + a) b d

/-- The second convolution at pixel `r` of call `t`, at given parities. -/
abbrev px (o p q t r : ℕ) : ℝ := h2 D o (t / 14) (2 * (8 * (t % 14) + r / 112) + p) (2 * (r % 112) + q)

theorem four_eq (o p q t r : ℕ) (hp : p < 2) (hq : q < 2) : four (rowsOf D t) (fun a e d => dw (D.w2 o d) p q a e) p q r = px D o p q t r := by
  unfold px
  rw [phase_eq D o (t / 14) p q _ _ hp hq]
  unfold four phase rowsOf
  simp only [Nat.add_assoc]

variable {D V c} (h : Prep2 D V c)
include h

theorem rows (t : Fin cfg2.N) (a : Fin 10) (b : Fin 114) (d : Fin 64) : rows2 V c t (ix3 a b d) = ((rowsOf D t a b d : ℝ) : EReal) := by
  have ht := lt2 t
  refine rows_pay (grid2.coords t) _ _ _ (rowsOf D t) (fun a x d => ?_) (fun x d => ?_) (fun x d => ?_) (fun a d => ?_) (fun a d => ?_) a b d
  · refine (blk2_0 V c t a x d).trans ((h.q _ a x d).trans (congrArg (fun r : ℝ => (r : EReal)) ?_))
    unfold rowsOf padq
    rw [if_pos (by omega)]
    dsimp only
    rw [show t.val / 14 * 12544 + (8 * (t.val % 14) + (a.val + 1) - 1) * 112 + (x.val + 1 - 1) = t.val * 896 + a.val * 112 + x.val by omega]
  · rw [callOf_first t]
    unfold rowsOf padq
    by_cases h0 : t.val % 14 = 0
    · rw [if_pos h0, if_neg (by omega)]
      rfl
    · rw [if_neg h0, if_pos (by omega)]
      refine (blk2_1 V c t x d).trans ((h.q _ 7 x d).trans (congrArg (fun r : ℝ => (r : EReal)) ?_))
      show D.cb (near D ((t.val - 1) * 896 + 7 * 112 + x.val)) d = _
      rw [show t.val / 14 * 12544 + (8 * (t.val % 14) + 0 - 1) * 112 + (x.val + 1 - 1) = (t.val - 1) * 896 + 7 * 112 + x.val by omega]
  · rw [callOf_last t]
    unfold rowsOf padq
    by_cases h0 : t.val % 14 = 13
    · rw [if_pos h0, if_neg (by omega)]
      rfl
    · rw [if_neg h0, if_pos (by omega)]
      refine (blk2_2 V c t x d).trans ((h.q _ 0 x d).trans (congrArg (fun r : ℝ => (r : EReal)) ?_))
      show D.cb (near D (min (t.val + 1) 55 * 896 + 0 * 112 + x.val)) d = _
      rw [show t.val / 14 * 12544 + (8 * (t.val % 14) + 9 - 1) * 112 + (x.val + 1 - 1) = min (t.val + 1) 55 * 896 + 0 * 112 + x.val by omega]
  · unfold rowsOf padq
    exact if_neg (by omega)
  · unfold rowsOf padq
    exact if_neg (by omega)

theorem wts (t : Fin cfg2.N) (p q a e : Fin 2) (inb : ∀ k, (![p.val, q.val, a.val, e.val, 0, 0] : Fin 6 → ℕ) k + S1x1x1x1x64x4.size k ≤ S2x2x2x2x64x4.size k)
    (d : Fin 64) (o : Fin 4) (ho : o.val < 3) :
    View.ld (iblk2 V c 3 t : Vec Ideal S2x2x2x2x64x4 .f32) (Rect.unit (s := S2x2x2x2x64x4) ![p.val, q.val, a.val, e.val, 0, 0] S1x1x1x1x64x4.size inb) (ix6 0 0 0 0 d o)
      = ((dw (D.w2 o d) p q a e : ℝ) : EReal) :=
  (ld_wts _ p q a e inb d o).trans ((congrFun (blk2_3 V c t) _).trans (h.w p q a e d o ho))

theorem plane00_val (t : Fin cfg2.N) (r : Fin 896) (o : Fin 4) (ho : o.val < 3) : plane00 V c t (ix2 r o) = ((px D o 0 0 t r : ℝ) : EReal) :=
  (plane00_pay (rows2 V c t) _ _ _ _ (rowsOf D t) (fun a e d => dw (D.w2 o d) 0 0 a e) r o (rows h t) (fun d => wts h t 0 0 0 0 _ d o ho)
    (fun d => wts h t 0 0 0 1 _ d o ho) (fun d => wts h t 0 0 1 0 _ d o ho) fun d => wts h t 0 0 1 1 _ d o ho).trans
    (congrArg _ (four_eq D o 0 0 t r (by omega) (by omega)))

theorem plane01_val (t : Fin cfg2.N) (r : Fin 896) (o : Fin 4) (ho : o.val < 3) : plane01 V c t (ix2 r o) = ((px D o 0 1 t r : ℝ) : EReal) :=
  (plane01_pay (rows2 V c t) _ _ _ _ (rowsOf D t) (fun a e d => dw (D.w2 o d) 0 1 a e) r o (rows h t) (fun d => wts h t 0 1 0 0 _ d o ho)
    (fun d => wts h t 0 1 0 1 _ d o ho) (fun d => wts h t 0 1 1 0 _ d o ho) fun d => wts h t 0 1 1 1 _ d o ho).trans
    (congrArg _ (four_eq D o 0 1 t r (by omega) (by omega)))

theorem plane10_val (t : Fin cfg2.N) (r : Fin 896) (o : Fin 4) (ho : o.val < 3) : plane10 V c t (ix2 r o) = ((px D o 1 0 t r : ℝ) : EReal) :=
  (plane10_pay (rows2 V c t) _ _ _ _ (rowsOf D t) (fun a e d => dw (D.w2 o d) 1 0 a e) r o (rows h t) (fun d => wts h t 1 0 0 0 _ d o ho)
    (fun d => wts h t 1 0 0 1 _ d o ho) (fun d => wts h t 1 0 1 0 _ d o ho) fun d => wts h t 1 0 1 1 _ d o ho).trans
    (congrArg _ (four_eq D o 1 0 t r (by omega) (by omega)))

theorem plane11_val (t : Fin cfg2.N) (r : Fin 896) (o : Fin 4) (ho : o.val < 3) : plane11 V c t (ix2 r o) = ((px D o 1 1 t r : ℝ) : EReal) :=
  (plane11_pay (rows2 V c t) _ _ _ _ (rowsOf D t) (fun a e d => dw (D.w2 o d) 1 1 a e) r o (rows h t) (fun d => wts h t 1 1 0 0 _ d o ho)
    (fun d => wts h t 1 1 0 1 _ d o ho) (fun d => wts h t 1 1 1 0 _ d o ho) fun d => wts h t 1 1 1 1 _ d o ho).trans
    (congrArg _ (four_eq D o 1 1 t r (by omega) (by omega)))

theorem sum2_val (t : Fin cfg2.N) (p : Vec Ideal S1x4 .f32) (s : ℝ) (o : Fin 4) (ho : o.val < 3) (hp : p (ix2 0 o) = ((s : ℝ) : EReal)) :
    sum2 V c t p (ix2 0 o) = ((s + (∑ r ∈ Finset.range 896, px D o 0 0 t r + ∑ r ∈ Finset.range 896, px D o 0 1 t r
      + ∑ r ∈ Finset.range 896, px D o 1 0 t r + ∑ r ∈ Finset.range 896, px D o 1 1 t r) : ℝ) : EReal) := by
  have e0 := sum00_pay _ _ o _ hp (plane00 V c t) fun r => plane00_val h t r o ho
  have e1 := sum00_pay _ _ o _ e0 (plane01 V c t) fun r => plane01_val h t r o ho
  have e2 := sum00_pay _ _ o _ e1 (plane10 V c t) fun r => plane10_val h t r o ho
  have e3 := sum00_pay _ _ o _ e2 (plane11 V c t) fun r => plane11_val h t r o ho
  exact e3.trans (congrArg (fun r : ℝ => (r : EReal)) (by ring))

theorem square2_val (t : Fin cfg2.N) (p : Vec Ideal S1x4 .f32) (s : ℝ) (o : Fin 4) (ho : o.val < 3) (hp : p (ix2 0 o) = ((s : ℝ) : EReal)) :
    square2 V c t p (ix2 0 o) = ((s + (∑ r ∈ Finset.range 896, px D o 0 0 t r * px D o 0 0 t r + ∑ r ∈ Finset.range 896, px D o 0 1 t r * px D o 0 1 t r
      + ∑ r ∈ Finset.range 896, px D o 1 0 t r * px D o 1 0 t r + ∑ r ∈ Finset.range 896, px D o 1 1 t r * px D o 1 1 t r) : ℝ) : EReal) := by
  have e0 := square00_pay _ _ o _ hp (plane00 V c t) fun r => plane00_val h t r o ho
  have e1 := square00_pay _ _ o _ e0 (plane01 V c t) fun r => plane01_val h t r o ho
  have e2 := square00_pay _ _ o _ e1 (plane10 V c t) fun r => plane10_val h t r o ho
  have e3 := square00_pay _ _ o _ e2 (plane11 V c t) fun r => plane11_val h t r o ho
  exact e3.trans (congrArg (fun r : ℝ => (r : EReal)) (by ring))

theorem sums2 (o : Fin 4) (ho : o.val < 3) : ∀ (n : ℕ) (hn : n < cfg2.N),
    (outsAt2 V c n hn).2.2.2.2.1 (ix2 0 o) = ((∑ s ∈ Finset.range (n + 1), (∑ r ∈ Finset.range 896, px D o 0 0 s r + ∑ r ∈ Finset.range 896, px D o 0 1 s r
      + ∑ r ∈ Finset.range 896, px D o 1 0 s r + ∑ r ∈ Finset.range 896, px D o 1 1 s r) : ℝ) : EReal)
    ∧ (outsAt2 V c n hn).2.2.2.2.2 (ix2 0 o) = ((∑ s ∈ Finset.range (n + 1), (∑ r ∈ Finset.range 896, px D o 0 0 s r * px D o 0 0 s r
      + ∑ r ∈ Finset.range 896, px D o 0 1 s r * px D o 0 1 s r + ∑ r ∈ Finset.range 896, px D o 1 0 s r * px D o 1 0 s r
      + ∑ r ∈ Finset.range 896, px D o 1 1 s r * px D o 1 1 s r) : ℝ) : EReal)
  | 0, hn => by
    have z1 : (k2_pay6 : FVec Ideal S1x4 .f32) (ix2 0 o) = ((0 : ℝ) : EReal) := by pointwise [k2_pay6]; rfl
    have z2 : (k2_pay7 : FVec Ideal S1x4 .f32) (ix2 0 o) = ((0 : ℝ) : EReal) := by pointwise [k2_pay7]; rfl
    rw [show outsAt2 V c 0 hn = _ from outs2_start V c ⟨0, hn⟩ rfl]
    constructor
    · refine (sum2_val h ⟨0, hn⟩ _ _ o ho z1).trans ?_
      rw [Finset.sum_range_one, zero_add]
    · refine (square2_val h ⟨0, hn⟩ _ _ o ho z2).trans ?_
      rw [Finset.sum_range_one, zero_add]
  | n + 1, hn => by
    have hN : n + 1 < 56 := lt2 ⟨n + 1, hn⟩
    have ih := sums2 o ho n (Nat.lt_of_succ_lt hn)
    rw [show outsAt2 V c (n + 1) hn = _ from outs2_step V c ⟨n + 1, hn⟩ (by show ¬(n + 1) % 56 = 0; omega)]
    constructor
    · refine (sum2_val h ⟨n + 1, hn⟩ _ _ o ho ih.1).trans ?_
      rw [Finset.sum_range_succ _ (n + 1)]
    · refine (square2_val h ⟨n + 1, hn⟩ _ _ o ho ih.2).trans ?_
      rw [Finset.sum_range_succ _ (n + 1)]

end Cert.KerVal
-- ==== Proof.KerVal3.lean ====
/-
  The decoding kernel's arrays, and the last kernel: the image, one plane for each parity.
-/
module

public import proofs.«01_k».proof.Proof.KerVal2

@[expose] public section

noncomputable section

open Idealize.ShloMosaic Idealize.ShloMosaic.TcCoe Idealize.SL.Sem
open Cert.KernelIdeal Cert.KernelIdeal.Gen Cert.Spec

namespace Cert.KerVal

/-- Which block of a plane call `t` has. -/
abbrev Block (t : ℕ) (f : Fin 4 → ℕ) : Prop := f 0 = t / 14 ∧ f 1 = t % 14 ∧ f 2 = 0 ∧ f 3 = 0

theorem index2_4 (t : Fin cfg2.N) : Block t.val (win2_4.index t) := (by decide +kernel : ∀ t : Fin cfg2.N, Block t.val (win2_4.index t)) t
theorem index2_5 (t : Fin cfg2.N) : Block t.val (win2_5.index t) := (by decide +kernel : ∀ t : Fin cfg2.N, Block t.val (win2_5.index t)) t
theorem index2_6 (t : Fin cfg2.N) : Block t.val (win2_6.index t) := (by decide +kernel : ∀ t : Fin cfg2.N, Block t.val (win2_6.index t)) t
theorem index2_7 (t : Fin cfg2.N) : Block t.val (win2_7.index t) := (by decide +kernel : ∀ t : Fin cfg2.N, Block t.val (win2_7.index t)) t

/-- An index of a plane lies in the block of its call. -/
theorem in_block (i : S4x112x112x4.Idx) (t : ℕ) (ht : t = (i 0).val * 14 + (i 1).val / 8) (f : Fin 4 → ℕ) (hf : Block t f) (a : Fin 4) :
    f a * S1x8x112x4.size a ≤ (i a).val ∧ (i a).val < f a * S1x8x112x4.size a + S1x8x112x4.size a := by
  obtain ⟨f0, f1, f2, f3⟩ := hf
  have h0 : (i 0 : ℕ) < 4 := (i 0).isLt
  have h1 : (i 1 : ℕ) < 112 := (i 1).isLt
  have h2 : (i 2 : ℕ) < 112 := (i 2).isLt
  have h3 : (i 3 : ℕ) < 4 := (i 3).isLt
  match a with
  | ⟨0, _⟩ => show f 0 * 1 ≤ (i 0).val ∧ (i 0).val < f 0 * 1 + 1; omega
  | ⟨1, _⟩ => show f 1 * 8 ≤ (i 1).val ∧ (i 1).val < f 1 * 8 + 8; omega
  | ⟨2, _⟩ => show f 2 * 112 ≤ (i 2).val ∧ (i 2).val < f 2 * 112 + 112; omega
  | ⟨3, _⟩ => show f 3 * 4 ≤ (i 3).val ∧ (i 3).val < f 3 * 4 + 4; omega

/-- A block of a plane made of blocks. -/
theorem spread_block {α : Type} {N : ℕ} (hN : N = 56) (out : Fin N → S1x8x112x4.Idx → α) (t : Fin N) (f : Fin 4 → ℕ) (hf : Block t.val f)
    (y : S1x8x112x4.Idx) (i : S4x112x112x4.Idx) (hi : ∀ a, (i a).val = f a * S1x8x112x4.size a + 1 * (y a).val) : spread hN out i = out t y := by
  obtain ⟨f0, f1, f2, f3⟩ := hf
  have i0 : (i 0).val = f 0 * 1 + 1 * (y 0).val := hi 0
  have i1 : (i 1).val = f 1 * 8 + 1 * (y 1).val := hi 1
  have i2 : (i 2).val = f 2 * 112 + 1 * (y 2).val := hi 2
  have i3 : (i 3).val = f 3 * 4 + 1 * (y 3).val := hi 3
  have y0 : (y 0).val < 1 := (y 0).isLt
  exact spread_at hN out t y i (by omega) (by omega) (by omega) (by omega)

/-- The call an index of a plane belongs to. -/
abbrev callAt {N : ℕ} (hN : N = 56) (i : S4x112x112x4.Idx) : Fin N :=
  ⟨(i 0).val * 14 + (i 1).val / 8, by
    have h0 : (i 0 : ℕ) < 4 := (i 0).isLt
    have h1 : (i 1 : ℕ) < 112 := (i 1).isLt
    omega⟩

variable {D : Args} {V : (c : Dev nD) → (b : Ref sig .tc) → Buf (Elt Ideal) ((c : Thread nD τ).loc b)} {c : Dev nD}

theorem array2_4 : (dat2 V c).arrAt 4 cfg2.N = spread N_2 fun t => (outsAt2 V c t.val t.isLt).1 :=
  (dat2 V c).arrAt_eq_of_cover 4 (spread N_2 fun t => (outsAt2 V c t.val t.isLt).1)
    (fun t _ => by
      show (cfg2.win 4).cut (grid2.coords t) ((dat2 V c).after 4 t) = _
      rw [after2_4]
      funext y
      rw [View.read_apply]
      exact (spread_block N_2 (fun t => (outsAt2 V c t.val t.isLt).1) t _ (index2_4 t) y (((cfg2.win 4).blk t).view.emb y) fun _ => rfl).symm)
    fun i => ⟨callAt N_2 i, flush2_4 _, by
      show i ∈ ((View.whole main_v193_0).slice (win2_4.rect (callAt N_2 i))).set
      rw [View.set_slice_whole, Rect.mem_set_unit]
      exact in_block i _ rfl _ (index2_4 _)⟩

theorem array2_5 : (dat2 V c).arrAt 5 cfg2.N = spread N_2 fun t => (outsAt2 V c t.val t.isLt).2.1 :=
  (dat2 V c).arrAt_eq_of_cover 5 (spread N_2 fun t => (outsAt2 V c t.val t.isLt).2.1)
    (fun t _ => by
      show (cfg2.win 5).cut (grid2.coords t) ((dat2 V c).after 5 t) = _
      rw [after2_5]
      funext y
      rw [View.read_apply]
      exact (spread_block N_2 (fun t => (outsAt2 V c t.val t.isLt).2.1) t _ (index2_5 t) y (((cfg2.win 5).blk t).view.emb y) fun _ => rfl).symm)
    fun i => ⟨callAt N_2 i, flush2_5 _, by
      show i ∈ ((View.whole main_v193_1).slice (win2_5.rect (callAt N_2 i))).set
      rw [View.set_slice_whole, Rect.mem_set_unit]
      exact in_block i _ rfl _ (index2_5 _)⟩

theorem array2_6 : (dat2 V c).arrAt 6 cfg2.N = spread N_2 fun t => (outsAt2 V c t.val t.isLt).2.2.1 :=
  (dat2 V c).arrAt_eq_of_cover 6 (spread N_2 fun t => (outsAt2 V c t.val t.isLt).2.2.1)
    (fun t _ => by
      show (cfg2.win 6).cut (grid2.coords t) ((dat2 V c).after 6 t) = _
      rw [after2_6]
      funext y
      rw [View.read_apply]
      exact (spread_block N_2 (fun t => (outsAt2 V c t.val t.isLt).2.2.1) t _ (index2_6 t) y (((cfg2.win 6).blk t).view.emb y) fun _ => rfl).symm)
    fun i => ⟨callAt N_2 i, flush2_6 _, by
      show i ∈ ((View.whole main_v193_2).slice (win2_6.rect (callAt N_2 i))).set
      rw [View.set_slice_whole, Rect.mem_set_unit]
      exact in_block i _ rfl _ (index2_6 _)⟩

theorem array2_7 : (dat2 V c).arrAt 7 cfg2.N = spread N_2 fun t => (outsAt2 V c t.val t.isLt).2.2.2.1 :=
  (dat2 V c).arrAt_eq_of_cover 7 (spread N_2 fun t => (outsAt2 V c t.val t.isLt).2.2.2.1)
    (fun t _ => by
      show (cfg2.win 7).cut (grid2.coords t) ((dat2 V c).after 7 t) = _
      rw [after2_7]
      funext y
      rw [View.read_apply]
      exact (spread_block N_2 (fun t => (outsAt2 V c t.val t.isLt).2.2.2.1) t _ (index2_7 t) y (((cfg2.win 7).blk t).view.emb y) fun _ => rfl).symm)
    fun i => ⟨callAt N_2 i, flush2_7 _, by
      show i ∈ ((View.whole main_v193_3).slice (win2_7.rect (callAt N_2 i))).set
      rw [View.set_slice_whole, Rect.mem_set_unit]
      exact in_block i _ rfl _ (index2_7 _)⟩

/-- The last call of the decoding kernel. -/
abbrev last2 : Fin cfg2.N := ⟨55, by rw [show cfg2.N = 56 from N_2]; decide⟩

theorem array2_8 : (dat2 V c).arrAt 8 cfg2.N = (outsAt2 V c 55 last2.isLt).2.2.2.2.1 :=
  (dat2 V c).arrAt_eq_of_cover 8 (outsAt2 V c 55 last2.isLt).2.2.2.2.1
    (fun t hf => by
      obtain rfl : t = last2 := Fin.ext (by have := (flush2_8 t).mp hf; have := lt2 t; show t.val = 55; omega)
      show (cfg2.win 8).cut (grid2.coords last2) ((dat2 V c).after 8 last2) = _
      rw [after2_8]
      have hz' : (fun a => win2_8.index last2 a * main_v193_4.ty.shape.size a) = fun _ => 0 := funext fun a => by fin_cases a <;> exact Nat.zero_mul _
      exact (Memref.read_access_unit_zero (Elt Ideal) main_v193_4 hz' (fun a => by rw [congrFun hz' a]; simp) (outsAt2 V c 55 last2.isLt).2.2.2.2.1).symm)
    fun i => ⟨last2, (flush2_8 last2).mpr rfl, by
      show i ∈ ((View.whole main_v193_4).slice (win2_8.rect last2)).set
      rw [View.set_slice_whole, Rect.mem_set_unit]
      intro a
      have h0 : (i 0 : Nat) < 1 := (i 0).isLt
      have h1 : (i 1 : Nat) < 4 := (i 1).isLt
      match a with
      | ⟨0, _⟩ => show 0 * 1 ≤ (i 0 : Nat) ∧ (i 0 : Nat) < 0 * 1 + 1; omega
      | ⟨1, _⟩ => show 0 * 4 ≤ (i 1 : Nat) ∧ (i 1 : Nat) < 0 * 4 + 4; omega⟩

theorem array2_9 : (dat2 V c).arrAt 9 cfg2.N = (outsAt2 V c 55 last2.isLt).2.2.2.2.2 :=
  (dat2 V c).arrAt_eq_of_cover 9 (outsAt2 V c 55 last2.isLt).2.2.2.2.2
    (fun t hf => by
      obtain rfl : t = last2 := Fin.ext (by have := (flush2_9 t).mp hf; have := lt2 t; show t.val = 55; omega)
      show (cfg2.win 9).cut (grid2.coords last2) ((dat2 V c).after 9 last2) = _
      rw [after2_9]
      have hz' : (fun a => win2_9.index last2 a * main_v193_5.ty.shape.size a) = fun _ => 0 := funext fun a => by fin_cases a <;> exact Nat.zero_mul _
      exact (Memref.read_access_unit_zero (Elt Ideal) main_v193_5 hz' (fun a => by rw [congrFun hz' a]; simp) (outsAt2 V c 55 last2.isLt).2.2.2.2.2).symm)
    fun i => ⟨last2, (flush2_9 last2).mpr rfl, by
      show i ∈ ((View.whole main_v193_5).slice (win2_9.rect last2)).set
      rw [View.set_slice_whole, Rect.mem_set_unit]
      intro a
      have h0 : (i 0 : Nat) < 1 := (i 0).isLt
      have h1 : (i 1 : Nat) < 4 := (i 1).isLt
      match a with
      | ⟨0, _⟩ => show 0 * 1 ≤ (i 0 : Nat) ∧ (i 0 : Nat) < 0 * 1 + 1; omega
      | ⟨1, _⟩ => show 0 * 4 ≤ (i 1 : Nat) ∧ (i 1 : Nat) < 0 * 4 + 4; omega⟩

/-- What the decoding kernel leaves in its planes after a call. -/
theorem outs2_planes (t : Fin cfg2.N) : (outsAt2 V c t.val t.isLt).1 = laid2 (plane00 V c t) ∧ (outsAt2 V c t.val t.isLt).2.1 = laid2 (plane01 V c t)
    ∧ (outsAt2 V c t.val t.isLt).2.2.1 = laid2 (plane10 V c t) ∧ (outsAt2 V c t.val t.isLt).2.2.2.1 = laid2 (plane11 V c t) := by
  by_cases ht : t.val % 56 = 0
  · rw [outs2_start V c t ht]
    exact ⟨rfl, rfl, rfl, rfl⟩
  · rw [outs2_step V c t ht]
    exact ⟨rfl, rfl, rfl, rfl⟩

/-- A plane laid out in rows and columns, read at an index. -/
theorem laid2_at (v : FVec Ideal S896x4 .f32) (o p q t : ℕ) (o' : Fin 4) (hv : ∀ r : Fin 896, v (ix2 r o') = ((px D o p q t r : ℝ) : EReal))
    (b : Fin 4) (y x : Fin 112) (ht : t = b.val * 14 + y.val / 8) :
    laid2 v (ix4 0 ⟨y.val % 8, by omega⟩ x o') = ((h2 D o b (2 * y + p) (2 * x + q) : ℝ) : EReal) := by
  subst ht
  unfold laid2
  pointwise
  refine (hv ⟨_, _⟩).trans (congrArg (fun r : ℝ => (r : EReal)) ?_)
  dsimp only
  unfold px
  rw [show (b.val * 14 + y.val / 8) / 14 = b.val by omega,
    show 8 * ((b.val * 14 + y.val / 8) % 14) + (y.val % 8 * 112 + x.val) / 112 = y.val by omega,
    show (y.val % 8 * 112 + x.val) % 112 = x.val by omega]

section
variable (h : Prep2 D V c) (o : Fin 4) (ho : o.val < 3)
include h ho

theorem val2_4 (b : Fin 4) (y x : Fin 112) :
    (dat2 V c).arrAt 4 cfg2.N (ix4 b y x o) = ((h2 D o b (2 * y + 0) (2 * x + 0) : ℝ) : EReal) := by
  rw [array2_4]
  refine (spread_ix N_2 _ b y x o).trans ((congrFun (outs2_planes _).1 _).trans ?_)
  exact laid2_at _ o 0 0 _ o (fun r => plane00_val h _ r o ho) b y x rfl

theorem val2_5 (b : Fin 4) (y x : Fin 112) :
    (dat2 V c).arrAt 5 cfg2.N (ix4 b y x o) = ((h2 D o b (2 * y + 0) (2 * x + 1) : ℝ) : EReal) := by
  rw [array2_5]
  refine (spread_ix N_2 _ b y x o).trans ((congrFun (outs2_planes _).2.1 _).trans ?_)
  exact laid2_at _ o 0 1 _ o (fun r => plane01_val h _ r o ho) b y x rfl

theorem val2_6 (b : Fin 4) (y x : Fin 112) :
    (dat2 V c).arrAt 6 cfg2.N (ix4 b y x o) = ((h2 D o b (2 * y + 1) (2 * x + 0) : ℝ) : EReal) := by
  rw [array2_6]
  refine (spread_ix N_2 _ b y x o).trans ((congrFun (outs2_planes _).2.2.1 _).trans ?_)
  exact laid2_at _ o 1 0 _ o (fun r => plane10_val h _ r o ho) b y x rfl

theorem val2_7 (b : Fin 4) (y x : Fin 112) :
    (dat2 V c).arrAt 7 cfg2.N (ix4 b y x o) = ((h2 D o b (2 * y + 1) (2 * x + 1) : ℝ) : EReal) := by
  rw [array2_7]
  refine (spread_ix N_2 _ b y x o).trans ((congrFun (outs2_planes _).2.2.2 _).trans ?_)
  exact laid2_at _ o 1 1 _ o (fun r => plane11_val h _ r o ho) b y x rfl

theorem val2_8 : (dat2 V c).arrAt 8 cfg2.N (ix2 0 o) = ((tot (h2 D o) : ℝ) : EReal) := by
  rw [array2_8, tot_phases]
  exact (sums2 h o ho 55 last2.isLt).1

theorem val2_9 : (dat2 V c).arrAt 9 cfg2.N (ix2 0 o) = ((tot (fun b y x => h2 D o b y x * h2 D o b y x) : ℝ) : EReal) := by
  rw [array2_9, tot_phases]
  exact (sums2 h o ho 55 last2.isLt).2

end

end Cert.KerVal
-- ==== Proof.KerVal4.lean ====
/-
  The last kernel: every plane normalised by the sums and squashed.
-/
module

public import proofs.«01_k».proof.Proof.KerVal3

@[expose] public section

noncomputable section

open Idealize.ShloMosaic Idealize.ShloMosaic.TcCoe Idealize.SL.Sem
open Cert.KernelIdeal Cert.KernelIdeal.Gen Cert.Spec

namespace Cert.KerVal

theorem index3_0 (t : Fin cfg3.N) : Block t.val (win3_0.index t) := (by decide +kernel : ∀ t : Fin cfg3.N, Block t.val (win3_0.index t)) t
theorem index3_1 (t : Fin cfg3.N) : Block t.val (win3_1.index t) := (by decide +kernel : ∀ t : Fin cfg3.N, Block t.val (win3_1.index t)) t
theorem index3_2 (t : Fin cfg3.N) : Block t.val (win3_2.index t) := (by decide +kernel : ∀ t : Fin cfg3.N, Block t.val (win3_2.index t)) t
theorem index3_3 (t : Fin cfg3.N) : Block t.val (win3_3.index t) := (by decide +kernel : ∀ t : Fin cfg3.N, Block t.val (win3_3.index t)) t
theorem index3_8 (t : Fin cfg3.N) : Block t.val (win3_8.index t) := (by decide +kernel : ∀ t : Fin cfg3.N, Block t.val (win3_8.index t)) t
theorem index3_9 (t : Fin cfg3.N) : Block t.val (win3_9.index t) := (by decide +kernel : ∀ t : Fin cfg3.N, Block t.val (win3_9.index t)) t
theorem index3_10 (t : Fin cfg3.N) : Block t.val (win3_10.index t) := (by decide +kernel : ∀ t : Fin cfg3.N, Block t.val (win3_10.index t)) t
theorem index3_11 (t : Fin cfg3.N) : Block t.val (win3_11.index t) := (by decide +kernel : ∀ t : Fin cfg3.N, Block t.val (win3_11.index t)) t

variable {D : Args} {V : (c : Dev nD) → (b : Ref sig .tc) → Buf (Elt Ideal) ((c : Thread nD τ).loc b)} {c : Dev nD}

/-! ### The blocks read -/

theorem blk3_0 (t : Fin cfg3.N) (y : Fin 8) (x : Fin 112) (o : Fin 4) :
    (iblk3 V c 0 t : Vec Ideal S1x8x112x4 .f32) (ix4 0 y x o)
      = V c main_v193_0 (ix4 ⟨t.val / 14, by have := lt3 t; omega⟩ ⟨8 * (t.val % 14) + y.val, by omega⟩ x o) := by
  obtain ⟨h0, h1, h2, h3⟩ := index3_0 t
  unfold iblk3
  rw [View.read_apply]
  show V c main_v193_0 _ = V c main_v193_0 _
  congr 1
  funext a
  apply Fin.ext
  match a with
  | ⟨0, _⟩ => show win3_0.index t 0 * 1 + 1 * 0 = t.val / 14; rw [h0]; omega
  | ⟨1, _⟩ => show win3_0.index t 1 * 8 + 1 * y.val = 8 * (t.val % 14) + y.val; rw [h1]; omega
  | ⟨2, _⟩ => show win3_0.index t 2 * 112 + 1 * x.val = x.val; rw [h2]; omega
  | ⟨3, _⟩ => show win3_0.index t 3 * 4 + 1 * o.val = o.val; rw [h3]; omega

theorem blk3_1 (t : Fin cfg3.N) (y : Fin 8) (x : Fin 112) (o : Fin 4) :
    (iblk3 V c 1 t : Vec Ideal S1x8x112x4 .f32) (ix4 0 y x o)
      = V c main_v193_1 (ix4 ⟨t.val / 14, by have := lt3 t; omega⟩ ⟨8 * (t.val % 14) + y.val, by omega⟩ x o) := by
  obtain ⟨h0, h1, h2, h3⟩ := index3_1 t
  unfold iblk3
  rw [View.read_apply]
  show V c main_v193_1 _ = V c main_v193_1 _
  congr 1
  funext a
  apply Fin.ext
  match a with
  | ⟨0, _⟩ => show win3_1.index t 0 * 1 + 1 * 0 = t.val / 14; rw [h0]; omega
  | ⟨1, _⟩ => show win3_1.index t 1 * 8 + 1 * y.val = 8 * (t.val % 14) + y.val; rw [h1]; omega
  | ⟨2, _⟩ => show win3_1.index t 2 * 112 + 1 * x.val = x.val; rw [h2]; omega
  | ⟨3, _⟩ => show win3_1.index t 3 * 4 + 1 * o.val = o.val; rw [h3]; omega

theorem blk3_2 (t : Fin cfg3.N) (y : Fin 8) (x : Fin 112) (o : Fin 4) :
    (iblk3 V c 2 t : Vec Ideal S1x8x112x4 .f32) (ix4 0 y x o)
      = V c main_v193_2 (ix4 ⟨t.val / 14, by have := lt3 t; omega⟩ ⟨8 * (t.val % 14) + y.val, by omega⟩ x o) := by
  obtain ⟨h0, h1, h2, h3⟩ := index3_2 t
  unfold iblk3
  rw [View.read_apply]
  show V c main_v193_2 _ = V c main_v193_2 _
  congr 1
  funext a
  apply Fin.ext
  match a with
  | ⟨0, _⟩ => show win3_2.index t 0 * 1 + 1 * 0 = t.val / 14; rw [h0]; omega
  | ⟨1, _⟩ => show win3_2.index t 1 * 8 + 1 * y.val = 8 * (t.val % 14) + y.val; rw [h1]; omega
  | ⟨2, _⟩ => show win3_2.index t 2 * 112 + 1 * x.val = x.val; rw [h2]; omega
  | ⟨3, _⟩ => show win3_2.index t 3 * 4 + 1 * o.val = o.val; rw [h3]; omega

theorem blk3_3 (t : Fin cfg3.N) (y : Fin 8) (x : Fin 112) (o : Fin 4) :
    (iblk3 V c 3 t : Vec Ideal S1x8x112x4 .f32) (ix4 0 y x o)
      = V c main_v193_3 (ix4 ⟨t.val / 14, by have := lt3 t; omega⟩ ⟨8 * (t.val % 14) + y.val, by omega⟩ x o) := by
  obtain ⟨h0, h1, h2, h3⟩ := index3_3 t
  unfold iblk3
  rw [View.read_apply]
  show V c main_v193_3 _ = V c main_v193_3 _
  congr 1
  funext a
  apply Fin.ext
  match a with
  | ⟨0, _⟩ => show win3_3.index t 0 * 1 + 1 * 0 = t.val / 14; rw [h0]; omega
  | ⟨1, _⟩ => show win3_3.index t 1 * 8 + 1 * y.val = 8 * (t.val % 14) + y.val; rw [h1]; omega
  | ⟨2, _⟩ => show win3_3.index t 2 * 112 + 1 * x.val = x.val; rw [h2]; omega
  | ⟨3, _⟩ => show win3_3.index t 3 * 4 + 1 * o.val = o.val; rw [h3]; omega

theorem blk3_4 (t : Fin cfg3.N) : (iblk3 V c 4 t : Vec Ideal S1x4 .f32) = V c main_v184 := by
  have hz' : (fun a => win3_4.index t a * main_v184.ty.shape.size a) = fun _ => 0 := funext fun a => by fin_cases a <;> exact Nat.zero_mul _
  exact Memref.read_access_unit_zero (Elt Ideal) main_v184 hz' (fun a => by rw [congrFun hz' a]; simp) (V c main_v184)

theorem blk3_5 (t : Fin cfg3.N) : (iblk3 V c 5 t : Vec Ideal S1x4 .f32) = V c main_v186 := by
  have hz' : (fun a => win3_5.index t a * main_v186.ty.shape.size a) = fun _ => 0 := funext fun a => by fin_cases a <;> exact Nat.zero_mul _
  exact Memref.read_access_unit_zero (Elt Ideal) main_v186 hz' (fun a => by rw [congrFun hz' a]; simp) (V c main_v186)

theorem blk3_6 (t : Fin cfg3.N) : (iblk3 V c 6 t : Vec Ideal S1x4 .f32) = V c main_v193_4 := by
  have hz' : (fun a => win3_6.index t a * main_v193_4.ty.shape.size a) = fun _ => 0 := funext fun a => by fin_cases a <;> exact Nat.zero_mul _
  exact Memref.read_access_unit_zero (Elt Ideal) main_v193_4 hz' (fun a => by rw [congrFun hz' a]; simp) (V c main_v193_4)

theorem blk3_7 (t : Fin cfg3.N) : (iblk3 V c 7 t : Vec Ideal S1x4 .f32) = V c main_v193_5 := by
  have hz' : (fun a => win3_7.index t a * main_v193_5.ty.shape.size a) = fun _ => 0 := funext fun a => by fin_cases a <;> exact Nat.zero_mul _
  exact Memref.read_access_unit_zero (Elt Ideal) main_v193_5 hz' (fun a => by rw [congrFun hz' a]; simp) (V c main_v193_5)

/-! ### What the body leaves -/

section
variable (x0 x1 x2 x3 : Vec Ideal S1x8x112x4 .f32) (x4 x5 x6 x7 : Vec Ideal S1x4 .f32)

theorem out3_8_eq : out3_8 x0 x1 x2 x3 x4 x5 x6 x7 = k3_pay7 x6 x7 x4 x5 x0 := by
  unfold out3_8
  rw [View.canon_unit_zero hz4]
  simp only [View.ld_unit_zero (S := S1x4) hz2, View.ld_unit_zero (S := S1x8x112x4) hz4]

theorem out3_9_eq : out3_9 x0 x1 x2 x3 x4 x5 x6 x7 = k3_pay7 x6 x7 x4 x5 x1 := by
  unfold out3_9 k3_pay10
  rw [View.canon_unit_zero hz4]
  simp only [View.ld_unit_zero (S := S1x4) hz2, View.ld_unit_zero (S := S1x8x112x4) hz4]
  rfl

theorem out3_10_eq : out3_10 x0 x1 x2 x3 x4 x5 x6 x7 = k3_pay7 x6 x7 x4 x5 x2 := by
  unfold out3_10 k3_pay10 k3_pay9
  rw [View.canon_unit_zero hz4]
  simp only [View.ld_unit_zero (S := S1x4) hz2, View.ld_unit_zero (S := S1x8x112x4) hz4]
  rfl

theorem out3_11_eq : out3_11 x0 x1 x2 x3 x4 x5 x6 x7 = k3_pay7 x6 x7 x4 x5 x3 := by
  unfold out3_11 k3_pay10 k3_pay9
  rw [View.canon_unit_zero hz4]
  simp only [View.ld_unit_zero (S := S1x4) hz2, View.ld_unit_zero (S := S1x8x112x4) hz4]
  rfl

end

/-! ### The arrays -/

theorem array3_8 : (dat3 V c).arrAt 8 cfg3.N
    = spread N_3 fun t => k3_pay7 (iblk3 V c 6 t) (iblk3 V c 7 t) (iblk3 V c 4 t) (iblk3 V c 5 t) (iblk3 V c 0 t) :=
  (dat3 V c).arrAt_eq_of_cover 8 (spread N_3 fun t => k3_pay7 (iblk3 V c 6 t) (iblk3 V c 7 t) (iblk3 V c 4 t) (iblk3 V c 5 t) (iblk3 V c 0 t))
    (fun t _ => by
      show (cfg3.win 8).cut (grid3.coords t) ((dat3 V c).after 8 t) = _
      rw [after3_8, out3_8_eq]
      funext y
      rw [View.read_apply]
      exact (spread_block N_3 (fun t => k3_pay7 (iblk3 V c 6 t) (iblk3 V c 7 t) (iblk3 V c 4 t) (iblk3 V c 5 t) (iblk3 V c 0 t)) t _ (index3_8 t) y
        (((cfg3.win 8).blk t).view.emb y) fun _ => rfl).symm)
    fun i => ⟨callAt N_3 i, flush3_8 _, by
      show i ∈ ((View.whole main_v194_0).slice (win3_8.rect (callAt N_3 i))).set
      rw [View.set_slice_whole, Rect.mem_set_unit]
      exact in_block i _ rfl _ (index3_8 _)⟩

theorem array3_9 : (dat3 V c).arrAt 9 cfg3.N
    = spread N_3 fun t => k3_pay7 (iblk3 V c 6 t) (iblk3 V c 7 t) (iblk3 V c 4 t) (iblk3 V c 5 t) (iblk3 V c 1 t) :=
  (dat3 V c).arrAt_eq_of_cover 9 (spread N_3 fun t => k3_pay7 (iblk3 V c 6 t) (iblk3 V c 7 t) (iblk3 V c 4 t) (iblk3 V c 5 t) (iblk3 V c 1 t))
    (fun t _ => by
      show (cfg3.win 9).cut (grid3.coords t) ((dat3 V c).after 9 t) = _
      rw [after3_9, out3_9_eq]
      funext y
      rw [View.read_apply]
      exact (spread_block N_3 (fun t => k3_pay7 (iblk3 V c 6 t) (iblk3 V c 7 t) (iblk3 V c 4 t) (iblk3 V c 5 t) (iblk3 V c 1 t)) t _ (index3_9 t) y
        (((cfg3.win 9).blk t).view.emb y) fun _ => rfl).symm)
    fun i => ⟨callAt N_3 i, flush3_9 _, by
      show i ∈ ((View.whole main_v194_1).slice (win3_9.rect (callAt N_3 i))).set
      rw [View.set_slice_whole, Rect.mem_set_unit]
      exact in_block i _ rfl _ (index3_9 _)⟩

theorem array3_10 : (dat3 V c).arrAt 10 cfg3.N
    = spread N_3 fun t => k3_pay7 (iblk3 V c 6 t) (iblk3 V c 7 t) (iblk3 V c 4 t) (iblk3 V c 5 t) (iblk3 V c 2 t) :=
  (dat3 V c).arrAt_eq_of_cover 10 (spread N_3 fun t => k3_pay7 (iblk3 V c 6 t) (iblk3 V c 7 t) (iblk3 V c 4 t) (iblk3 V c 5 t) (iblk3 V c 2 t))
    (fun t _ => by
      show (cfg3.win 10).cut (grid3.coords t) ((dat3 V c).after 10 t) = _
      rw [after3_10, out3_10_eq]
      funext y
      rw [View.read_apply]
      exact (spread_block N_3 (fun t => k3_pay7 (iblk3 V c 6 t) (iblk3 V c 7 t) (iblk3 V c 4 t) (iblk3 V c 5 t) (iblk3 V c 2 t)) t _ (index3_10 t) y
        (((cfg3.win 10).blk t).view.emb y) fun _ => rfl).symm)
    fun i => ⟨callAt N_3 i, flush3_10 _, by
      show i ∈ ((View.whole main_v194_2).slice (win3_10.rect (callAt N_3 i))).set
      rw [View.set_slice_whole, Rect.mem_set_unit]
      exact in_block i _ rfl _ (index3_10 _)⟩

theorem array3_11 : (dat3 V c).arrAt 11 cfg3.N
    = spread N_3 fun t => k3_pay7 (iblk3 V c 6 t) (iblk3 V c 7 t) (iblk3 V c 4 t) (iblk3 V c 5 t) (iblk3 V c 3 t) :=
  (dat3 V c).arrAt_eq_of_cover 11 (spread N_3 fun t => k3_pay7 (iblk3 V c 6 t) (iblk3 V c 7 t) (iblk3 V c 4 t) (iblk3 V c 5 t) (iblk3 V c 3 t))
    (fun t _ => by
      show (cfg3.win 11).cut (grid3.coords t) ((dat3 V c).after 11 t) = _
      rw [after3_11, out3_11_eq]
      funext y
      rw [View.read_apply]
      exact (spread_block N_3 (fun t => k3_pay7 (iblk3 V c 6 t) (iblk3 V c 7 t) (iblk3 V c 4 t) (iblk3 V c 5 t) (iblk3 V c 3 t)) t _ (index3_11 t) y
        (((cfg3.win 11).blk t).view.emb y) fun _ => rfl).symm)
    fun i => ⟨callAt N_3 i, flush3_11 _, by
      show i ∈ ((View.whole main_v194_3).slice (win3_11.rect (callAt N_3 i))).set
      rw [View.set_slice_whole, Rect.mem_set_unit]
      exact in_block i _ rfl _ (index3_11 _)⟩

variable (D V c) in
/-- What the last kernel is handed. -/
structure Prep3 : Prop where
  p00 : ∀ (b : Fin 4) (y x : Fin 112) (o : Fin 4), o.val < 3 → V c main_v193_0 (ix4 b y x o) = ((h2 D o b (2 * y + 0) (2 * x + 0) : ℝ) : EReal)
  p01 : ∀ (b : Fin 4) (y x : Fin 112) (o : Fin 4), o.val < 3 → V c main_v193_1 (ix4 b y x o) = ((h2 D o b (2 * y + 0) (2 * x + 1) : ℝ) : EReal)
  p10 : ∀ (b : Fin 4) (y x : Fin 112) (o : Fin 4), o.val < 3 → V c main_v193_2 (ix4 b y x o) = ((h2 D o b (2 * y + 1) (2 * x + 0) : ℝ) : EReal)
  p11 : ∀ (b : Fin 4) (y x : Fin 112) (o : Fin 4), o.val < 3 → V c main_v193_3 (ix4 b y x o) = ((h2 D o b (2 * y + 1) (2 * x + 1) : ℝ) : EReal)
  s1 : ∀ o : Fin 4, o.val < 3 → V c main_v193_4 (ix2 0 o) = ((tot (h2 D o) : ℝ) : EReal)
  s2 : ∀ o : Fin 4, o.val < 3 → V c main_v193_5 (ix2 0 o) = ((tot (fun b y x => h2 D o b y x * h2 D o b y x) : ℝ) : EReal)
  g : ∀ o : Fin 4, o.val < 3 → V c main_v184 (ix2 0 o) = ((D.g2 o : ℝ) : EReal)
  b : ∀ o : Fin 4, o.val < 3 → V c main_v186 (ix2 0 o) = ((D.b2 o : ℝ) : EReal)

variable (h : Prep3 D V c)
include h

/-- One plane of the image, at an index. -/
theorem squashed (v : Vec Ideal S1x8x112x4 .f32) (t : Fin cfg3.N) (b : Fin 4) (y x : Fin 112) (o : Fin 4) (ho : o.val < 3) (Y X : ℕ)
    (hv : v (ix4 0 ⟨y.val % 8, by omega⟩ x o) = ((h2 D o b Y X : ℝ) : EReal)) :
    k3_pay7 (iblk3 V c 6 t) (iblk3 V c 7 t) (iblk3 V c 4 t) (iblk3 V c 5 t) v (ix4 0 ⟨y.val % 8, by omega⟩ x o) = ((Spec.out D b o Y X : ℝ) : EReal) :=
  squash_pay _ _ _ _ v (h2 D o) (D.g2 o) (D.b2 o) b Y X _ x o ((congrFun (blk3_6 t) _).trans (h.s1 o ho)) ((congrFun (blk3_7 t) _).trans (h.s2 o ho))
    ((congrFun (blk3_4 t) _).trans (h.g o ho)) ((congrFun (blk3_5 t) _).trans (h.b o ho)) hv

omit h in
theorem at_pixel (f : ℕ → ℕ → ℕ → ℝ) {b b' y y' x : ℕ} (hb : b = b') (hy : y = y') : ((f b y x : ℝ) : EReal) = ((f b' y' x : ℝ) : EReal) := by
  subst hb; subst hy; rfl

theorem val3_8 (b : Fin 4) (y x : Fin 112) (o : Fin 4) (ho : o.val < 3) :
    (dat3 V c).arrAt 8 cfg3.N (ix4 b y x o) = ((Spec.out D b o (2 * y + 0) (2 * x + 0) : ℝ) : EReal) := by
  rw [array3_8]
  refine (spread_ix N_3 _ b y x o).trans (squashed h _ _ b y x o ho _ _ ?_)
  refine (blk3_0 _ _ x o).trans ((h.p00 _ _ x o ho).trans
    (at_pixel (fun b y x => h2 D o b (2 * y + 0) (2 * x + 0)) (show (b.val * 14 + y.val / 8) / 14 = b.val by omega)
      (show 8 * ((b.val * 14 + y.val / 8) % 14) + y.val % 8 = y.val by omega)))

theorem val3_9 (b : Fin 4) (y x : Fin 112) (o : Fin 4) (ho : o.val < 3) :
    (dat3 V c).arrAt 9 cfg3.N (ix4 b y x o) = ((Spec.out D b o (2 * y + 0) (2 * x + 1) : ℝ) : EReal) := by
  rw [array3_9]
  refine (spread_ix N_3 _ b y x o).trans (squashed h _ _ b y x o ho _ _ ?_)
  refine (blk3_1 _ _ x o).trans ((h.p01 _ _ x o ho).trans
    (at_pixel (fun b y x => h2 D o b (2 * y + 0) (2 * x + 1)) (show (b.val * 14 + y.val / 8) / 14 = b.val by omega)
      (show 8 * ((b.val * 14 + y.val / 8) % 14) + y.val % 8 = y.val by omega)))

theorem val3_10 (b : Fin 4) (y x : Fin 112) (o : Fin 4) (ho : o.val < 3) :
    (dat3 V c).arrAt 10 cfg3.N (ix4 b y x o) = ((Spec.out D b o (2 * y + 1) (2 * x + 0) : ℝ) : EReal) := by
  rw [array3_10]
  refine (spread_ix N_3 _ b y x o).trans (squashed h _ _ b y x o ho _ _ ?_)
  refine (blk3_2 _ _ x o).trans ((h.p10 _ _ x o ho).trans
    (at_pixel (fun b y x => h2 D o b (2 * y + 1) (2 * x + 0)) (show (b.val * 14 + y.val / 8) / 14 = b.val by omega)
      (show 8 * ((b.val * 14 + y.val / 8) % 14) + y.val % 8 = y.val by omega)))

theorem val3_11 (b : Fin 4) (y x : Fin 112) (o : Fin 4) (ho : o.val < 3) :
    (dat3 V c).arrAt 11 cfg3.N (ix4 b y x o) = ((Spec.out D b o (2 * y + 1) (2 * x + 1) : ℝ) : EReal) := by
  rw [array3_11]
  refine (spread_ix N_3 _ b y x o).trans (squashed h _ _ b y x o ho _ _ ?_)
  refine (blk3_3 _ _ x o).trans ((h.p11 _ _ x o ho).trans
    (at_pixel (fun b y x => h2 D o b (2 * y + 1) (2 * x + 1)) (show (b.val * 14 + y.val / 8) / 14 = b.val by omega)
      (show 8 * ((b.val * 14 + y.val / 8) % 14) + y.val % 8 = y.val by omega)))

end Cert.KerVal
-- ==== Proof.KerEnd.lean ====
/-
  From the codewords to the image: the second convolution and its normalisation, run after the search.
-/
module

public import proofs.«01_k».proof.Proof.KerPrep
public import proofs.«01_k».proof.Proof.KerHost2
public import proofs.«01_k».proof.Proof.KerVal4

@[expose] public section

noncomputable section

open Idealize.ShloMosaic Idealize.ShloMosaic.TcCoe Idealize.SL.Sem Idealize.ShloMosaic.StableHlo
open Cert.KernelIdeal Cert.KernelIdeal.Gen Cert.Spec

namespace Cert.KerVal

variable {D : Args} {m : (ℓ : Loc nD τ sig) → Buf (Elt Ideal) ℓ} (ρ : Dev nD → PrngReg) {c : Dev nD}

/-- What stands at the first kernel's entry and is not written by the first two kernels is still there at the third's entry. -/
theorem keep14 (r : Ref sig .tc) (h2 : r ∉ hostOps2_W) (h13 : W13 m ρ c (Proc.devRef .tc r) = V12 m ρ c r) (h12 : W12 m ρ c (Proc.devRef .tc r) = V11 m ρ c r) :
    V14 m ρ c r = V11 m ρ c r :=
  (W14_of m ρ c r h2).trans (h13.trans h12)

variable (h : Given D m c)
include h

/-- The second convolution's weights, padded to four channels. -/
theorem wts_v10 (d : Fin 64) (u v : Fin 3) (o : Fin 4) (ho : o.val < 3) :
    W6 m ρ c (Proc.devRef .tc main_v10) (ix4 d u v o) = ((D.w2 o d u v : ℝ) : EReal) :=
  host_v10 (W5 m ρ c) (fun o d u v => D.w2 o d u v)
    (fun d u v o => host_v9 (W4 m ρ c) (fun o d u v => D.w2 o d u v)
      (fun o d u v => (congrFun (W4_args m ρ c main_arg6 (by decide)) _).trans (h.w2 o d u v)) d u v o) d u v o ho

theorem prep2 : Prep2 D (V14 m ρ) c where
  q := val_v192 ρ h
  w p q a e d o ho :=
    (congrFun ((keep14 ρ main_v179 (by decide) (W13_of m ρ c main_v179 (by decide)) (W12_of m ρ c main_v179 (by decide))).trans
      (keep7 ρ main_v179 (by decide) (by decide) (by decide) (by decide))) _).trans
      (host_v179 (W6 m ρ c) (D.w2 o d) d o (fun u v => wts_v10 ρ h d u v o ho) p q a e)

theorem prep3 : Prep3 D (V15 m ρ) c where
  p00 b y x o ho := (congrFun (W15_arr m ρ c 4) _).trans (val2_4 (prep2 ρ h) o ho b y x)
  p01 b y x o ho := (congrFun (W15_arr m ρ c 5) _).trans (val2_5 (prep2 ρ h) o ho b y x)
  p10 b y x o ho := (congrFun (W15_arr m ρ c 6) _).trans (val2_6 (prep2 ρ h) o ho b y x)
  p11 b y x o ho := (congrFun (W15_arr m ρ c 7) _).trans (val2_7 (prep2 ρ h) o ho b y x)
  s1 o ho := (congrFun (W15_arr m ρ c 8) _).trans (val2_8 (prep2 ρ h) o ho)
  s2 o ho := (congrFun (W15_arr m ρ c 9) _).trans (val2_9 (prep2 ρ h) o ho)
  g o ho := (congrFun ((W15_of m ρ c main_v184 (by decide)).trans <|
      (keep14 ρ main_v184 (by decide) (W13_of m ρ c main_v184 (by decide)) (W12_of m ρ c main_v184 (by decide))).trans <|
      (W11_of m ρ c main_v184 (by decide)).trans (W10_of m ρ c main_v184 (by decide))) _).trans <|
    (host_v184 (W8 m ρ c) o).trans <|
    host_v183 (W7 m ρ c) D.g2 (fun o => (congrFun (W7_args m ρ c main_arg8 (by decide)) _).trans (h.g2 o)) o ho
  b o ho := (congrFun ((W15_of m ρ c main_v186 (by decide)).trans <|
      keep14 ρ main_v186 (by decide) (W13_of m ρ c main_v186 (by decide)) (W12_of m ρ c main_v186 (by decide))) _).trans <|
    (host_v186 (W10 m ρ c) o).trans <|
    host_v185 (W9 m ρ c) D.b2 (fun o => (congrFun (W9_args m ρ c main_arg9 (by decide)) _).trans (h.b2 o)) o ho

/-- The image at the end of the run. -/
theorem end_v203 (b : Fin 4) (o : Fin 3) (y x : Fin 224) :
    W17 m ρ c (Proc.devRef .tc main_v203) (ix4 b o y x) = ((Spec.out D b o y x : ℝ) : EReal) :=
  host_v203 (W16 m ρ c) (Spec.out D)
    (fun b y x o ho => (congrFun (W16_arr m ρ c 8) _).trans (val3_8 (prep3 ρ h) b y x o ho))
    (fun b y x o ho => (congrFun (W16_arr m ρ c 9) _).trans (val3_9 (prep3 ρ h) b y x o ho))
    (fun b y x o ho => (congrFun (W16_arr m ρ c 10) _).trans (val3_10 (prep3 ρ h) b y x o ho))
    (fun b y x o ho => (congrFun (W16_arr m ρ c 11) _).trans (val3_11 (prep3 ρ h) b y x o ho)) b o y x

end Cert.KerVal
-- ==== Proof.RefFrame.lean ====
/- The reference leaves its arguments as it found them, and it has no semaphore. -/
module

public import proofs.«01_k».proof.Proof.RefRun
public import Idealize.ShloMosaic.Lib.Quiescent

@[expose] public section

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

theorem keep_arg {r : Ref sig .tc} (h : Keeps r) (c : Dev nD) {b : Buf (Elt F) ((c.tc : Thread nD τ).loc r)}
    (e : b = after ops (launchContents m c) (Proc.devRef .tc r)) : b = m ((c.tc : Thread nD τ).loc r) :=
  e.trans (ops_keep h _)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r h => ⟨fun c =>
    ⟨keep_arg m (by decide) c (h c main_arg0), keep_arg m (by decide) c (h c main_arg1), keep_arg m (by decide) c (h c main_arg2),
     keep_arg m (by decide) c (h c main_arg3), keep_arg m (by decide) c (h c main_arg4), keep_arg m (by decide) c (h c main_arg5),
     keep_arg m (by decide) c (h c main_arg6), keep_arg m (by decide) c (h c main_arg7), keep_arg m (by decide) c (h c main_arg8),
     keep_arg m (by decide) c (h c main_arg9)⟩, sem_eq_zero_of_no_sems (by decide) r.2⟩) (run m ρ)

end Cert.RefRun

end
-- ==== Proof.Ends.lean ====
/-
  The two runs, with what they leave: the results, and the arguments as they were.
-/
module

public import proofs.«01_k».proof.Proof.Link
public import proofs.«01_k».proof.Proof.KerRun
public import proofs.«01_k».proof.Proof.KerEnd
public import proofs.«01_k».proof.Proof.RefFrame

@[expose] public section

noncomputable section

open Idealize.ShloMosaic Idealize.ShloMosaic.TcCoe Idealize.SL.Sem Idealize.ShloMosaic.StableHlo
open Cert.Spec

namespace Cert.Ends

/-- The indices of the codewords. -/
def indices (D : Args) : (⟨3, ![4, 112, 112]⟩ : Shape).Idx → BitVec 32 := fun i => BitVec.ofNat 32 (near D ((i 0).val * 12544 + (i 1).val * 112 + (i 2).val))

/-- The loss. -/
def lossOf (D : Args) : (⟨0, ![]⟩ : Shape).Idx → EReal := fun _ => ((loss D : ℝ) : EReal)

/-- The image. -/
def image (D : Args) : (⟨4, ![4, 3, 224, 224]⟩ : Shape).Idx → EReal := fun i => ((out D (i 0).val (i 1).val (i 2).val (i 3).val : ℝ) : EReal)

theorem indices_eq (D : Args) (f : (⟨3, ![4, 112, 112]⟩ : Shape).Idx → BitVec 32)
    (h : ∀ (b : Fin 4) (y x : Fin 112), f (ix3 b y x) = BitVec.ofNat 32 (near D (b.val * 12544 + y.val * 112 + x.val))) : f = indices D :=
  funext fun i => (congrArg f (eq_ix3 i)).trans (h (i 0) (i 1) (i 2))

theorem loss_eq (D : Args) (f : (⟨0, ![]⟩ : Shape).Idx → EReal) (h : f ix0 = ((loss D : ℝ) : EReal)) : f = lossOf D :=
  funext fun i => (congrArg f (Subsingleton.elim i ix0)).trans h

theorem image_eq (D : Args) (f : (⟨4, ![4, 3, 224, 224]⟩ : Shape).Idx → EReal)
    (h : ∀ (b : Fin 4) (o : Fin 3) (y x : Fin 224), f (ix4 b o y x) = ((out D b o y x : ℝ) : EReal)) : f = image D :=
  funext fun i => (congrArg f (eq_ix4 i)).trans (h (i 0) (i 1) (i 2) (i 3))

section
open Cert.KernelIdeal Cert.KernelIdeal.Gen
variable (m : (ℓ : Loc nD τ sig) → Buf (Elt Ideal) ℓ) (ρ : Dev nD → PrngReg)

theorem ker (D : Dev nD → Args) (hD : ∀ c, Cert.KerVal.Given (D c) m c) :
    θ_run (defs (F := Ideal)) (onTc (τ := τ) (main (F := Ideal))) ⟨m, fun _ => 0, ρ⟩ (fun r => ∀ c : Dev nD,
      r.2.mem ((c.tc : Thread nD τ).loc main_v203) = image (D c)
      ∧ r.2.mem ((c.tc : Thread nD τ).loc main_v189) = indices (D c)
      ∧ r.2.mem ((c.tc : Thread nD τ).loc main_v191) = lossOf (D c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_v203 (by decide))).trans (image_eq (D c) _ (Cert.KerVal.end_v203 ρ (hD c))),
     (h c _ (mem_uc main_v189 (by decide))).trans (indices_eq (D c) _ (Cert.KerVal.end_v189 ρ (hD c))),
     (h c _ (mem_uc main_v191 (by decide))).trans (loss_eq (D c) _ (Cert.KerVal.end_v191 ρ (hD c))),
     (h c _ (mem_uc main_arg0 (by decide))).trans (W17_main_arg0 m ρ c), (h c _ (mem_uc main_arg1 (by decide))).trans (W17_main_arg1 m ρ c),
     (h c _ (mem_uc main_arg2 (by decide))).trans (W17_main_arg2 m ρ c), (h c _ (mem_uc main_arg3 (by decide))).trans (W17_main_arg3 m ρ c),
     (h c _ (mem_uc main_arg4 (by decide))).trans (W17_main_arg4 m ρ c), (h c _ (mem_uc main_arg5 (by decide))).trans (W17_main_arg5 m ρ c),
     (h c _ (mem_uc main_arg6 (by decide))).trans (W17_main_arg6 m ρ c), (h c _ (mem_uc main_arg7 (by decide))).trans (W17_main_arg7 m ρ c),
     (h c _ (mem_uc main_arg8 (by decide))).trans (W17_main_arg8 m ρ c), (h c _ (mem_uc main_arg9 (by decide))).trans (W17_main_arg9 m ρ c)⟩)
    (Cert.KerRun.run m ρ)

end

section
open Cert.ReferenceIdeal Cert.ReferenceIdeal.Gen
variable (m : (ℓ : Loc nD τ sig) → Buf (Elt Ideal) ℓ) (ρ : Dev nD → PrngReg)

theorem ref (D : Dev nD → Args) (hD : ∀ c, Cert.RefVal.Holds (D c) (launchContents m c)) :
    θ_run (defs (F := Ideal)) (onTc (τ := τ) (main (F := Ideal))) ⟨m, fun _ => 0, ρ⟩ (fun r => ∀ c : Dev nD,
      r.2.mem ((c.tc : Thread nD τ).loc main_v188) = image (D c)
      ∧ r.2.mem ((c.tc : Thread nD τ).loc main_v189) = indices (D c)
      ∧ r.2.mem ((c.tc : Thread nD τ).loc main_v102) = lossOf (D c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    have e := Cert.RefVal.after_ops (launchContents m c)
    ⟨(h c main_v188).trans ((congrFun e _).trans (image_eq (D c) _ (Cert.RefVal.st15_v188 (D c) _ (hD c)))),
     (h c main_v189).trans ((congrFun e _).trans (indices_eq (D c) _ (Cert.RefVal.st15_v189 (D c) _ (hD c)))),
     (h c main_v102).trans ((congrFun e _).trans (loss_eq (D c) _ (Cert.RefVal.st15_v102 (D c) _ (hD c)))),
     Cert.RefRun.keep_arg m (by decide) c (h c main_arg0), Cert.RefRun.keep_arg m (by decide) c (h c main_arg1),
     Cert.RefRun.keep_arg m (by decide) c (h c main_arg2), Cert.RefRun.keep_arg m (by decide) c (h c main_arg3),
     Cert.RefRun.keep_arg m (by decide) c (h c main_arg4), Cert.RefRun.keep_arg m (by decide) c (h c main_arg5),
     Cert.RefRun.keep_arg m (by decide) c (h c main_arg6), Cert.RefRun.keep_arg m (by decide) c (h c main_arg7),
     Cert.RefRun.keep_arg m (by decide) c (h c main_arg8), Cert.RefRun.keep_arg m (by decide) c (h c main_arg9)⟩) (Cert.RefRun.run m ρ)

end

end Cert.Ends
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Ends
public import Idealize.ShloMosaic.Adequacy
public import Idealize.ShloMosaic.Init

@[expose] public section

noncomputable section

namespace Cert.Proof

open Idealize.ShloMosaic Idealize.SL.Sem Cert.Kernel

attribute [local instance] Cert.Link.pre_facts

/-- The real numbers of the kernel's arguments. -/
abbrev reals (m : (ℓ : Loc Cert.KernelIdeal.nD Cert.KernelIdeal.τ Cert.KernelIdeal.sig) → Buf (Elt Ideal) ℓ) (c : Dev Cert.KernelIdeal.nD) : Cert.Spec.Args :=
  (Cert.Link.inputs m c).args

set_option maxHeartbeats 40000000 in
/-- The two programs return the same image, the same indices and the same loss. -/
theorem values : Cert.algebraic_KernelIdeal_ReferenceIdeal_pre_finite
    (hKernelIdeal := Cert.KernelIdeal.Gen.facts) (hReferenceIdeal := Cert.ReferenceIdeal.Gen.facts) := by
  intro m g m' g' hp he
  have hf : ∀ c, (Cert.Link.inputs m c).Finite := fun c => by
    obtain ⟨p0, p1, p2, p3, p4, p5, p6, p7, p8, p9⟩ := hp c
    exact Cert.Link.finite (Cert.Link.inputs m c) p0 p1 p2 p3 p4 p5 p6 p7 p8 p9
  have hk := Cert.Ends.ker m g (reals m) fun c => Cert.Link.given m c (hf c)
  have hr := Cert.Ends.ref m' g' (reals m) fun c => by
    obtain ⟨e0, e1, e2, e3, e4, e5, e6, e7, e8, e9⟩ := he c
    exact Cert.Link.holds (Cert.Link.inputs m c) (hf c) m' c e0 e1 e2 e3 e4 e5 e6 e7 e8 e9
  refine ⟨fun c => Cert.Ends.image (reals m c), fun c => Cert.Ends.indices (reals m c), fun c => Cert.Ends.lossOf (reals m c), ?_, ?_⟩
  · refine (θ_run (Cert.KernelIdeal.defs (F := Ideal)) _ _).mono (fun r h c => ?_) hk
    exact h c
  · refine (θ_run (Cert.ReferenceIdeal.defs (F := Ideal)) _ _).mono (fun r h c => ?_) hr
    exact h c

theorem claim : Cert.Claim :=
  ⟨Cert.Kernel.Gen.facts, Cert.KernelIdeal.Gen.facts, Cert.ReferenceIdeal.Gen.facts, Cert.Link.pre_facts,
    fun m ρ _ => Cert.Kernel.Gen.frame m ρ, fun m ρ _ => Cert.KernelIdeal.Gen.frame m ρ, fun m ρ _ => Cert.KernelIdeal.Gen.frame m ρ,
    fun m ρ _ => Cert.RefRun.frame m ρ, fun m ρ _ => Cert.RefRun.frame m ρ, trivial, values⟩

end Cert.Proof

end
